-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_playable [hPre_playable : Cert.Pre_playable.Facts] (m : (ℓ : Loc Cert.KernelIdeal.nD Cert.KernelIdeal.τ Cert.KernelIdeal.sig) → Buf (Elt Ideal) ℓ) : Prop :=
  ∀ c : Dev Cert.KernelIdeal.nD,
    (Cert.Pre_playable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_playable [hPre_playable : Cert.Pre_playable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_playable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_playable [hKernelIdeal : Cert.KernelIdeal.Facts] [hPre_playable : Cert.Pre_playable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_playable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_playable [hReferenceIdeal : Cert.ReferenceIdeal.Facts] [hPre_playable : Cert.Pre_playable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_playable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_playable [hKernelIdeal : Cert.KernelIdeal.Facts] [hReferenceIdeal : Cert.ReferenceIdeal.Facts] [hPre_playable : Cert.Pre_playable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_playable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_playable : Cert.Pre_playable.Facts),
    quiescent_Kernel (hKernel := hKernel)
    ∧ quiescent_KernelIdeal (hKernelIdeal := hKernelIdeal)
    ∧ quiescent_KernelIdeal_pre_playable (hKernelIdeal := hKernelIdeal) (hPre_playable := hPre_playable)
    ∧ quiescent_ReferenceIdeal (hReferenceIdeal := hReferenceIdeal)
    ∧ quiescent_ReferenceIdeal_pre_playable (hReferenceIdeal := hReferenceIdeal) (hPre_playable := hPre_playable)
    ∧ preserves_Kernel_KernelIdeal
    ∧ algebraic_KernelIdeal_ReferenceIdeal_pre_playable (hKernelIdeal := hKernelIdeal) (hReferenceIdeal := hReferenceIdeal) (hPre_playable := hPre_playable)
-- ==== Pre_playable.lean ====
abbrev S64x100000 : Shape := ⟨2, ![64, 100000]⟩
abbrev S100000x3 : Shape := ⟨2, ![100000, 3]⟩
abbrev S100000 : Shape := ⟨1, ![100000]⟩
abbrev S_ : Shape := ⟨0, ![]⟩
abbrev S64 : Shape := ⟨1, ![64]⟩
abbrev S64x1 : Shape := ⟨2, ![64, 1]⟩
abbrev S64x2 : Shape := ⟨2, ![64, 2]⟩
abbrev S1 : Shape := ⟨1, ![1]⟩
abbrev S1x1 : Shape := ⟨2, ![1, 1]⟩
abbrev S64x3 : Shape := ⟨2, ![64, 3]⟩
abbrev S1x100000x3 : Shape := ⟨3, ![1, 100000, 3]⟩
abbrev S64x1x3 : Shape := ⟨3, ![64, 1, 3]⟩
abbrev S64x100000x3 : Shape := ⟨3, ![64, 100000, 3]⟩

class Facts : Prop where
  bcast_S_S64x100000 : S_.BroadcastsInDim S64x100000 (![] : Fin 0 → Fin S64x100000.rank)
  reducesTo_S64x100000_S_d0_1 : S64x100000.ReducesTo [0, 1] S_
  h_S_ : 0 < S_.numel
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  bcast_S100000_S64x100000_1 : S100000.BroadcastsInDim S64x100000 (![1] : Fin 1 → Fin S64x100000.rank)
  bcast_S64_S64x1_0 : S64.BroadcastsInDim S64x1 (![0] : Fin 1 → Fin S64x1.rank)
  concatenates_S64x1_S64x1_S64x2_d1 : Shape.Concatenates [S64x1, S64x1] S64x2 1
  reducesTo_S64x100000_S64_d1 : S64x100000.ReducesTo [1] S64
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  bcast_S64_S64x3_0 : S64.BroadcastsInDim S64x3 (![0] : Fin 1 → Fin S64x3.rank)
  bcast_S_S64x3 : S_.BroadcastsInDim S64x3 (![] : Fin 0 → Fin S64x3.rank)
  bcast_S100000x3_S1x100000x3_1_2 : S100000x3.BroadcastsInDim S1x100000x3 (![1, 2] : Fin 2 → Fin S1x100000x3.rank)
  bcast_S64x3_S64x1x3_0_2 : S64x3.BroadcastsInDim S64x1x3 (![0, 2] : Fin 2 → Fin S64x1x3.rank)
  bcast_S1x100000x3_S64x100000x3_0_1_2 : S1x100000x3.BroadcastsInDim S64x100000x3 (![0, 1, 2] : Fin 3 → Fin S64x100000x3.rank)
  bcast_S64x1x3_S64x100000x3_0_1_2 : S64x1x3.BroadcastsInDim S64x100000x3 (![0, 1, 2] : Fin 3 → Fin S64x100000x3.rank)
  reducesTo_S64x100000x3_S64x100000_d2 : S64x100000x3.ReducesTo [2] S64x100000
  bcast_S64x1_S64x100000_0_1 : S64x1.BroadcastsInDim S64x100000 (![0, 1] : Fin 2 → Fin S64x100000.rank)
  natLt_1_32 : 1 < 32
  scatter_S64x100000_S64x2_S64_n_01_01_1_wf : ScatterDims.WF S64x100000 S64x2 S64 [] [0, 1] [0, 1] 1
  gather_S100000x3_S64x1_S64x3_1_0_n_n_0_1_13_wf : GatherDims.WF S100000x3 S64x1 S64x3 [1] [0] [] [0] [] 1 ![1, 3]

variable [Facts]

def scatter_S64x100000_S64x2_S64_n_01_01_1 : ScatterDims S64x100000 S64x2 S64 where
  updateWindowDims := []
  insertedWindowDims := [0, 1]
  scatterDimsToOperandDims := [0, 1]
  indexVectorDim := 1
  wf := scatter_S64x100000_S64x2_S64_n_01_01_1_wf
def gather_S100000x3_S64x1_S64x3_1_0_n_n_0_1_13 : GatherDims S100000x3 S64x1 S64x3 where
  offsetDims := [1]
  collapsedSliceDims := [0]
  operandBatchingDims := []
  startIndicesBatchingDims := []
  startIndexMap := [0]
  indexVectorDim := 1
  sliceSizes := ![1, 3]
  wf := gather_S100000x3_S64x1_S64x3_1_0_n_n_0_1_13_wf
def fn_where {F : FTy → Type} [FloatOps F] (arg0 : IVec S64 1) (arg1 : IVec S64 32) (arg2 : IVec S64 32) : IVec S64 32 :=
  let v0 : IVec S64 32 := select arg0 arg1 arg2
  v0

def fn_take {F : FTy → Type} [FloatOps F] (arg0 : FVec F S100000x3 .f32) (arg1 : IVec S64 32) : FVec F S64x3 .f32 :=
  let c : IVec S_ 32 := constantI S_ 32 0#32
  let v0 : IVec S64 32 := broadcastInDim S64 ![] bcast_S_S64 c
  let v1 : IVec S64 1 := cmpi .slt arg1 v0
  let c_0 : IVec S_ 32 := constantI S_ 32 100000#32
  let v2 : IVec S64 32 := broadcastInDim S64 ![] bcast_S_S64 c_0
  let v3 : IVec S64 32 := addi arg1 v2
  let v4 : IVec S64 32 := fn_where (F := F) v1 v3 arg1
  let v5 : IVec S64x1 32 := broadcastInDim S64x1 ![0] bcast_S64_S64x1_0 v4
  let c_1 : IVec S1 32 := constantI S1 32 99999#32
  let c_2 : IVec S_ 32 := constantI S_ 32 0#32
  let v6 : IVec S64x1 32 := broadcastInDim S64x1 ![] bcast_S_S64x1 c_2
  let v7 : IVec S64x1 1 := cmpi .sge v5 v6
  let v8 : IVec S1x1 32 := broadcastInDim S1x1 ![1] bcast_S1_S1x1_1 c_1
  let v9 : IVec S64x1 32 := broadcastInDim S64x1 ![0, 1] bcast_S1x1_S64x1_0_1 v8
  let v10 : IVec S64x1 1 := cmpi .sle v5 v9
  let v11 : IVec S64x1 1 := andi v7 v10
  let c_3 : IVec S_ 1 := constantI S_ 1 1#1
  let v12 : IVec S64 1 := (fun x v => Host.reduce IntOp.andi x v reducesTo_S64x1_S64_d1 h_S_) v11 c_3
  let v13 : FVec F S64x3 .f32 := (fun x i => Host.gather gather_S100000x3_S64x1_S64x3_1_0_n_n_0_1_13 x i) arg0 v5
  let v14 : IVec S64x3 1 := broadcastInDim S64x3 ![0] bcast_S64_S64x3_0 v12
  let cst : FVec F S_ .f32 := constant S_ .f32 0x7FC00000#32
  let v15 : FVec F S64x3 .f32 := broadcastInDim S64x3 ![] bcast_S_S64x3 cst
  let v16 : FVec F S64x3 .f32 := select v14 v13 v15
  v16

def fn_norm {F : FTy → Type} [FloatOps F] (arg0 : FVec F S64x100000x3 .f32) : FVec F S64x100000 .f32 :=
  let v0 : FVec F S64x100000x3 .f32 := mulf arg0 arg0
  let cst : FVec F S_ .f32 := constant S_ .f32 0x00000000#32
  let v1 : FVec F S64x100000 .f32 := (fun x v => Host.reduceAdd x v reducesTo_S64x100000x3_S64x100000_d2 h_S_) v0 cst
  let v2 : FVec F S64x100000 .f32 := Host.sqrt v1
  v2

def fn_where_0 {F : FTy → Type} [FloatOps F] (arg0 : IVec S64x100000 1) (arg1 : FVec F S_ .f32) (arg2 : FVec F S64x100000 .f32) : FVec F S64x100000 .f32 :=
  let v0 : FVec F S_ .f32 := id arg1
  let v1 : FVec F S64x100000 .f32 := broadcastInDim S64x100000 ![] bcast_S_S64x100000 v0
  let v2 : FVec F S64x100000 .f32 := select arg0 v1 arg2
  v2

def fn_where_1 {F : FTy → Type} [FloatOps F] (arg0 : IVec S64x100000 1) (arg1 : FVec F S64x100000 .f32) (arg2 : FVec F S_ .f32) : FVec F S64x100000 .f32 :=
  let v0 : FVec F S_ .f32 := id arg2
  let v1 : FVec F S64x100000 .f32 := broadcastInDim S64x100000 ![] bcast_S_S64x100000 v0
  let v2 : FVec F S64x100000 .f32 := select arg0 arg1 v1
  v2

def fn_where_2 {F : FTy → Type} [FloatOps F] (arg0 : IVec S64x1 1) (arg1 : FVec F S_ .f32) (arg2 : FVec F S64x100000 .f32) : FVec F S64x100000 .f32 :=
  let v0 : FVec F S_ .f32 := id arg1
  let v1 : IVec S64x100000 1 := broadcastInDim S64x100000 ![0, 1] bcast_S64x1_S64x100000_0_1 arg0
  let v2 : FVec F S64x100000 .f32 := broadcastInDim S64x100000 ![] bcast_S_S64x100000 v0
  let v3 : FVec F S64x100000 .f32 := select v1 v2 arg2
  v3

def fn_part6 {F : FTy → Type} [FloatOps F] (main_arg3 : FVec F S64x100000 .f32) (main_arg4 : FVec F S_ .f32) (main_v3 : IVec S_ 1) (main_v10 : IVec S_ 1) (main_v13 : IVec S_ 1) (main_v34 : IVec S_ 1) (main_v94 : FVec F S64x100000 .f32) (main_v103 : FVec F S64x100000 .f32) (main_v105 : FVec F S64x100000 .f32) : IVec S_ 1 :=
  let main_v106 : FVec F S64x100000 .f32 := mulf main_v105 main_v94
  let main_v107 : FVec F S64x100000 .f32 := broadcastInDim S64x100000 ![] bcast_S_S64x100000 main_arg4
  let main_v108 : FVec F S64x100000 .f32 := mulf main_v107 main_v103
  let main_v109 : FVec F S64x100000 .f32 := addf main_v106 main_v108
  let main_cst_36 : FVec F S_ .f32 := constant S_ .f32 0x2B8CBCCC#32
  let main_v110 : FVec F S64x100000 .f32 := broadcastInDim S64x100000 ![] bcast_S_S64x100000 main_cst_36
  let main_v111 : FVec F S64x100000 .f32 := addf main_v109 main_v110
  let main_v112 : FVec F S64x100000 .f32 := Host.log main_v111
  let main_v113 : FVec F S64x100000 .f32 := addf main_v112 main_arg3
  let main_cst_37 : FVec F S_ .f32 := constant S_ .f32 0xFF800000#32
  let main_v114 : FVec F S64 .f32 := (fun x v => Host.reduce FloatOps.maximumf x v reducesTo_S64x100000_S64_d1 h_S_) main_v113 main_cst_37
  let main_cst_38 : FVec F S_ .f32 := constant S_ .f32 0x2B8CBCCC#32
  let main_v115 : FVec F S_ .f32 := Host.log main_cst_38
  let main_cst_39 : FVec F S_ .f32 := constant S_ .f32 0x41600000#32
  let main_v116 : FVec F S_ .f32 := addf main_v115 main_cst_39
  let main_v117 : FVec F S64 .f32 := broadcastInDim S64 ![] bcast_S_S64 main_v116
  let main_v118 : IVec S64 1 := cmpf .oge main_v114 main_v117
  let main_c_40 : IVec S_ 1 := constantI S_ 1 1#1
  let main_v119 : IVec S_ 1 := (fun x v => Host.reduce IntOp.andi x v reducesTo_S64_S_d0 h_S_) main_v118 main_c_40
  let main_v120 : IVec S_ 1 := andi main_v3 main_v10
  let main_v121 : IVec S_ 1 := andi main_v120 main_v13
  let main_v122 : IVec S_ 1 := andi main_v121 main_v34
  let main_v123 : IVec S_ 1 := andi main_v122 main_v119
  main_v123

def fn_part5 {F : FTy → Type} [FloatOps F] (main_arg3 : FVec F S64x100000 .f32) (main_arg4 : FVec F S_ .f32) (main_v3 : IVec S_ 1) (main_v10 : IVec S_ 1) (main_v13 : IVec S_ 1) (main_v34 : IVec S_ 1) (main_v53 : IVec S64x100000 1) (main_v83 : FVec F S64x100000 .f32) (main_v84 : FVec F S64 .f32) (main_v85 : FVec F S64 .f32) : IVec S_ 1 :=
  let main_v86 : FVec F S64 .f32 := maximumf main_v85 main_v84
  let main_v87 : FVec F S64x1 .f32 := broadcastInDim S64x1 ![0] bcast_S64_S64x1_0 main_v86
  let main_v88 : FVec F S64x100000 .f32 := broadcastInDim S64x100000 ![0, 1] bcast_S64x1_S64x100000_0_1 main_v87
  let main_v89 : FVec F S64x100000 .f32 := subf main_v83 main_v88
  let main_v90 : FVec F S64x100000 .f32 := Host.exp main_v89
  let main_cst_32 : FVec F S_ .f32 := constant S_ .f32 0x00000000#32
  let main_v91 : FVec F S64 .f32 := (fun x v => Host.reduceAdd x v reducesTo_S64x100000_S64_d1 h_S_) main_v90 main_cst_32
  let main_v92 : FVec F S64x1 .f32 := broadcastInDim S64x1 ![0] bcast_S64_S64x1_0 main_v91
  let main_v93 : FVec F S64x100000 .f32 := broadcastInDim S64x100000 ![0, 1] bcast_S64x1_S64x100000_0_1 main_v92
  let main_v94 : FVec F S64x100000 .f32 := Host.divf main_v90 main_v93
  let main_v95 : IVec S64x100000 32 := (extui 32 · natLt_1_32) main_v53
  let main_c_33 : IVec S_ 32 := constantI S_ 32 0#32
  let main_v96 : IVec S64 32 := (fun x v => Host.reduce IntOp.addi x v reducesTo_S64x100000_S64_d1 h_S_) main_v95 main_c_33
  let main_v97 : IVec S64x1 32 := broadcastInDim S64x1 ![0] bcast_S64_S64x1_0 main_v96
  let main_c_34 : IVec S_ 32 := constantI S_ 32 1#32
  let main_v98 : IVec S64x1 32 := broadcastInDim S64x1 ![] bcast_S_S64x1 main_c_34
  let main_v99 : IVec S64x1 32 := maxsi main_v97 main_v98
  let main_v100 : FVec F S64x100000 .f32 := uitofp .f32 main_v53
  let main_v101 : FVec F S64x1 .f32 := sitofp .f32 main_v99
  let main_v102 : FVec F S64x100000 .f32 := broadcastInDim S64x100000 ![0, 1] bcast_S64x1_S64x100000_0_1 main_v101
  let main_v103 : FVec F S64x100000 .f32 := Host.divf main_v100 main_v102
  let main_cst_35 : FVec F S_ .f32 := constant S_ .f32 0x3F800000#32
  let main_v104 : FVec F S_ .f32 := subf main_cst_35 main_arg4
  let main_v105 : FVec F S64x100000 .f32 := broadcastInDim S64x100000 ![] bcast_S_S64x100000 main_v104
  fn_part6 (F := F) main_arg3 main_arg4 main_v3 main_v10 main_v13 main_v34 main_v94 main_v103 main_v105

def fn_part4 {F : FTy → Type} [FloatOps F] (main_arg0 : FVec F S64x100000 .f32) (main_arg3 : FVec F S64x100000 .f32) (main_arg4 : FVec F S_ .f32) (main_v3 : IVec S_ 1) (main_v10 : IVec S_ 1) (main_v13 : IVec S_ 1) (main_v34 : IVec S_ 1) (main_v53 : IVec S64x100000 1) (main_v69 : FVec F S64x100000 .f32) : IVec S_ 1 :=
  let main_cst_24 : FVec F S_ .f32 := constant S_ .f32 0x00000000#32
  let main_v70 : FVec F S64 .f32 := (fun x v => Host.reduceAdd x v reducesTo_S64x100000_S64_d1 h_S_) main_v69 main_cst_24
  let main_v71 : FVec F S64x1 .f32 := broadcastInDim S64x1 ![0] bcast_S64_S64x1_0 main_v70
  let main_cst_25 : FVec F S_ .f32 := constant S_ .f32 0x00000000#32
  let main_v72 : FVec F S64x1 .f32 := broadcastInDim S64x1 ![] bcast_S_S64x1 main_cst_25
  let main_v73 : IVec S64x1 1 := cmpf .oeq main_v71 main_v72
  let main_cst_26 : FVec F S_ .f32 := constant S_ .f32 0x3F800000#32
  let main_v74 : FVec F S64x100000 .f32 := fn_where_2 (F := F) main_v73 main_cst_26 main_v69
  let main_cst_27 : FVec F S_ .f32 := constant S_ .f32 0x00000000#32
  let main_v75 : FVec F S64 .f32 := (fun x v => Host.reduceAdd x v reducesTo_S64x100000_S64_d1 h_S_) main_v74 main_cst_27
  let main_v76 : FVec F S64x1 .f32 := broadcastInDim S64x1 ![0] bcast_S64_S64x1_0 main_v75
  let main_v77 : FVec F S64x100000 .f32 := broadcastInDim S64x100000 ![0, 1] bcast_S64x1_S64x100000_0_1 main_v76
  let main_v78 : FVec F S64x100000 .f32 := Host.divf main_v74 main_v77
  let main_cst_28 : FVec F S_ .f32 := constant S_ .f32 0x2B8CBCCC#32
  let main_v79 : FVec F S64x100000 .f32 := broadcastInDim S64x100000 ![] bcast_S_S64x100000 main_cst_28
  let main_v80 : FVec F S64x100000 .f32 := addf main_v78 main_v79
  let main_v81 : FVec F S64x100000 .f32 := Host.log main_v80
  let main_v82 : FVec F S64x100000 .f32 := addf main_arg0 main_v81
  let main_cst_29 : FVec F S_ .f32 := constant S_ .f32 0xFF800000#32
  let main_v83 : FVec F S64x100000 .f32 := fn_where_1 (F := F) main_v53 main_v82 main_cst_29
  let main_cst_30 : FVec F S_ .f32 := constant S_ .f32 0xFF800000#32
  let main_v84 : FVec F S64 .f32 := (fun x v => Host.reduce FloatOps.maximumf x v reducesTo_S64x100000_S64_d1 h_S_) main_v83 main_cst_30
  let main_cst_31 : FVec F S_ .f32 := constant S_ .f32 0xFF800000#32
  let main_v85 : FVec F S64 .f32 := broadcastInDim S64 ![] bcast_S_S64 main_cst_31
  fn_part5 (F := F) main_arg3 main_arg4 main_v3 main_v10 main_v13 main_v34 main_v53 main_v83 main_v84 main_v85

def fn_part3 {F : FTy → Type} [FloatOps F] (main_arg0 : FVec F S64x100000 .f32) (main_arg1 : FVec F S100000x3 .f32) (main_arg3 : FVec F S64x100000 .f32) (main_arg4 : FVec F S_ .f32) (main_arg5 : IVec S64 32) (main_v3 : IVec S_ 1) (main_v10 : IVec S_ 1) (main_v13 : IVec S_ 1) (main_v34 : IVec S_ 1) (main_v37 : IVec S64x100000 1) (main_v49 : IVec S64x1 32) (main_v50 : IVec S64x1 32) : IVec S_ 1 :=
  let main_v51 : IVec S64x2 32 := (fun a b => concatenate S64x2 1 [⟨S64x1, a⟩, ⟨S64x1, b⟩] concatenates_S64x1_S64x1_S64x2_d1) main_v49 main_v50
  let main_c_19 : IVec S_ 1 := constantI S_ 1 0#1
  let main_v52 : IVec S64 1 := broadcastInDim S64 ![] bcast_S_S64 main_c_19
  let main_v53 : IVec S64x100000 1 := (fun x i u => Host.scatter scatter_S64x100000_S64x2_S64_n_01_01_1 (fun _ b => b) x i u) main_v37 main_v51 main_v52
  let main_v54 : FVec F S64x3 .f32 := fn_take (F := F) main_arg1 main_arg5
  let main_v55 : FVec F S1x100000x3 .f32 := broadcastInDim S1x100000x3 ![1, 2] bcast_S100000x3_S1x100000x3_1_2 main_arg1
  let main_v56 : FVec F S64x1x3 .f32 := broadcastInDim S64x1x3 ![0, 2] bcast_S64x3_S64x1x3_0_2 main_v54
  let main_v57 : FVec F S64x100000x3 .f32 := broadcastInDim S64x100000x3 ![0, 1, 2] bcast_S1x100000x3_S64x100000x3_0_1_2 main_v55
  let main_v58 : FVec F S64x100000x3 .f32 := broadcastInDim S64x100000x3 ![0, 1, 2] bcast_S64x1x3_S64x100000x3_0_1_2 main_v56
  let main_v59 : FVec F S64x100000x3 .f32 := subf main_v57 main_v58
  let main_v60 : FVec F S64x100000 .f32 := fn_norm (F := F) main_v59
  let main_cst_20 : FVec F S_ .f32 := constant S_ .f32 0x00000000#32
  let main_v61 : FVec F S64x100000 .f32 := broadcastInDim S64x100000 ![] bcast_S_S64x100000 main_cst_20
  let main_v62 : IVec S64x100000 1 := cmpf .oeq main_v60 main_v61
  let main_cst_21 : FVec F S_ .f32 := constant S_ .f32 0x3F800000#32
  let main_v63 : FVec F S64x100000 .f32 := fn_where_0 (F := F) main_v62 main_cst_21 main_v60
  let main_v64 : FVec F S64x100000 .f32 := mulf main_v63 main_v63
  let main_cst_22 : FVec F S_ .f32 := constant S_ .f32 0x3F800000#32
  let main_v65 : FVec F S64x100000 .f32 := broadcastInDim S64x100000 ![] bcast_S_S64x100000 main_cst_22
  let main_v66 : FVec F S64x100000 .f32 := Host.divf main_v65 main_v64
  let main_v67 : IVec S64x100000 1 := noti main_v62
  let main_v68 : IVec S64x100000 1 := andi main_v53 main_v67
  let main_cst_23 : FVec F S_ .f32 := constant S_ .f32 0x00000000#32
  let main_v69 : FVec F S64x100000 .f32 := fn_where_1 (F := F) main_v68 main_v66 main_cst_23
  fn_part4 (F := F) main_arg0 main_arg3 main_arg4 main_v3 main_v10 main_v13 main_v34 main_v53 main_v69

def fn_part2 {F : FTy → Type} [FloatOps F] (main_arg0 : FVec F S64x100000 .f32) (main_arg1 : FVec F S100000x3 .f32) (main_arg2 : FVec F S100000 .f32) (main_arg3 : FVec F S64x100000 .f32) (main_arg4 : FVec F S_ .f32) (main_arg5 : IVec S64 32) (main_v3 : IVec S_ 1) (main_v10 : IVec S_ 1) (main_v13 : IVec S_ 1) (main_v32 : IVec S64x100000 1) (main_c_12 : IVec S_ 1) : IVec S_ 1 :=
  let main_v33 : IVec S64 1 := (fun x v => Host.reduce IntOp.ori x v reducesTo_S64x100000_S64_d1 h_S_) main_v32 main_c_12
  let main_c_13 : IVec S_ 1 := constantI S_ 1 1#1
  let main_v34 : IVec S_ 1 := (fun x v => Host.reduce IntOp.andi x v reducesTo_S64_S_d0 h_S_) main_v33 main_c_13
  let main_cst_14 : FVec F S_ .f32 := constant S_ .f32 0x3D4CCCCD#32
  let main_v35 : FVec F S100000 .f32 := broadcastInDim S100000 ![] bcast_S_S100000 main_cst_14
  let main_v36 : IVec S100000 1 := cmpf .ogt main_arg2 main_v35
  let main_v37 : IVec S64x100000 1 := broadcastInDim S64x100000 ![1] bcast_S100000_S64x100000_1 main_v36
  let main_v38 : IVec S64 32 := iotaInDim S64 32 0
  let main_c_15 : IVec S_ 32 := constantI S_ 32 0#32
  let main_v39 : IVec S64 32 := broadcastInDim S64 ![] bcast_S_S64 main_c_15
  let main_v40 : IVec S64 1 := cmpi .slt main_v38 main_v39
  let main_c_16 : IVec S_ 32 := constantI S_ 32 64#32
  let main_v41 : IVec S64 32 := broadcastInDim S64 ![] bcast_S_S64 main_c_16
  let main_v42 : IVec S64 32 := addi main_v38 main_v41
  let main_v43 : IVec S64 32 := select main_v40 main_v42 main_v38
  let main_c_17 : IVec S_ 32 := constantI S_ 32 0#32
  let main_v44 : IVec S64 32 := broadcastInDim S64 ![] bcast_S_S64 main_c_17
  let main_v45 : IVec S64 1 := cmpi .slt main_arg5 main_v44
  let main_c_18 : IVec S_ 32 := constantI S_ 32 100000#32
  let main_v46 : IVec S64 32 := broadcastInDim S64 ![] bcast_S_S64 main_c_18
  let main_v47 : IVec S64 32 := addi main_arg5 main_v46
  let main_v48 : IVec S64 32 := select main_v45 main_v47 main_arg5
  let main_v49 : IVec S64x1 32 := broadcastInDim S64x1 ![0] bcast_S64_S64x1_0 main_v43
  let main_v50 : IVec S64x1 32 := broadcastInDim S64x1 ![0] bcast_S64_S64x1_0 main_v48
  fn_part3 (F := F) main_arg0 main_arg1 main_arg3 main_arg4 main_arg5 main_v3 main_v10 main_v13 main_v34 main_v37 main_v49 main_v50

def fn_part1 {F : FTy → Type} [FloatOps F] (main_arg0 : FVec F S64x100000 .f32) (main_arg1 : FVec F S100000x3 .f32) (main_arg2 : FVec F S100000 .f32) (main_arg3 : FVec F S64x100000 .f32) (main_arg4 : FVec F S_ .f32) (main_arg5 : IVec S64 32) (main_v3 : IVec S_ 1) (main_v10 : IVec S_ 1) (main_v13 : IVec S_ 1) (main_v14 : FVec F S100000 .f32) : IVec S_ 1 :=
  let main_v15 : IVec S100000 1 := cmpf .ogt main_arg2 main_v14
  let main_v16 : IVec S64x100000 1 := broadcastInDim S64x100000 ![1] bcast_S100000_S64x100000_1 main_v15
  let main_v17 : IVec S64 32 := iotaInDim S64 32 0
  let main_c_7 : IVec S_ 32 := constantI S_ 32 0#32
  let main_v18 : IVec S64 32 := broadcastInDim S64 ![] bcast_S_S64 main_c_7
  let main_v19 : IVec S64 1 := cmpi .slt main_v17 main_v18
  let main_c_8 : IVec S_ 32 := constantI S_ 32 64#32
  let main_v20 : IVec S64 32 := broadcastInDim S64 ![] bcast_S_S64 main_c_8
  let main_v21 : IVec S64 32 := addi main_v17 main_v20
  let main_v22 : IVec S64 32 := select main_v19 main_v21 main_v17
  let main_c_9 : IVec S_ 32 := constantI S_ 32 0#32
  let main_v23 : IVec S64 32 := broadcastInDim S64 ![] bcast_S_S64 main_c_9
  let main_v24 : IVec S64 1 := cmpi .slt main_arg5 main_v23
  let main_c_10 : IVec S_ 32 := constantI S_ 32 100000#32
  let main_v25 : IVec S64 32 := broadcastInDim S64 ![] bcast_S_S64 main_c_10
  let main_v26 : IVec S64 32 := addi main_arg5 main_v25
  let main_v27 : IVec S64 32 := select main_v24 main_v26 main_arg5
  let main_v28 : IVec S64x1 32 := broadcastInDim S64x1 ![0] bcast_S64_S64x1_0 main_v22
  let main_v29 : IVec S64x1 32 := broadcastInDim S64x1 ![0] bcast_S64_S64x1_0 main_v27
  let main_v30 : IVec S64x2 32 := (fun a b => concatenate S64x2 1 [⟨S64x1, a⟩, ⟨S64x1, b⟩] concatenates_S64x1_S64x1_S64x2_d1) main_v28 main_v29
  let main_c_11 : IVec S_ 1 := constantI S_ 1 0#1
  let main_v31 : IVec S64 1 := broadcastInDim S64 ![] bcast_S_S64 main_c_11
  let main_v32 : IVec S64x100000 1 := (fun x i u => Host.scatter scatter_S64x100000_S64x2_S64_n_01_01_1 (fun _ b => b) x i u) main_v16 main_v30 main_v31
  let main_c_12 : IVec S_ 1 := constantI S_ 1 0#1
  fn_part2 (F := F) main_arg0 main_arg1 main_arg2 main_arg3 main_arg4 main_arg5 main_v3 main_v10 main_v13 main_v32 main_c_12

def fn {F : FTy → Type} [FloatOps F] (main_arg0 : FVec F S64x100000 .f32) (main_arg1 : FVec F S100000x3 .f32) (main_arg2 : FVec F S100000 .f32) (main_arg3 : FVec F S64x100000 .f32) (main_arg4 : FVec F S_ .f32) (main_arg5 : IVec S64 32) : IVec S_ 1 :=
  let main_v0 : FVec F S64x100000 .f32 := Host.absf main_arg0
  let main_cst : FVec F S_ .f32 := constant S_ .f32 0x7F800000#32
  let main_v1 : FVec F S64x100000 .f32 := broadcastInDim S64x100000 ![] bcast_S_S64x100000 main_cst
  let main_v2 : IVec S64x100000 1 := cmpf .olt main_v0 main_v1
  let main_c : IVec S_ 1 := constantI S_ 1 1#1
  let main_v3 : IVec S_ 1 := (fun x v => Host.reduce IntOp.andi x v reducesTo_S64x100000_S_d0_1 h_S_) main_v2 main_c
  let main_c_0 : IVec S_ 32 := constantI S_ 32 0#32
  let main_v4 : IVec S64 32 := broadcastInDim S64 ![] bcast_S_S64 main_c_0
  let main_v5 : IVec S64 1 := cmpi .sge main_arg5 main_v4
  let main_c_1 : IVec S_ 1 := constantI S_ 1 1#1
  let main_v6 : IVec S_ 1 := (fun x v => Host.reduce IntOp.andi x v reducesTo_S64_S_d0 h_S_) main_v5 main_c_1
  let main_c_2 : IVec S_ 32 := constantI S_ 32 100000#32
  let main_v7 : IVec S64 32 := broadcastInDim S64 ![] bcast_S_S64 main_c_2
  let main_v8 : IVec S64 1 := cmpi .slt main_arg5 main_v7
  let main_c_3 : IVec S_ 1 := constantI S_ 1 1#1
  let main_v9 : IVec S_ 1 := (fun x v => Host.reduce IntOp.andi x v reducesTo_S64_S_d0 h_S_) main_v8 main_c_3
  let main_v10 : IVec S_ 1 := andi main_v6 main_v9
  let main_cst_4 : FVec F S_ .f32 := constant S_ .f32 0x41600000#32
  let main_v11 : FVec F S64x100000 .f32 := broadcastInDim S64x100000 ![] bcast_S_S64x100000 main_cst_4
  let main_v12 : IVec S64x100000 1 := cmpf .ole main_arg3 main_v11
  let main_c_5 : IVec S_ 1 := constantI S_ 1 1#1
  let main_v13 : IVec S_ 1 := (fun x v => Host.reduce IntOp.andi x v reducesTo_S64x100000_S_d0_1 h_S_) main_v12 main_c_5
  let main_cst_6 : FVec F S_ .f32 := constant S_ .f32 0x3D4CCCCD#32
  let main_v14 : FVec F S100000 .f32 := broadcastInDim S100000 ![] bcast_S_S100000 main_cst_6
  fn_part1 (F := F) main_arg0 main_arg1 main_arg2 main_arg3 main_arg4 main_arg5 main_v3 main_v10 main_v13 main_v14
-- ==== Kernel.lean ====
abbrev S64x100000 : Shape := ⟨2, ![64, 100000]⟩
abbrev S100000x3 : Shape := ⟨2, ![100000, 3]⟩
abbrev S100000 : Shape := ⟨1, ![100000]⟩
abbrev S_ : Shape := ⟨0, ![]⟩
abbrev S64 : Shape := ⟨1, ![64]⟩
abbrev S8x100352 : Shape := ⟨2, ![8, 100352]⟩
abbrev S3x100000 : Shape := ⟨2, ![3, 100000]⟩
abbrev S1 : Shape := ⟨1, ![1]⟩
abbrev S2 : Shape := ⟨1, ![2]⟩
abbrev S64x1 : Shape := ⟨2, ![64, 1]⟩
abbrev S1x1 : Shape := ⟨2, ![1, 1]⟩
abbrev S64x2048 : Shape := ⟨2, ![64, 2048]⟩
abbrev S8x2048 : Shape := ⟨2, ![8, 2048]⟩
abbrev S64x100352 : Shape := ⟨2, ![64, 100352]⟩
abbrev S1x2048 : Shape := ⟨2, ![1, 2048]⟩
abbrev S64x8 : Shape := ⟨2, ![64, 8]⟩

abbrev nBuf : Space → Nat
  | .hbm => 27
  | .vmem => 21
  | .smem => 0
  | _ => 0

abbrev bufTy : (tb : Table) → Fin (tcTables nBuf tb) → BufTy
  | .hbm, ⟨0, _⟩ => ⟨S64x100000, .f32⟩
  | .hbm, ⟨1, _⟩ => ⟨S100000x3, .f32⟩
  | .hbm, ⟨2, _⟩ => ⟨S100000, .f32⟩
  | .hbm, ⟨3, _⟩ => ⟨S64x100000, .f32⟩
  | .hbm, ⟨4, _⟩ => ⟨S_, .f32⟩
  | .hbm, ⟨5, _⟩ => ⟨S64, .i32⟩
  | .hbm, ⟨6, _⟩ => ⟨S_, .f32⟩
  | .hbm, ⟨7, _⟩ => ⟨S8x100352, .f32⟩
  | .hbm, ⟨8, _⟩ => ⟨S3x100000, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S8x100352, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S8x100352, .f32⟩
  | .hbm, ⟨21, _⟩ => ⟨S64x1, .i32⟩
  | .hbm, ⟨22, _⟩ => ⟨S1x1, .f32⟩
  | .hbm, ⟨23, _⟩ => ⟨S64x1, .i32⟩
  | .hbm, ⟨24, _⟩ => ⟨S64x1, .f32⟩
  | .hbm, ⟨25, _⟩ => ⟨S64, .i32⟩
  | .hbm, ⟨26, _⟩ => ⟨S64, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S8x2048, .f32⟩
  | .local _ .vmem, ⟨5, _⟩ => ⟨S8x2048, .f32⟩
  | .local _ .vmem, ⟨6, _⟩ => ⟨S64x1, .i32⟩
  | .local _ .vmem, ⟨7, _⟩ => ⟨S1x1, .f32⟩
  | .local _ .vmem, ⟨8, _⟩ => ⟨S64x1, .i32⟩
  | .local _ .vmem, ⟨9, _⟩ => ⟨S64x1, .f32⟩
  | .local _ .vmem, ⟨10, _⟩ => ⟨S64x100352, .f32⟩
  | .local _ .vmem, ⟨11, _⟩ => ⟨S64x100352, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S1x2048, .f32⟩
  | .local _ .vmem, ⟨17, _⟩ => ⟨S64x8, .f32⟩
  | .local _ .vmem, ⟨18, _⟩ => ⟨S64x1, .f32⟩
  | .local _ .vmem, ⟨19, _⟩ => ⟨S64x1, .f32⟩
  | .local _ .vmem, ⟨20, _⟩ => ⟨S64x1, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![3, 49], ![false, false]⟩

def k0_cond4 (i : grid0.Coords) : BitVec 1 :=
  let arg0 : BitVec 32 := BitVec.ofNat 32 (i 0).val
  let c1_i32_8 : BitVec 32 := 1#32
  let v25 : BitVec 1 := Scalar.cmpi .eq arg0 c1_i32_8
  let v26 : BitVec 32 := Scalar.extui v25
  let c0_i32_9 : BitVec 32 := 0#32
  let v27 : BitVec 1 := Scalar.cmpi .ne v26 c0_i32_9
  v27

def k0_off1 (i : grid0.Coords) : Fin 2 → Nat :=
  let c0_30 : Index := 0#32
  let arg1 : BitVec 32 := BitVec.ofNat 32 (i 1).val
  let c2048_i32_29 : BitVec 32 := 2048#32
  let v69 : BitVec 32 := Scalar.muli arg1 c2048_i32_29
  let v70 : Index := Scalar.indexCast v69
  ![0, v70.toNat]
def k0_cond6 (i : grid0.Coords) : BitVec 1 :=
  let arg0 : BitVec 32 := BitVec.ofNat 32 (i 0).val
  let c2_i32_12 : BitVec 32 := 2#32
  let v33 : BitVec 1 := Scalar.cmpi .eq arg0 c2_i32_12
  let v34 : BitVec 32 := Scalar.extui v33
  let c0_i32_13 : BitVec 32 := 0#32
  let v35 : BitVec 1 := Scalar.cmpi .ne v34 c0_i32_13
  v35

def k0_off2 (i : grid0.Coords) : Fin 2 → Nat :=
  let c0_16 : Index := 0#32
  let arg1 : BitVec 32 := BitVec.ofNat 32 (i 1).val
  let c2048_i32_15 : BitVec 32 := 2048#32
  let v39 : BitVec 32 := Scalar.muli arg1 c2048_i32_15
  let v40 : Index := Scalar.indexCast v39
  ![0, v40.toNat]
def k0_cond7 (i : grid0.Coords) : BitVec 1 :=
  let arg1 : BitVec 32 := BitVec.ofNat 32 (i 1).val
  let c48_i32 : BitVec 32 := 48#32
  let v82 : BitVec 1 := Scalar.cmpi .eq arg1 c48_i32
  let v83 : BitVec 32 := Scalar.extui v82
  let c0_i32_44 : BitVec 32 := 0#32
  let v84 : BitVec 1 := Scalar.cmpi .ne v83 c0_i32_44
  v84

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S64x100000 : Shape := ⟨2, ![64, 100000]⟩
abbrev S100000x3 : Shape := ⟨2, ![100000, 3]⟩
abbrev S100000 : Shape := ⟨1, ![100000]⟩
abbrev S_ : Shape := ⟨0, ![]⟩
abbrev S64 : Shape := ⟨1, ![64]⟩
abbrev S64x1 : Shape := ⟨2, ![64, 1]⟩
abbrev S64x2 : Shape := ⟨2, ![64, 2]⟩
abbrev S1 : Shape := ⟨1, ![1]⟩
abbrev S1x1 : Shape := ⟨2, ![1, 1]⟩
abbrev S64x3 : Shape := ⟨2, ![64, 3]⟩
abbrev S1x100000x3 : Shape := ⟨3, ![1, 100000, 3]⟩
abbrev S64x1x3 : Shape := ⟨3, ![64, 1, 3]⟩
abbrev S64x100000x3 : Shape := ⟨3, ![64, 100000, 3]⟩
abbrev S64x1x1 : Shape := ⟨3, ![64, 1, 1]⟩
abbrev S1x1x1 : Shape := ⟨3, ![1, 1, 1]⟩

abbrev nBuf : Space → Nat
  | .hbm => 171
  | .vmem => 0
  | .smem => 0
  | _ => 0

abbrev hbmTy0_0 (i : Nat) : BufTy := match i % 128 with
  | 0 => ⟨S64x100000, .f32⟩
  | 1 => ⟨S100000x3, .f32⟩
  | 2 => ⟨S100000, .f32⟩
  | 3 => ⟨S64x100000, .f32⟩
  | 4 => ⟨S_, .f32⟩
  | 5 => ⟨S64, .i32⟩
  | 6 => ⟨S_, .f32⟩
  | 7 => ⟨S100000, .f32⟩
  | 8 => ⟨S100000, .i1⟩
  | 9 => ⟨S64x100000, .i1⟩
  | 10 => ⟨S64, .i32⟩
  | 11 => ⟨S_, .i32⟩
  | 12 => ⟨S64, .i32⟩
  | 13 => ⟨S64, .i1⟩
  | 14 => ⟨S_, .i32⟩
  | 15 => ⟨S64, .i32⟩
  | 16 => ⟨S64, .i32⟩
  | 17 => ⟨S64, .i32⟩
  | 18 => ⟨S_, .i32⟩
  | 19 => ⟨S64, .i32⟩
  | 20 => ⟨S64, .i1⟩
  | 21 => ⟨S_, .i32⟩
  | 22 => ⟨S64, .i32⟩
  | 23 => ⟨S64, .i32⟩
  | 24 => ⟨S64, .i32⟩
  | 25 => ⟨S64x1, .i32⟩
  | 26 => ⟨S64x1, .i32⟩
  | 27 => ⟨S64x2, .i32⟩
  | 28 => ⟨S_, .i1⟩
  | 29 => ⟨S64, .i1⟩
  | 30 => ⟨S64x100000, .i1⟩
  | 31 => ⟨S_, .i32⟩
  | 32 => ⟨S64, .i32⟩
  | 33 => ⟨S64, .i1⟩
  | 34 => ⟨S_, .i32⟩
  | 35 => ⟨S64, .i32⟩
  | 36 => ⟨S64, .i32⟩
  | 37 => ⟨S64, .i32⟩
  | 38 => ⟨S64x1, .i32⟩
  | 39 => ⟨S1, .i32⟩
  | 40 => ⟨S_, .i32⟩
  | 41 => ⟨S64x1, .i32⟩
  | 42 => ⟨S64x1, .i1⟩
  | 43 => ⟨S1x1, .i32⟩
  | 44 => ⟨S64x1, .i32⟩
  | 45 => ⟨S64x1, .i1⟩
  | 46 => ⟨S64x1, .i1⟩
  | 47 => ⟨S_, .i1⟩
  | 48 => ⟨S64, .i1⟩
  | 49 => ⟨S64x3, .f32⟩
  | 50 => ⟨S64x3, .i1⟩
  | 51 => ⟨S_, .f32⟩
  | 52 => ⟨S64x3, .f32⟩
  | 53 => ⟨S64x3, .f32⟩
  | 54 => ⟨S1x100000x3, .f32⟩
  | 55 => ⟨S64x1x3, .f32⟩
  | 56 => ⟨S64x100000x3, .f32⟩
  | 57 => ⟨S64x100000x3, .f32⟩
  | 58 => ⟨S64x100000x3, .f32⟩
  | 59 => ⟨S64x100000x3, .f32⟩
  | 60 => ⟨S_, .f32⟩
  | 61 => ⟨S64x100000, .f32⟩
  | 62 => ⟨S64x100000, .f32⟩
  | 63 => ⟨S_, .f32⟩
  | 64 => ⟨S64x100000, .f32⟩
  | 65 => ⟨S64x100000, .i1⟩
  | 66 => ⟨S_, .f32⟩
  | 67 => ⟨S_, .f32⟩
  | 68 => ⟨S64x100000, .f32⟩
  | 69 => ⟨S64x100000, .f32⟩
  | 70 => ⟨S64x100000, .f32⟩
  | 71 => ⟨S_, .f32⟩
  | 72 => ⟨S64x100000, .f32⟩
  | 73 => ⟨S64x100000, .f32⟩
  | 74 => ⟨S64x100000, .i1⟩
  | 75 => ⟨S64x100000, .i1⟩
  | 76 => ⟨S_, .f32⟩
  | 77 => ⟨S_, .f32⟩
  | 78 => ⟨S64x100000, .f32⟩
  | 79 => ⟨S64x100000, .f32⟩
  | 80 => ⟨S_, .f32⟩
  | 81 => ⟨S64, .f32⟩
  | 82 => ⟨S64x1, .f32⟩
  | 83 => ⟨S_, .f32⟩
  | 84 => ⟨S64x1, .f32⟩
  | 85 => ⟨S64x1, .i1⟩
  | 86 => ⟨S_, .f32⟩
  | 87 => ⟨S_, .f32⟩
  | 88 => ⟨S64x100000, .i1⟩
  | 89 => ⟨S64x100000, .f32⟩
  | 90 => ⟨S64x100000, .f32⟩
  | 91 => ⟨S_, .f32⟩
  | 92 => ⟨S64, .f32⟩
  | 93 => ⟨S64x1, .f32⟩
  | 94 => ⟨S64x100000, .f32⟩
  | 95 => ⟨S64x100000, .f32⟩
  | 96 => ⟨S_, .f32⟩
  | 97 => ⟨S64x100000, .f32⟩
  | 98 => ⟨S64x100000, .f32⟩
  | 99 => ⟨S64x100000, .f32⟩
  | 100 => ⟨S64x100000, .f32⟩
  | 101 => ⟨S_, .f32⟩
  | 102 => ⟨S_, .f32⟩
  | 103 => ⟨S64x100000, .f32⟩
  | 104 => ⟨S64x100000, .f32⟩
  | 105 => ⟨S_, .f32⟩
  | 106 => ⟨S64, .f32⟩
  | 107 => ⟨S_, .f32⟩
  | 108 => ⟨S64, .f32⟩
  | 109 => ⟨S64, .f32⟩
  | 110 => ⟨S64x1, .f32⟩
  | 111 => ⟨S64x100000, .f32⟩
  | 112 => ⟨S64x100000, .f32⟩
  | 113 => ⟨S64x100000, .f32⟩
  | 114 => ⟨S_, .f32⟩
  | 115 => ⟨S64, .f32⟩
  | 116 => ⟨S64x1, .f32⟩
  | 117 => ⟨S64x100000, .f32⟩
  | 118 => ⟨S64x100000, .f32⟩
  | 119 => ⟨S64x100000, .i32⟩
  | 120 => ⟨S_, .i32⟩
  | 121 => ⟨S64, .i32⟩
  | 122 => ⟨S64x1, .i32⟩
  | 123 => ⟨S_, .i32⟩
  | 124 => ⟨S64x1, .i32⟩
  | 125 => ⟨S64x1, .i32⟩
  | 126 => ⟨S64x100000, .f32⟩
  | 127 => ⟨S64x1, .f32⟩
  | _ => ⟨S64x100000, .f32⟩

abbrev hbmTy0_1 (i : Nat) : BufTy := match i % 128 with
  | 0 => ⟨S64x100000, .f32⟩
  | 1 => ⟨S64x100000, .f32⟩
  | 2 => ⟨S_, .f32⟩
  | 3 => ⟨S_, .f32⟩
  | 4 => ⟨S64x100000, .f32⟩
  | 5 => ⟨S64x100000, .f32⟩
  | 6 => ⟨S64x100000, .f32⟩
  | 7 => ⟨S64x100000, .f32⟩
  | 8 => ⟨S64x100000, .f32⟩
  | 9 => ⟨S_, .f32⟩
  | 10 => ⟨S64x100000, .f32⟩
  | 11 => ⟨S64x100000, .f32⟩
  | 12 => ⟨S64x100000, .f32⟩
  | 13 => ⟨S64x100000, .f32⟩
  | 14 => ⟨S64x100000, .i32⟩
  | 15 => ⟨S_, .f32⟩
  | 16 => ⟨S_, .i32⟩
  | 17 => ⟨S64, .f32⟩
  | 18 => ⟨S64, .i32⟩
  | 19 => ⟨S64x1, .i32⟩
  | 20 => ⟨S_, .i32⟩
  | 21 => ⟨S64x1, .i32⟩
  | 22 => ⟨S64x1, .i1⟩
  | 23 => ⟨S_, .i32⟩
  | 24 => ⟨S64x1, .i32⟩
  | 25 => ⟨S64x1, .i32⟩
  | 26 => ⟨S64x1, .i32⟩
  | 27 => ⟨S64x1x1, .i32⟩
  | 28 => ⟨S1, .i32⟩
  | 29 => ⟨S_, .i32⟩
  | 30 => ⟨S64x1x1, .i32⟩
  | 31 => ⟨S64x1x1, .i1⟩
  | 32 => ⟨S1x1x1, .i32⟩
  | 33 => ⟨S64x1x1, .i32⟩
  | 34 => ⟨S64x1x1, .i1⟩
  | 35 => ⟨S64x1x1, .i1⟩
  | 36 => ⟨S_, .i1⟩
  | 37 => ⟨S64x1, .i1⟩
  | 38 => ⟨S64x1, .f32⟩
  | 39 => ⟨S_, .f32⟩
  | 40 => ⟨S64x1, .f32⟩
  | 41 => ⟨S64x1, .f32⟩
  | 42 => ⟨S64, .f32⟩
  | _ => ⟨S64x100000, .f32⟩

abbrev hbmTy (i : Nat) : BufTy := match i / 128 with
  | 0 => hbmTy0_0 i
  | 1 => hbmTy0_1 i
  | _ => ⟨S64x100000, .f32⟩

abbrev bufTy : (tb : Table) → Fin (tcTables nBuf tb) → BufTy
  | .hbm, ⟨i, _⟩ => hbmTy i
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_call1_v0 : Ref sig .tc := ⟨.hbm, 59, rfl⟩
abbrev main_call1_cst : Ref sig .tc := ⟨.hbm, 60, rfl⟩
abbrev main_call1_v1 : Ref sig .tc := ⟨.hbm, 61, rfl⟩
abbrev main_v25 : Ref sig .tc := ⟨.hbm, 62, rfl⟩
abbrev main_cst_4 : Ref sig .tc := ⟨.hbm, 63, rfl⟩
abbrev main_v26 : Ref sig .tc := ⟨.hbm, 64, rfl⟩
abbrev main_v27 : Ref sig .tc := ⟨.hbm, 65, rfl⟩
abbrev main_cst_5 : Ref sig .tc := ⟨.hbm, 66, rfl⟩
abbrev main_call2_v0 : Ref sig .tc := ⟨.hbm, 67, rfl⟩
abbrev main_call2_v1 : Ref sig .tc := ⟨.hbm, 68, rfl⟩
abbrev main_v28 : Ref sig .tc := ⟨.hbm, 69, rfl⟩
abbrev main_v29 : Ref sig .tc := ⟨.hbm, 70, rfl⟩
abbrev main_cst_6 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_7 : Ref sig .tc := ⟨.hbm, 76, rfl⟩
abbrev main_call3_v0 : Ref sig .tc := ⟨.hbm, 77, rfl⟩
abbrev main_call3_v1 : Ref sig .tc := ⟨.hbm, 78, rfl⟩
abbrev main_v34 : Ref sig .tc := ⟨.hbm, 79, rfl⟩
abbrev main_cst_8 : Ref sig .tc := ⟨.hbm, 80, rfl⟩
abbrev main_v35 : Ref sig .tc := ⟨.hbm, 81, rfl⟩
abbrev main_v36 : Ref sig .tc := ⟨.hbm, 82, rfl⟩
abbrev main_cst_9 : Ref sig .tc := ⟨.hbm, 83, rfl⟩
abbrev main_v37 : Ref sig .tc := ⟨.hbm, 84, rfl⟩
abbrev main_v38 : Ref sig .tc := ⟨.hbm, 85, rfl⟩
abbrev main_cst_10 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v39 : Ref sig .tc := ⟨.hbm, 90, rfl⟩
abbrev main_cst_11 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_cst_12 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_13 : Ref sig .tc := ⟨.hbm, 101, rfl⟩
abbrev main_call5_v0 : Ref sig .tc := ⟨.hbm, 102, rfl⟩
abbrev main_call5_v1 : Ref sig .tc := ⟨.hbm, 103, rfl⟩
abbrev main_v48 : Ref sig .tc := ⟨.hbm, 104, rfl⟩
abbrev main_cst_14 : Ref sig .tc := ⟨.hbm, 105, rfl⟩
abbrev main_v49 : Ref sig .tc := ⟨.hbm, 106, rfl⟩
abbrev main_cst_15 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_cst_16 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_c_17 : Ref sig .tc := ⟨.hbm, 120, rfl⟩
abbrev main_v61 : Ref sig .tc := ⟨.hbm, 121, rfl⟩
abbrev main_v62 : Ref sig .tc := ⟨.hbm, 122, rfl⟩
abbrev main_c_18 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_cst_19 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_cst_20 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_call6_v0 : Ref sig .tc := ⟨.hbm, 142, rfl⟩
abbrev main_call6_cst : Ref sig .tc := ⟨.hbm, 143, rfl⟩
abbrev main_call6_c : Ref sig .tc := ⟨.hbm, 144, rfl⟩
abbrev main_call6_v1_0 : Ref sig .tc := ⟨.hbm, 145, rfl⟩
abbrev main_v79 : Ref sig .tc := ⟨.hbm, 146, rfl⟩
abbrev main_v80 : Ref sig .tc := ⟨.hbm, 147, rfl⟩
abbrev main_call7_c : Ref sig .tc := ⟨.hbm, 148, rfl⟩
abbrev main_call7_v0 : Ref sig .tc := ⟨.hbm, 149, rfl⟩
abbrev main_call7_v1 : Ref sig .tc := ⟨.hbm, 150, rfl⟩
abbrev main_call7_c_0 : Ref sig .tc := ⟨.hbm, 151, rfl⟩
abbrev main_call7_v2 : Ref sig .tc := ⟨.hbm, 152, rfl⟩
abbrev main_call7_v3 : Ref sig .tc := ⟨.hbm, 153, rfl⟩
abbrev main_call7_v4 : Ref sig .tc := ⟨.hbm, 154, rfl⟩
abbrev main_call7_v5 : Ref sig .tc := ⟨.hbm, 155, rfl⟩
abbrev main_call7_c_1 : Ref sig .tc := ⟨.hbm, 156, rfl⟩
abbrev main_call7_c_2 : Ref sig .tc := ⟨.hbm, 157, rfl⟩
abbrev main_call7_v6 : Ref sig .tc := ⟨.hbm, 158, rfl⟩
abbrev main_call7_v7 : Ref sig .tc := ⟨.hbm, 159, rfl⟩
abbrev main_call7_v8 : Ref sig .tc := ⟨.hbm, 160, rfl⟩
abbrev main_call7_v9 : Ref sig .tc := ⟨.hbm, 161, rfl⟩
abbrev main_call7_v10 : Ref sig .tc := ⟨.hbm, 162, rfl⟩
abbrev main_call7_v11 : Ref sig .tc := ⟨.hbm, 163, rfl⟩
abbrev main_call7_c_3 : Ref sig .tc := ⟨.hbm, 164, rfl⟩
abbrev main_call7_v12 : Ref sig .tc := ⟨.hbm, 165, rfl⟩
abbrev main_call7_v13 : Ref sig .tc := ⟨.hbm, 166, rfl⟩
abbrev main_call7_cst : Ref sig .tc := ⟨.hbm, 167, rfl⟩
abbrev main_call7_v14 : Ref sig .tc := ⟨.hbm, 168, rfl⟩
abbrev main_v81 : Ref sig .tc := ⟨.hbm, 169, rfl⟩
abbrev main_v82 : Ref sig .tc := ⟨.hbm, 170, rfl⟩

abbrev nD : Nat := 1
abbrev τ : Topo := Topo.v7x

variable {F : FTy → Type} [FloatOps F]
-- ==== Proof.KernelIdealBody.lean ====
/-
  The kernel's body at one grid point, as a pure function of what it finds.

  The grid is three phases by 49 blocks. Phase 0 gathers the previous object's row of the table and counts the
  allowed objects, phase 1 accumulates the four sums of the two softmax passes and keeps the weights and the
  exponentials, phase 2 forms the log-probabilities and keeps each lane's best score. `Scr` names the eleven scratch
  buffers' contents, `begin0`, `phase0`, `begin1`, `phase1`, `begin2`, `phase2` are the body's six guarded pieces on them,
  and the seven `run_…` theorems say, case by case on the point, that the body run on whole buffers performs them.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.Pipeline.TableIdle
public import Idealize.ShloMosaic.Lib.VecWindow

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

/-- A memref held whole at the contents `X`. -/
abbrev holds (c : Dev nD) {sp : Space} {S : Shape} {e : EltTy} (M : Memref sig .tc sp S e) (X : S.Idx → Elt F e) : sProp 𝕄 :=
  M.view.loc (c : Thread nD τ) ↦[M.view.set]{fullShare} M.view.rep X

/-! ## The scratch buffers and what the body does to them -/

variable (F) in
/-- The contents of the eleven scratch buffers: the stored weights and exponentials, the four lane accumulators, the
    count of allowed objects by lane, the previous object's row of the table, and the three coefficients. -/
structure Scr where
  w : Vec F S64x100352 .f32
  t : Vec F S64x100352 .f32
  a : Vec F S64x2048 .f32
  b : Vec F S64x2048 .f32
  d : Vec F S64x2048 .f32
  e : Vec F S64x2048 .f32
  nv : Vec F S1x2048 .f32
  pa : Vec F S64x8 .f32
  al : Vec F S64x1 .f32
  be : Vec F S64x1 .f32
  ga : Vec F S64x1 .f32

/-- Row 0 of the table block. -/
abbrev row0 (ax : Vec F S8x2048 .f32) : Vec F S1x2048 .f32 := VecWindow.window ax ![0, 0] S1x2048.size inb_S8x2048_S1x2048_0_0
/-- Row 1 of the table block. -/
abbrev row1 (ax : Vec F S8x2048 .f32) : Vec F S1x2048 .f32 := VecWindow.window ax ![1, 0] S1x2048.size inb_S8x2048_S1x2048_1_0
/-- Row 2 of the table block. -/
abbrev row2 (ax : Vec F S8x2048 .f32) : Vec F S1x2048 .f32 := VecWindow.window ax ![2, 0] S1x2048.size inb_S8x2048_S1x2048_2_0
/-- Row 3 of the table block. -/
abbrev row3 (ax : Vec F S8x2048 .f32) : Vec F S1x2048 .f32 := VecWindow.window ax ![3, 0] S1x2048.size inb_S8x2048_S1x2048_3_0
/-- Column 0 of the gathered rows. -/
abbrev col0 (pa : Vec F S64x8 .f32) : Vec F S64x1 .f32 := VecWindow.window pa ![0, 0] S64x1.size inb_S64x8_S64x1_0_0
/-- Column 1 of the gathered rows. -/
abbrev col1 (pa : Vec F S64x8 .f32) : Vec F S64x1 .f32 := VecWindow.window pa ![0, 1] S64x1.size inb_S64x8_S64x1_0_1
/-- Column 2 of the gathered rows. -/
abbrev col2 (pa : Vec F S64x8 .f32) : Vec F S64x1 .f32 := VecWindow.window pa ![0, 2] S64x1.size inb_S64x8_S64x1_0_2
/-- Column 3 of the gathered rows. -/
abbrev col3 (pa : Vec F S64x8 .f32) : Vec F S64x1 .f32 := VecWindow.window pa ![0, 3] S64x1.size inb_S64x8_S64x1_0_3

/-- The first point of phase 0 clears the gathered rows and the count. -/
def begin0 (S : Scr F) : Scr F := { S with nv := k0_pay31 (F := F), pa := k0_pay30 (F := F) }

/-- A point of phase 0 adds the block's part of the gathered rows and of the count. -/
def phase0 (i : grid0.Coords) (ax : Vec F S8x2048 .f32) (pv : Vec F S64x1 .i32) (S : Scr F) : Scr F :=
  { S with nv := k0_pay36 (row3 ax) S.nv, pa := k0_pay35 i pv S.pa ax }

/-- The first point of phase 1 clears the four lane accumulators. -/
def begin1 (S : Scr F) : Scr F :=
  { S with a := k0_pay38 (F := F), b := k0_pay39 (F := F), d := k0_pay40 (F := F), e := k0_pay41 (F := F) }

/-- A point of phase 1 stores the block's weights and exponentials and adds to the four lane accumulators. -/
def phase1 (i : grid0.Coords) (lg : Vec F S64x2048 .f32) (ax : Vec F S8x2048 .f32) (pv : Vec F S64x1 .i32) (S : Scr F) : Scr F :=
  { S with
    w := VecWindow.put S.w (k0_off1 i) S64x2048.size
      (k0_pay11 (k0_pay34 (row3 ax)) (row0 ax) (row1 ax) (row2 ax) (col0 S.pa) (col1 S.pa) (col2 S.pa))
    t := VecWindow.put S.t (k0_off1 i) S64x2048.size (k0_pay42 (k0_pay9 lg))
    a := k0_pay43 (k0_pay10 (k0_pay34 (row3 ax)) (row0 ax) (row1 ax) (row2 ax) (col0 S.pa) (col1 S.pa) (col2 S.pa)) S.a
    b := k0_pay44 (k0_pay7 (k0_pay34 (row3 ax)) (row0 ax) (row1 ax) (row2 ax) (col0 S.pa) (col1 S.pa) (col2 S.pa))
      (k0_pay8 (row0 ax) (row1 ax) (row2 ax) (col0 S.pa) (col1 S.pa) (col2 S.pa)) (k0_pay9 lg) S.b
    d := k0_pay45 (row3 ax) (k0_pay9 lg) S.d
    e := k0_pay46 i pv (k0_pay9 lg) S.e }

/-- The first point of phase 2 turns the sums into the three coefficients and starts the running best. -/
def begin2 (ep : Vec F S1x1 .f32) (S : Scr F) : Scr F :=
  { S with
    al := k0_pay20 (k0_pay12 S.a) (k0_pay13 S.b) (k0_pay15 S.d S.e (col3 S.pa)) (k0_pay16 ep) (k0_pay18 S.a)
    be := k0_pay21 (k0_pay12 S.a) (k0_pay13 S.b) (k0_pay15 S.d S.e (col3 S.pa)) (k0_pay16 ep) (k0_pay18 S.a)
    ga := k0_pay22 (k0_pay17 S.nv (col3 S.pa)) ep
    a := k0_pay23 (F := F), b := k0_pay24 (F := F), d := k0_pay47 (Scalar.ofBits .f32 0x00000000#32) }

/-- The block of the stored weights, and of the stored exponentials, that a point of phase 2 reads back. -/
abbrev blkOf (i : grid0.Coords) (h : k0_cond6 i = 1#1) (x : Vec F S64x100352 .f32) : Vec F S64x2048 .f32 :=
  VecWindow.window x (k0_off2 i) S64x2048.size (k0_off2_inb i h)

/-- A point of phase 2 keeps, lane by lane, the best score so far with its column and its log-probability. -/
def phase2 (i : grid0.Coords) (h : k0_cond6 i = 1#1) (gb : Vec F S64x2048 .f32) (ax : Vec F S8x2048 .f32) (pv : Vec F S64x1 .i32)
    (S : Scr F) : Scr F :=
  { S with
    a := k0_pay28 (k0_pay33 i pv) (k0_pay34 (row3 ax)) (blkOf i h S.w) (blkOf i h S.t) S.al S.be S.ga gb S.a S.a
    b := k0_pay1 (k0_pay27 (k0_pay33 i pv) (k0_pay34 (row3 ax)) (blkOf i h S.w) (blkOf i h S.t) S.al S.be S.ga gb S.a)
      (k0_pay29 (k0_pay32 i)) S.b
    d := k0_pay2 (k0_pay25 (k0_pay33 i pv) (k0_pay34 (row3 ax)) (blkOf i h S.w) (blkOf i h S.t) S.al S.be S.ga)
      (k0_pay27 (k0_pay33 i pv) (k0_pay34 (row3 ax)) (blkOf i h S.w) (blkOf i h S.t) S.al S.be S.ga gb S.a) S.d }

/-- The sampled objects the last point stores, from the final lane bests. -/
abbrev outS (S : Scr F) : Vec F S64x1 .i32 := k0_pay4 S.a S.b
/-- The log-probabilities the last point stores. -/
abbrev outL (S : Scr F) : Vec F S64x1 .f32 := k0_pay5 S.a S.b S.d

/-! ## Loads and stores of whole buffers and of windows -/

/-- Loading all of a 64 by 2048 buffer gives its contents. -/
theorem rd_S64x2048 {e : EltTy} (v : View sig .tc .vmem S64x2048 e) (x : S64x2048.Idx → Elt F e) (off : Fin 2 → ℕ) (inb) :
    v.readAt (Elt F) (Rect.unit (s := S64x2048) off ![64, 2048] inb).toLoadRect (v.rep x) = x := View.readAt_rep_full v x inb
/-- A 64 by 2048 buffer holds what was last stored over all of it. -/
theorem rw_S64x2048 {e : EltTy} (v : View sig .tc .vmem S64x2048 e) (f) (off : Fin 2 → ℕ) (inb) (w) (L) :
    v.read (Elt F) (v.writes (Elt F) f (⟨Rect.unit (s := S64x2048) off ![64, 2048] inb, w⟩ :: L)) = w := View.read_writes_full v f inb w L
/-- Loading all of a 64 by 2048 buffer just stored over gives what was stored. -/
theorem rc_S64x2048 {e : EltTy} (v : View sig .tc .vmem S64x2048 e) (off off' : Fin 2 → ℕ) (inb inb') (w : S64x2048.Idx → Elt F e) (L) :
    v.readCov (⟨Rect.unit (s := S64x2048) off' ![64, 2048] inb', w⟩ :: L) (Rect.unit (s := S64x2048) off ![64, 2048] inb).toLoadRect = w := View.readCov_full v inb inb' w L

/-- Loading all of a 64 by 8 buffer gives its contents. -/
theorem rd_S64x8 {e : EltTy} (v : View sig .tc .vmem S64x8 e) (x : S64x8.Idx → Elt F e) (off : Fin 2 → ℕ) (inb) :
    v.readAt (Elt F) (Rect.unit (s := S64x8) off ![64, 8] inb).toLoadRect (v.rep x) = x := View.readAt_rep_full v x inb
/-- A 64 by 8 buffer holds what was last stored over all of it. -/
theorem rw_S64x8 {e : EltTy} (v : View sig .tc .vmem S64x8 e) (f) (off : Fin 2 → ℕ) (inb) (w) (L) :
    v.read (Elt F) (v.writes (Elt F) f (⟨Rect.unit (s := S64x8) off ![64, 8] inb, w⟩ :: L)) = w := View.read_writes_full v f inb w L
/-- Loading all of a 64 by 8 buffer just stored over gives what was stored. -/
theorem rc_S64x8 {e : EltTy} (v : View sig .tc .vmem S64x8 e) (off off' : Fin 2 → ℕ) (inb inb') (w : S64x8.Idx → Elt F e) (L) :
    v.readCov (⟨Rect.unit (s := S64x8) off' ![64, 8] inb', w⟩ :: L) (Rect.unit (s := S64x8) off ![64, 8] inb).toLoadRect = w := View.readCov_full v inb inb' w L

/-- Loading all of a 1 by 2048 buffer gives its contents. -/
theorem rd_S1x2048 {e : EltTy} (v : View sig .tc .vmem S1x2048 e) (x : S1x2048.Idx → Elt F e) (off : Fin 2 → ℕ) (inb) :
    v.readAt (Elt F) (Rect.unit (s := S1x2048) off ![1, 2048] inb).toLoadRect (v.rep x) = x := View.readAt_rep_full v x inb
/-- A 1 by 2048 buffer holds what was last stored over all of it. -/
theorem rw_S1x2048 {e : EltTy} (v : View sig .tc .vmem S1x2048 e) (f) (off : Fin 2 → ℕ) (inb) (w) (L) :
    v.read (Elt F) (v.writes (Elt F) f (⟨Rect.unit (s := S1x2048) off ![1, 2048] inb, w⟩ :: L)) = w := View.read_writes_full v f inb w L
/-- Loading all of a 1 by 2048 buffer just stored over gives what was stored. -/
theorem rc_S1x2048 {e : EltTy} (v : View sig .tc .vmem S1x2048 e) (off off' : Fin 2 → ℕ) (inb inb') (w : S1x2048.Idx → Elt F e) (L) :
    v.readCov (⟨Rect.unit (s := S1x2048) off' ![1, 2048] inb', w⟩ :: L) (Rect.unit (s := S1x2048) off ![1, 2048] inb).toLoadRect = w := View.readCov_full v inb inb' w L

/-- Loading all of a 64 by 1 buffer gives its contents. -/
theorem rd_S64x1 {e : EltTy} (v : View sig .tc .vmem S64x1 e) (x : S64x1.Idx → Elt F e) (off : Fin 2 → ℕ) (inb) :
    v.readAt (Elt F) (Rect.unit (s := S64x1) off ![64, 1] inb).toLoadRect (v.rep x) = x := View.readAt_rep_full v x inb
/-- A 64 by 1 buffer holds what was last stored over all of it. -/
theorem rw_S64x1 {e : EltTy} (v : View sig .tc .vmem S64x1 e) (f) (off : Fin 2 → ℕ) (inb) (w) (L) :
    v.read (Elt F) (v.writes (Elt F) f (⟨Rect.unit (s := S64x1) off ![64, 1] inb, w⟩ :: L)) = w := View.read_writes_full v f inb w L
/-- Loading all of a 64 by 1 buffer just stored over gives what was stored. -/
theorem rc_S64x1 {e : EltTy} (v : View sig .tc .vmem S64x1 e) (off off' : Fin 2 → ℕ) (inb inb') (w : S64x1.Idx → Elt F e) (L) :
    v.readCov (⟨Rect.unit (s := S64x1) off' ![64, 1] inb', w⟩ :: L) (Rect.unit (s := S64x1) off ![64, 1] inb).toLoadRect = w := View.readCov_full v inb inb' w L

/-- Loading all of a 1 by 1 buffer gives its contents. -/
theorem rd_S1x1 {e : EltTy} (v : View sig .tc .vmem S1x1 e) (x : S1x1.Idx → Elt F e) (off : Fin 2 → ℕ) (inb) :
    v.readAt (Elt F) (Rect.unit (s := S1x1) off ![1, 1] inb).toLoadRect (v.rep x) = x := View.readAt_rep_full v x inb
/-- A 1 by 1 buffer holds what was last stored over all of it. -/
theorem rw_S1x1 {e : EltTy} (v : View sig .tc .vmem S1x1 e) (f) (off : Fin 2 → ℕ) (inb) (w) (L) :
    v.read (Elt F) (v.writes (Elt F) f (⟨Rect.unit (s := S1x1) off ![1, 1] inb, w⟩ :: L)) = w := View.read_writes_full v f inb w L
/-- Loading all of a 1 by 1 buffer just stored over gives what was stored. -/
theorem rc_S1x1 {e : EltTy} (v : View sig .tc .vmem S1x1 e) (off off' : Fin 2 → ℕ) (inb inb') (w : S1x1.Idx → Elt F e) (L) :
    v.readCov (⟨Rect.unit (s := S1x1) off' ![1, 1] inb', w⟩ :: L) (Rect.unit (s := S1x1) off ![1, 1] inb).toLoadRect = w := View.readCov_full v inb inb' w L

/-- Loading all of an 8 by 2048 buffer gives its contents. -/
theorem rd_S8x2048 {e : EltTy} (v : View sig .tc .vmem S8x2048 e) (x : S8x2048.Idx → Elt F e) (off : Fin 2 → ℕ) (inb) :
    v.readAt (Elt F) (Rect.unit (s := S8x2048) off ![8, 2048] inb).toLoadRect (v.rep x) = x := View.readAt_rep_full v x inb
/-- An 8 by 2048 buffer holds what was last stored over all of it. -/
theorem rw_S8x2048 {e : EltTy} (v : View sig .tc .vmem S8x2048 e) (f) (off : Fin 2 → ℕ) (inb) (w) (L) :
    v.read (Elt F) (v.writes (Elt F) f (⟨Rect.unit (s := S8x2048) off ![8, 2048] inb, w⟩ :: L)) = w := View.read_writes_full v f inb w L
/-- Loading all of an 8 by 2048 buffer just stored over gives what was stored. -/
theorem rc_S8x2048 {e : EltTy} (v : View sig .tc .vmem S8x2048 e) (off off' : Fin 2 → ℕ) (inb inb') (w : S8x2048.Idx → Elt F e) (L) :
    v.readCov (⟨Rect.unit (s := S8x2048) off' ![8, 2048] inb', w⟩ :: L) (Rect.unit (s := S8x2048) off ![8, 2048] inb).toLoadRect = w := View.readCov_full v inb inb' w L

/-- Loading a window of a 64 by 100352 buffer gives that window of its contents. -/
theorem rdp_S64x100352 {e : EltTy} (v : View sig .tc .vmem S64x100352 e) (x : S64x100352.Idx → Elt F e) (off size : Fin 2 → ℕ) (inb) :
    v.readAt (Elt F) (Rect.unit (s := S64x100352) off size inb).toLoadRect (v.rep x) = VecWindow.window x off size inb := View.readAt_rep_unit v x inb rfl inb
/-- Storing into a window of a 64 by 100352 buffer replaces that window. -/
theorem rwp_S64x100352 {e : EltTy} (v : View sig .tc .vmem S64x100352 e) (x : S64x100352.Idx → Elt F e) (off size : Fin 2 → ℕ) (inb) (w) :
    v.read (Elt F) (v.writes (Elt F) (v.rep x) [⟨Rect.unit (s := S64x100352) off size inb, w⟩]) = VecWindow.put x off size w := View.read_writes_rep_unit v x inb w rfl

/-- Loading a window of an 8 by 2048 buffer gives that window of its contents. -/
theorem rdp_S8x2048 {e : EltTy} (v : View sig .tc .vmem S8x2048 e) (x : S8x2048.Idx → Elt F e) (off size : Fin 2 → ℕ) (inb) :
    v.readAt (Elt F) (Rect.unit (s := S8x2048) off size inb).toLoadRect (v.rep x) = VecWindow.window x off size inb := View.readAt_rep_unit v x inb rfl inb
/-- Storing into a window of an 8 by 2048 buffer replaces that window. -/
theorem rwp_S8x2048 {e : EltTy} (v : View sig .tc .vmem S8x2048 e) (x : S8x2048.Idx → Elt F e) (off size : Fin 2 → ℕ) (inb) (w) :
    v.read (Elt F) (v.writes (Elt F) (v.rep x) [⟨Rect.unit (s := S8x2048) off size inb, w⟩]) = VecWindow.put x off size w := View.read_writes_rep_unit v x inb w rfl

/-- Loading a window of a 64 by 8 buffer gives that window of its contents. -/
theorem rdp_S64x8 {e : EltTy} (v : View sig .tc .vmem S64x8 e) (x : S64x8.Idx → Elt F e) (off size : Fin 2 → ℕ) (inb) :
    v.readAt (Elt F) (Rect.unit (s := S64x8) off size inb).toLoadRect (v.rep x) = VecWindow.window x off size inb := View.readAt_rep_unit v x inb rfl inb
/-- Storing into a window of a 64 by 8 buffer replaces that window. -/
theorem rwp_S64x8 {e : EltTy} (v : View sig .tc .vmem S64x8 e) (x : S64x8.Idx → Elt F e) (off size : Fin 2 → ℕ) (inb) (w) :
    v.read (Elt F) (v.writes (Elt F) (v.rep x) [⟨Rect.unit (s := S64x8) off size inb, w⟩]) = VecWindow.put x off size w := View.read_writes_rep_unit v x inb w rfl

/-! ## The guards, as statements about the point's coordinates -/

/-- The guard of a phase's first point: the phase is `k` and the block is 0. -/
theorem guard_pj : ∀ (k : Fin 3) (p : Fin 3) (j : Fin 49),
    (Scalar.cmpi .ne (Scalar.extui (Scalar.andi (Scalar.cmpi .eq (BitVec.ofNat 32 p.val) (BitVec.ofNat 32 k.val))
      (Scalar.cmpi .eq (BitVec.ofNat 32 j.val) 0#32)) : BitVec 32) 0#32 = 1#1) ↔ (p.val = k.val ∧ j.val = 0) := by decide +kernel

/-- The guard of a phase: the phase is `k`. -/
theorem guard_p : ∀ (k : Fin 3) (p : Fin 3),
    (Scalar.cmpi .ne (Scalar.extui (Scalar.cmpi .eq (BitVec.ofNat 32 p.val) (BitVec.ofNat 32 k.val)) : BitVec 32) 0#32 = 1#1)
      ↔ p.val = k.val := by decide +kernel

/-- The guard of the last block: the block is 48. -/
theorem guard_j : ∀ (j : Fin 49),
    (Scalar.cmpi .ne (Scalar.extui (Scalar.cmpi .eq (BitVec.ofNat 32 j.val) 48#32) : BitVec 32) 0#32 = 1#1)
      ↔ j.val = 48 := by decide +kernel

/-- The guard of phase 1's points. -/
theorem cond4_iff (i : grid0.Coords) : k0_cond4 i = 1#1 ↔ (i 0).val = 1 := guard_p 1 (i 0)
/-- The guard of phase 2's points. -/
theorem cond6_iff (i : grid0.Coords) : k0_cond6 i = 1#1 ↔ (i 0).val = 2 := guard_p 2 (i 0)
/-- The guard of the last block. -/
theorem cond7_iff (i : grid0.Coords) : k0_cond7 i = 1#1 ↔ (i 1).val = 48 := guard_j (i 1)

/-! ## The body, run once for each kind of point -/

set_option maxHeartbeats 2000000 in
/-- The body at the first point of phase 0, run on whole buffers: it leaves the inputs as they were and the scratch as `begin0` and then `phase0` say. -/
theorem run_first0 (c : Dev nD) (i : grid0.Coords)
    (a2 : Memref sig .tc .vmem S64x2048 .f32) (h2 : a2.IsWhole)
    (a3 : Memref sig .tc .vmem S64x2048 .f32) (h3 : a3.IsWhole)
    (a4 : Memref sig .tc .vmem S8x2048 .f32) (h4 : a4.IsWhole)
    (a5 : Memref sig .tc .vmem S64x1 .i32) (h5 : a5.IsWhole)
    (a6 : Memref sig .tc .vmem S1x1 .f32) (h6 : a6.IsWhole)
    (a7 : Memref sig .tc .vmem S64x1 .i32) (h7 : a7.IsWhole)
    (a8 : Memref sig .tc .vmem S64x1 .f32) (h8 : a8.IsWhole)
    (a9 : Memref sig .tc .vmem S64x100352 .f32) (h9 : a9.IsWhole)
    (a10 : Memref sig .tc .vmem S64x100352 .f32) (h10 : a10.IsWhole)
    (a11 : Memref sig .tc .vmem S64x2048 .f32) (h11 : a11.IsWhole)
    (a12 : Memref sig .tc .vmem S64x2048 .f32) (h12 : a12.IsWhole)
    (a13 : Memref sig .tc .vmem S64x2048 .f32) (h13 : a13.IsWhole)
    (a14 : Memref sig .tc .vmem S64x2048 .f32) (h14 : a14.IsWhole)
    (a15 : Memref sig .tc .vmem S1x2048 .f32) (h15 : a15.IsWhole)
    (a16 : Memref sig .tc .vmem S64x8 .f32) (h16 : a16.IsWhole)
    (a17 : Memref sig .tc .vmem S64x1 .f32) (h17 : a17.IsWhole)
    (a18 : Memref sig .tc .vmem S64x1 .f32) (h18 : a18.IsWhole)
    (a19 : Memref sig .tc .vmem S64x1 .f32) (h19 : a19.IsWhole)
    (hp : (i 0).val = 0) (hj : (i 1).val = 0)
    (lg : Vec F S64x2048 .f32) (gb : Vec F S64x2048 .f32) (ax : Vec F S8x2048 .f32) (pv : Vec F S64x1 .i32) (ep : Vec F S1x1 .f32) (sm : Vec F S64x1 .i32) (lp : Vec F S64x1 .f32) (S : Scr F) (K : PUnit → sProp 𝕄) :
    iprop(holds c a2 lg ∗ holds c a3 gb ∗ holds c a4 ax ∗ holds c a5 pv ∗ holds c a6 ep ∗ holds c a7 sm ∗ holds c a8 lp ∗ holds c a9 (S).w ∗ holds c a10 (S).t ∗ holds c a11 (S).a ∗ holds c a12 (S).b ∗ holds c a13 (S).d ∗ holds c a14 (S).e ∗ holds c a15 (S).nv ∗ holds c a16 (S).pa ∗ holds c a17 (S).al ∗ holds c a18 (S).be ∗ holds c a19 (S).ga
        ∗ (iprop(holds c a2 lg ∗ holds c a3 gb ∗ holds c a4 ax ∗ holds c a5 pv ∗ holds c a6 ep ∗ holds c a7 sm ∗ holds c a8 lp ∗ holds c a9 ((phase0 i ax pv (begin0 S))).w ∗ holds c a10 ((phase0 i ax pv (begin0 S))).t ∗ holds c a11 ((phase0 i ax pv (begin0 S))).a ∗ holds c a12 ((phase0 i ax pv (begin0 S))).b ∗ holds c a13 ((phase0 i ax pv (begin0 S))).d ∗ holds c a14 ((phase0 i ax pv (begin0 S))).e ∗ holds c a15 ((phase0 i ax pv (begin0 S))).nv ∗ holds c a16 ((phase0 i ax pv (begin0 S))).pa ∗ holds c a17 ((phase0 i ax pv (begin0 S))).al ∗ holds c a18 ((phase0 i ax pv (begin0 S))).be ∗ holds c a19 ((phase0 i ax pv (begin0 S))).ga) -∗ K ⟨⟩))
      ⊢ wp frame (wpE (defs₀ (F := F)) Variants.none c none) Set.univ (cc0__tc_body i a2 h2 a3 h3 a4 h4 a5 h5 a6 h6 a7 h7 a8 h8 a9 h9 a10 h10 a11 h11 a12 h12 a13 h13 a14 h14 a15 h15 a16 h16 a17 h17 a18 h18 a19 h19) K := by
  have c1 : (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := (guard_pj 0 (i 0) (i 1)).mpr ⟨hp, hj⟩
  have c3 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1) := fun h => by have := (guard_pj 1 (i 0) (i 1)).mp h; simp at this; omega
  have c5 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1) := fun h => by have := (guard_pj 2 (i 0) (i 1)).mp h; simp at this; omega
  have c2 : (Scalar.cmpi .ne (Scalar.extui (Scalar.cmpi .eq (BitVec.ofNat 32 (i 0).val) 0#32) : BitVec 32) 0#32 = 1#1) := (guard_p 0 (i 0)).mpr hp
  have c4 : ¬ k0_cond4 i = 1#1 := fun h => by have := (cond4_iff i).mp h; omega
  have c6 : ¬ k0_cond6 i = 1#1 := fun h => by have := (cond6_iff i).mp h; omega
  simp only [cc0__tc_body_eq_skeleton]; unfold cc0__tc_body_skel
  iintro ⟨H2, H3, H4, H5, H6, H7, H8, H9, H10, H11, H12, H13, H14, H15, H16, H17, H18, H19, Hk⟩
  sl_exec
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iapply (pointsTo_rep_of_read (c : Thread nD τ) a15 _ fullShare _ ?_) $$ H15
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H16]
  · iapply (pointsTo_rep_of_read (c : Thread nD τ) a16 _ fullShare _ ?_) $$ H16
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H17]
  · iexact H17
  isplitl [H18]
  · iexact H18
  iexact H19

set_option maxHeartbeats 2000000 in
/-- The body at a later point of phase 0, run on whole buffers: it leaves the inputs as they were and the scratch as `phase0` says. -/
theorem run_later0 (c : Dev nD) (i : grid0.Coords)
    (a2 : Memref sig .tc .vmem S64x2048 .f32) (h2 : a2.IsWhole)
    (a3 : Memref sig .tc .vmem S64x2048 .f32) (h3 : a3.IsWhole)
    (a4 : Memref sig .tc .vmem S8x2048 .f32) (h4 : a4.IsWhole)
    (a5 : Memref sig .tc .vmem S64x1 .i32) (h5 : a5.IsWhole)
    (a6 : Memref sig .tc .vmem S1x1 .f32) (h6 : a6.IsWhole)
    (a7 : Memref sig .tc .vmem S64x1 .i32) (h7 : a7.IsWhole)
    (a8 : Memref sig .tc .vmem S64x1 .f32) (h8 : a8.IsWhole)
    (a9 : Memref sig .tc .vmem S64x100352 .f32) (h9 : a9.IsWhole)
    (a10 : Memref sig .tc .vmem S64x100352 .f32) (h10 : a10.IsWhole)
    (a11 : Memref sig .tc .vmem S64x2048 .f32) (h11 : a11.IsWhole)
    (a12 : Memref sig .tc .vmem S64x2048 .f32) (h12 : a12.IsWhole)
    (a13 : Memref sig .tc .vmem S64x2048 .f32) (h13 : a13.IsWhole)
    (a14 : Memref sig .tc .vmem S64x2048 .f32) (h14 : a14.IsWhole)
    (a15 : Memref sig .tc .vmem S1x2048 .f32) (h15 : a15.IsWhole)
    (a16 : Memref sig .tc .vmem S64x8 .f32) (h16 : a16.IsWhole)
    (a17 : Memref sig .tc .vmem S64x1 .f32) (h17 : a17.IsWhole)
    (a18 : Memref sig .tc .vmem S64x1 .f32) (h18 : a18.IsWhole)
    (a19 : Memref sig .tc .vmem S64x1 .f32) (h19 : a19.IsWhole)
    (hp : (i 0).val = 0) (hj : (i 1).val ≠ 0)
    (lg : Vec F S64x2048 .f32) (gb : Vec F S64x2048 .f32) (ax : Vec F S8x2048 .f32) (pv : Vec F S64x1 .i32) (ep : Vec F S1x1 .f32) (sm : Vec F S64x1 .i32) (lp : Vec F S64x1 .f32) (S : Scr F) (K : PUnit → sProp 𝕄) :
    iprop(holds c a2 lg ∗ holds c a3 gb ∗ holds c a4 ax ∗ holds c a5 pv ∗ holds c a6 ep ∗ holds c a7 sm ∗ holds c a8 lp ∗ holds c a9 (S).w ∗ holds c a10 (S).t ∗ holds c a11 (S).a ∗ holds c a12 (S).b ∗ holds c a13 (S).d ∗ holds c a14 (S).e ∗ holds c a15 (S).nv ∗ holds c a16 (S).pa ∗ holds c a17 (S).al ∗ holds c a18 (S).be ∗ holds c a19 (S).ga
        ∗ (iprop(holds c a2 lg ∗ holds c a3 gb ∗ holds c a4 ax ∗ holds c a5 pv ∗ holds c a6 ep ∗ holds c a7 sm ∗ holds c a8 lp ∗ holds c a9 ((phase0 i ax pv S)).w ∗ holds c a10 ((phase0 i ax pv S)).t ∗ holds c a11 ((phase0 i ax pv S)).a ∗ holds c a12 ((phase0 i ax pv S)).b ∗ holds c a13 ((phase0 i ax pv S)).d ∗ holds c a14 ((phase0 i ax pv S)).e ∗ holds c a15 ((phase0 i ax pv S)).nv ∗ holds c a16 ((phase0 i ax pv S)).pa ∗ holds c a17 ((phase0 i ax pv S)).al ∗ holds c a18 ((phase0 i ax pv S)).be ∗ holds c a19 ((phase0 i ax pv S)).ga) -∗ K ⟨⟩))
      ⊢ wp frame (wpE (defs₀ (F := F)) Variants.none c none) Set.univ (cc0__tc_body i a2 h2 a3 h3 a4 h4 a5 h5 a6 h6 a7 h7 a8 h8 a9 h9 a10 h10 a11 h11 a12 h12 a13 h13 a14 h14 a15 h15 a16 h16 a17 h17 a18 h18 a19 h19) K := by
  have c1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := fun h => by have := (guard_pj 0 (i 0) (i 1)).mp h; simp at this; omega
  have c3 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1) := fun h => by have := (guard_pj 1 (i 0) (i 1)).mp h; simp at this; omega
  have c5 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1) := fun h => by have := (guard_pj 2 (i 0) (i 1)).mp h; simp at this; omega
  have c2 : (Scalar.cmpi .ne (Scalar.extui (Scalar.cmpi .eq (BitVec.ofNat 32 (i 0).val) 0#32) : BitVec 32) 0#32 = 1#1) := (guard_p 0 (i 0)).mpr hp
  have c4 : ¬ k0_cond4 i = 1#1 := fun h => by have := (cond4_iff i).mp h; omega
  have c6 : ¬ k0_cond6 i = 1#1 := fun h => by have := (cond6_iff i).mp h; omega
  simp only [cc0__tc_body_eq_skeleton]; unfold cc0__tc_body_skel
  iintro ⟨H2, H3, H4, H5, H6, H7, H8, H9, H10, H11, H12, H13, H14, H15, H16, H17, H18, H19, Hk⟩
  sl_exec
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iapply (pointsTo_rep_of_read (c : Thread nD τ) a15 _ fullShare _ ?_) $$ H15
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H16]
  · iapply (pointsTo_rep_of_read (c : Thread nD τ) a16 _ fullShare _ ?_) $$ H16
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H17]
  · iexact H17
  isplitl [H18]
  · iexact H18
  iexact H19

set_option maxHeartbeats 2000000 in
/-- The body at the first point of phase 1, run on whole buffers: it leaves the inputs as they were and the scratch as `begin1` and then `phase1` say. -/
theorem run_first1 (c : Dev nD) (i : grid0.Coords)
    (a2 : Memref sig .tc .vmem S64x2048 .f32) (h2 : a2.IsWhole)
    (a3 : Memref sig .tc .vmem S64x2048 .f32) (h3 : a3.IsWhole)
    (a4 : Memref sig .tc .vmem S8x2048 .f32) (h4 : a4.IsWhole)
    (a5 : Memref sig .tc .vmem S64x1 .i32) (h5 : a5.IsWhole)
    (a6 : Memref sig .tc .vmem S1x1 .f32) (h6 : a6.IsWhole)
    (a7 : Memref sig .tc .vmem S64x1 .i32) (h7 : a7.IsWhole)
    (a8 : Memref sig .tc .vmem S64x1 .f32) (h8 : a8.IsWhole)
    (a9 : Memref sig .tc .vmem S64x100352 .f32) (h9 : a9.IsWhole)
    (a10 : Memref sig .tc .vmem S64x100352 .f32) (h10 : a10.IsWhole)
    (a11 : Memref sig .tc .vmem S64x2048 .f32) (h11 : a11.IsWhole)
    (a12 : Memref sig .tc .vmem S64x2048 .f32) (h12 : a12.IsWhole)
    (a13 : Memref sig .tc .vmem S64x2048 .f32) (h13 : a13.IsWhole)
    (a14 : Memref sig .tc .vmem S64x2048 .f32) (h14 : a14.IsWhole)
    (a15 : Memref sig .tc .vmem S1x2048 .f32) (h15 : a15.IsWhole)
    (a16 : Memref sig .tc .vmem S64x8 .f32) (h16 : a16.IsWhole)
    (a17 : Memref sig .tc .vmem S64x1 .f32) (h17 : a17.IsWhole)
    (a18 : Memref sig .tc .vmem S64x1 .f32) (h18 : a18.IsWhole)
    (a19 : Memref sig .tc .vmem S64x1 .f32) (h19 : a19.IsWhole)
    (hp : (i 0).val = 1) (hj : (i 1).val = 0)
    (lg : Vec F S64x2048 .f32) (gb : Vec F S64x2048 .f32) (ax : Vec F S8x2048 .f32) (pv : Vec F S64x1 .i32) (ep : Vec F S1x1 .f32) (sm : Vec F S64x1 .i32) (lp : Vec F S64x1 .f32) (S : Scr F) (K : PUnit → sProp 𝕄) :
    iprop(holds c a2 lg ∗ holds c a3 gb ∗ holds c a4 ax ∗ holds c a5 pv ∗ holds c a6 ep ∗ holds c a7 sm ∗ holds c a8 lp ∗ holds c a9 (S).w ∗ holds c a10 (S).t ∗ holds c a11 (S).a ∗ holds c a12 (S).b ∗ holds c a13 (S).d ∗ holds c a14 (S).e ∗ holds c a15 (S).nv ∗ holds c a16 (S).pa ∗ holds c a17 (S).al ∗ holds c a18 (S).be ∗ holds c a19 (S).ga
        ∗ (iprop(holds c a2 lg ∗ holds c a3 gb ∗ holds c a4 ax ∗ holds c a5 pv ∗ holds c a6 ep ∗ holds c a7 sm ∗ holds c a8 lp ∗ holds c a9 ((phase1 i lg ax pv (begin1 S))).w ∗ holds c a10 ((phase1 i lg ax pv (begin1 S))).t ∗ holds c a11 ((phase1 i lg ax pv (begin1 S))).a ∗ holds c a12 ((phase1 i lg ax pv (begin1 S))).b ∗ holds c a13 ((phase1 i lg ax pv (begin1 S))).d ∗ holds c a14 ((phase1 i lg ax pv (begin1 S))).e ∗ holds c a15 ((phase1 i lg ax pv (begin1 S))).nv ∗ holds c a16 ((phase1 i lg ax pv (begin1 S))).pa ∗ holds c a17 ((phase1 i lg ax pv (begin1 S))).al ∗ holds c a18 ((phase1 i lg ax pv (begin1 S))).be ∗ holds c a19 ((phase1 i lg ax pv (begin1 S))).ga) -∗ K ⟨⟩))
      ⊢ wp frame (wpE (defs₀ (F := F)) Variants.none c none) Set.univ (cc0__tc_body i a2 h2 a3 h3 a4 h4 a5 h5 a6 h6 a7 h7 a8 h8 a9 h9 a10 h10 a11 h11 a12 h12 a13 h13 a14 h14 a15 h15 a16 h16 a17 h17 a18 h18 a19 h19) K := by
  have c1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := fun h => by have := (guard_pj 0 (i 0) (i 1)).mp h; simp at this; omega
  have c3 : (Scalar.cmpi .ne (Scalar.extui (Scalar.andi (Scalar.cmpi .eq (BitVec.ofNat 32 (i 0).val) 1#32) (Scalar.cmpi .eq (BitVec.ofNat 32 (i 1).val) 0#32)) : BitVec 32) 0#32 = 1#1) := (guard_pj 1 (i 0) (i 1)).mpr ⟨hp, hj⟩
  have c5 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1) := fun h => by have := (guard_pj 2 (i 0) (i 1)).mp h; simp at this; omega
  have c2 : ¬ (Scalar.cmpi .ne (Scalar.extui (Scalar.cmpi .eq (BitVec.ofNat 32 (i 0).val) 0#32) : BitVec 32) 0#32 = 1#1) := fun h => by have := (guard_p 0 (i 0)).mp h; simp at this; omega
  have c4 : k0_cond4 i = 1#1 := (cond4_iff i).mpr hp
  have c6 : ¬ k0_cond6 i = 1#1 := fun h => by have := (cond6_iff i).mp h; omega
  simp only [cc0__tc_body_eq_skeleton]; unfold cc0__tc_body_skel
  iintro ⟨H2, H3, H4, H5, H6, H7, H8, H9, H10, H11, H12, H13, H14, H15, H16, H17, H18, H19, Hk⟩
  sl_exec
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iapply (pointsTo_rep_of_read (c : Thread nD τ) a9 _ fullShare _ ?_) $$ H9
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H10]
  · iapply (pointsTo_rep_of_read (c : Thread nD τ) a10 _ fullShare _ ?_) $$ H10
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H11]
  · iapply (pointsTo_rep_of_read (c : Thread nD τ) a11 _ fullShare _ ?_) $$ H11
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H12]
  · iapply (pointsTo_rep_of_read (c : Thread nD τ) a12 _ fullShare _ ?_) $$ H12
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H13]
  · iapply (pointsTo_rep_of_read (c : Thread nD τ) a13 _ fullShare _ ?_) $$ H13
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H14]
  · iapply (pointsTo_rep_of_read (c : Thread nD τ) a14 _ fullShare _ ?_) $$ H14
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H15]
  · iexact H15
  isplitl [H16]
  · iexact H16
  isplitl [H17]
  · iexact H17
  isplitl [H18]
  · iexact H18
  iexact H19

set_option maxHeartbeats 2000000 in
/-- The body at a later point of phase 1, run on whole buffers: it leaves the inputs as they were and the scratch as `phase1` says. -/
theorem run_later1 (c : Dev nD) (i : grid0.Coords)
    (a2 : Memref sig .tc .vmem S64x2048 .f32) (h2 : a2.IsWhole)
    (a3 : Memref sig .tc .vmem S64x2048 .f32) (h3 : a3.IsWhole)
    (a4 : Memref sig .tc .vmem S8x2048 .f32) (h4 : a4.IsWhole)
    (a5 : Memref sig .tc .vmem S64x1 .i32) (h5 : a5.IsWhole)
    (a6 : Memref sig .tc .vmem S1x1 .f32) (h6 : a6.IsWhole)
    (a7 : Memref sig .tc .vmem S64x1 .i32) (h7 : a7.IsWhole)
    (a8 : Memref sig .tc .vmem S64x1 .f32) (h8 : a8.IsWhole)
    (a9 : Memref sig .tc .vmem S64x100352 .f32) (h9 : a9.IsWhole)
    (a10 : Memref sig .tc .vmem S64x100352 .f32) (h10 : a10.IsWhole)
    (a11 : Memref sig .tc .vmem S64x2048 .f32) (h11 : a11.IsWhole)
    (a12 : Memref sig .tc .vmem S64x2048 .f32) (h12 : a12.IsWhole)
    (a13 : Memref sig .tc .vmem S64x2048 .f32) (h13 : a13.IsWhole)
    (a14 : Memref sig .tc .vmem S64x2048 .f32) (h14 : a14.IsWhole)
    (a15 : Memref sig .tc .vmem S1x2048 .f32) (h15 : a15.IsWhole)
    (a16 : Memref sig .tc .vmem S64x8 .f32) (h16 : a16.IsWhole)
    (a17 : Memref sig .tc .vmem S64x1 .f32) (h17 : a17.IsWhole)
    (a18 : Memref sig .tc .vmem S64x1 .f32) (h18 : a18.IsWhole)
    (a19 : Memref sig .tc .vmem S64x1 .f32) (h19 : a19.IsWhole)
    (hp : (i 0).val = 1) (hj : (i 1).val ≠ 0)
    (lg : Vec F S64x2048 .f32) (gb : Vec F S64x2048 .f32) (ax : Vec F S8x2048 .f32) (pv : Vec F S64x1 .i32) (ep : Vec F S1x1 .f32) (sm : Vec F S64x1 .i32) (lp : Vec F S64x1 .f32) (S : Scr F) (K : PUnit → sProp 𝕄) :
    iprop(holds c a2 lg ∗ holds c a3 gb ∗ holds c a4 ax ∗ holds c a5 pv ∗ holds c a6 ep ∗ holds c a7 sm ∗ holds c a8 lp ∗ holds c a9 (S).w ∗ holds c a10 (S).t ∗ holds c a11 (S).a ∗ holds c a12 (S).b ∗ holds c a13 (S).d ∗ holds c a14 (S).e ∗ holds c a15 (S).nv ∗ holds c a16 (S).pa ∗ holds c a17 (S).al ∗ holds c a18 (S).be ∗ holds c a19 (S).ga
        ∗ (iprop(holds c a2 lg ∗ holds c a3 gb ∗ holds c a4 ax ∗ holds c a5 pv ∗ holds c a6 ep ∗ holds c a7 sm ∗ holds c a8 lp ∗ holds c a9 ((phase1 i lg ax pv S)).w ∗ holds c a10 ((phase1 i lg ax pv S)).t ∗ holds c a11 ((phase1 i lg ax pv S)).a ∗ holds c a12 ((phase1 i lg ax pv S)).b ∗ holds c a13 ((phase1 i lg ax pv S)).d ∗ holds c a14 ((phase1 i lg ax pv S)).e ∗ holds c a15 ((phase1 i lg ax pv S)).nv ∗ holds c a16 ((phase1 i lg ax pv S)).pa ∗ holds c a17 ((phase1 i lg ax pv S)).al ∗ holds c a18 ((phase1 i lg ax pv S)).be ∗ holds c a19 ((phase1 i lg ax pv S)).ga) -∗ K ⟨⟩))
      ⊢ wp frame (wpE (defs₀ (F := F)) Variants.none c none) Set.univ (cc0__tc_body i a2 h2 a3 h3 a4 h4 a5 h5 a6 h6 a7 h7 a8 h8 a9 h9 a10 h10 a11 h11 a12 h12 a13 h13 a14 h14 a15 h15 a16 h16 a17 h17 a18 h18 a19 h19) K := by
  have c1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := fun h => by have := (guard_pj 0 (i 0) (i 1)).mp h; simp at this; omega
  have c3 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1) := fun h => by have := (guard_pj 1 (i 0) (i 1)).mp h; simp at this; omega
  have c5 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1) := fun h => by have := (guard_pj 2 (i 0) (i 1)).mp h; simp at this; omega
  have c2 : ¬ (Scalar.cmpi .ne (Scalar.extui (Scalar.cmpi .eq (BitVec.ofNat 32 (i 0).val) 0#32) : BitVec 32) 0#32 = 1#1) := fun h => by have := (guard_p 0 (i 0)).mp h; simp at this; omega
  have c4 : k0_cond4 i = 1#1 := (cond4_iff i).mpr hp
  have c6 : ¬ k0_cond6 i = 1#1 := fun h => by have := (cond6_iff i).mp h; omega
  simp only [cc0__tc_body_eq_skeleton]; unfold cc0__tc_body_skel
  iintro ⟨H2, H3, H4, H5, H6, H7, H8, H9, H10, H11, H12, H13, H14, H15, H16, H17, H18, H19, Hk⟩
  sl_exec
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iapply (pointsTo_rep_of_read (c : Thread nD τ) a9 _ fullShare _ ?_) $$ H9
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H10]
  · iapply (pointsTo_rep_of_read (c : Thread nD τ) a10 _ fullShare _ ?_) $$ H10
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H11]
  · iapply (pointsTo_rep_of_read (c : Thread nD τ) a11 _ fullShare _ ?_) $$ H11
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H12]
  · iapply (pointsTo_rep_of_read (c : Thread nD τ) a12 _ fullShare _ ?_) $$ H12
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H13]
  · iapply (pointsTo_rep_of_read (c : Thread nD τ) a13 _ fullShare _ ?_) $$ H13
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H14]
  · iapply (pointsTo_rep_of_read (c : Thread nD τ) a14 _ fullShare _ ?_) $$ H14
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H15]
  · iexact H15
  isplitl [H16]
  · iexact H16
  isplitl [H17]
  · iexact H17
  isplitl [H18]
  · iexact H18
  iexact H19

set_option maxHeartbeats 2000000 in
/-- The body at the first point of phase 2, run on whole buffers: it leaves the inputs as they were and the scratch as `begin2` and then `phase2` say. -/
theorem run_first2 (c : Dev nD) (i : grid0.Coords)
    (a2 : Memref sig .tc .vmem S64x2048 .f32) (h2 : a2.IsWhole)
    (a3 : Memref sig .tc .vmem S64x2048 .f32) (h3 : a3.IsWhole)
    (a4 : Memref sig .tc .vmem S8x2048 .f32) (h4 : a4.IsWhole)
    (a5 : Memref sig .tc .vmem S64x1 .i32) (h5 : a5.IsWhole)
    (a6 : Memref sig .tc .vmem S1x1 .f32) (h6 : a6.IsWhole)
    (a7 : Memref sig .tc .vmem S64x1 .i32) (h7 : a7.IsWhole)
    (a8 : Memref sig .tc .vmem S64x1 .f32) (h8 : a8.IsWhole)
    (a9 : Memref sig .tc .vmem S64x100352 .f32) (h9 : a9.IsWhole)
    (a10 : Memref sig .tc .vmem S64x100352 .f32) (h10 : a10.IsWhole)
    (a11 : Memref sig .tc .vmem S64x2048 .f32) (h11 : a11.IsWhole)
    (a12 : Memref sig .tc .vmem S64x2048 .f32) (h12 : a12.IsWhole)
    (a13 : Memref sig .tc .vmem S64x2048 .f32) (h13 : a13.IsWhole)
    (a14 : Memref sig .tc .vmem S64x2048 .f32) (h14 : a14.IsWhole)
    (a15 : Memref sig .tc .vmem S1x2048 .f32) (h15 : a15.IsWhole)
    (a16 : Memref sig .tc .vmem S64x8 .f32) (h16 : a16.IsWhole)
    (a17 : Memref sig .tc .vmem S64x1 .f32) (h17 : a17.IsWhole)
    (a18 : Memref sig .tc .vmem S64x1 .f32) (h18 : a18.IsWhole)
    (a19 : Memref sig .tc .vmem S64x1 .f32) (h19 : a19.IsWhole)
    (hp : (i 0).val = 2) (hj : (i 1).val = 0) (hc : k0_cond6 i = 1#1)
    (lg : Vec F S64x2048 .f32) (gb : Vec F S64x2048 .f32) (ax : Vec F S8x2048 .f32) (pv : Vec F S64x1 .i32) (ep : Vec F S1x1 .f32) (sm : Vec F S64x1 .i32) (lp : Vec F S64x1 .f32) (S : Scr F) (K : PUnit → sProp 𝕄) :
    iprop(holds c a2 lg ∗ holds c a3 gb ∗ holds c a4 ax ∗ holds c a5 pv ∗ holds c a6 ep ∗ holds c a7 sm ∗ holds c a8 lp ∗ holds c a9 (S).w ∗ holds c a10 (S).t ∗ holds c a11 (S).a ∗ holds c a12 (S).b ∗ holds c a13 (S).d ∗ holds c a14 (S).e ∗ holds c a15 (S).nv ∗ holds c a16 (S).pa ∗ holds c a17 (S).al ∗ holds c a18 (S).be ∗ holds c a19 (S).ga
        ∗ (iprop(holds c a2 lg ∗ holds c a3 gb ∗ holds c a4 ax ∗ holds c a5 pv ∗ holds c a6 ep ∗ holds c a7 sm ∗ holds c a8 lp ∗ holds c a9 ((phase2 i hc gb ax pv (begin2 ep S))).w ∗ holds c a10 ((phase2 i hc gb ax pv (begin2 ep S))).t ∗ holds c a11 ((phase2 i hc gb ax pv (begin2 ep S))).a ∗ holds c a12 ((phase2 i hc gb ax pv (begin2 ep S))).b ∗ holds c a13 ((phase2 i hc gb ax pv (begin2 ep S))).d ∗ holds c a14 ((phase2 i hc gb ax pv (begin2 ep S))).e ∗ holds c a15 ((phase2 i hc gb ax pv (begin2 ep S))).nv ∗ holds c a16 ((phase2 i hc gb ax pv (begin2 ep S))).pa ∗ holds c a17 ((phase2 i hc gb ax pv (begin2 ep S))).al ∗ holds c a18 ((phase2 i hc gb ax pv (begin2 ep S))).be ∗ holds c a19 ((phase2 i hc gb ax pv (begin2 ep S))).ga) -∗ K ⟨⟩))
      ⊢ wp frame (wpE (defs₀ (F := F)) Variants.none c none) Set.univ (cc0__tc_body i a2 h2 a3 h3 a4 h4 a5 h5 a6 h6 a7 h7 a8 h8 a9 h9 a10 h10 a11 h11 a12 h12 a13 h13 a14 h14 a15 h15 a16 h16 a17 h17 a18 h18 a19 h19) K := by
  have c1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := fun h => by have := (guard_pj 0 (i 0) (i 1)).mp h; simp at this; omega
  have c3 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1) := fun h => by have := (guard_pj 1 (i 0) (i 1)).mp h; simp at this; omega
  have c5 : (Scalar.cmpi .ne (Scalar.extui (Scalar.andi (Scalar.cmpi .eq (BitVec.ofNat 32 (i 0).val) 2#32) (Scalar.cmpi .eq (BitVec.ofNat 32 (i 1).val) 0#32)) : BitVec 32) 0#32 = 1#1) := (guard_pj 2 (i 0) (i 1)).mpr ⟨hp, hj⟩
  have c2 : ¬ (Scalar.cmpi .ne (Scalar.extui (Scalar.cmpi .eq (BitVec.ofNat 32 (i 0).val) 0#32) : BitVec 32) 0#32 = 1#1) := fun h => by have := (guard_p 0 (i 0)).mp h; simp at this; omega
  have c4 : ¬ k0_cond4 i = 1#1 := fun h => by have := (cond4_iff i).mp h; omega
  have c6 : k0_cond6 i = 1#1 := (cond6_iff i).mpr hp
  have c7 : ¬ k0_cond7 i = 1#1 := fun h => by have := (cond7_iff i).mp h; omega
  simp only [cc0__tc_body_eq_skeleton]; unfold cc0__tc_body_skel
  iintro ⟨H2, H3, H4, H5, H6, H7, H8, H9, H10, H11, H12, H13, H14, H15, H16, H17, H18, H19, Hk⟩
  sl_exec
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iapply (pointsTo_rep_of_read (c : Thread nD τ) a11 _ fullShare _ ?_) $$ H11
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H12]
  · iapply (pointsTo_rep_of_read (c : Thread nD τ) a12 _ fullShare _ ?_) $$ H12
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H13]
  · iapply (pointsTo_rep_of_read (c : Thread nD τ) a13 _ fullShare _ ?_) $$ H13
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H14]
  · iexact H14
  isplitl [H15]
  · iexact H15
  isplitl [H16]
  · iexact H16
  isplitl [H17]
  · iapply (pointsTo_rep_of_read (c : Thread nD τ) a17 _ fullShare _ ?_) $$ H17
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H18]
  · iapply (pointsTo_rep_of_read (c : Thread nD τ) a18 _ fullShare _ ?_) $$ H18
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  iapply (pointsTo_rep_of_read (c : Thread nD τ) a19 _ fullShare _ ?_) $$ H19
  sl_unfold_run_names
  simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
  try rfl

set_option maxHeartbeats 2000000 in
/-- The body at a later point of phase 2, run on whole buffers: it leaves the inputs as they were and the scratch as `phase2` says. -/
theorem run_later2 (c : Dev nD) (i : grid0.Coords)
    (a2 : Memref sig .tc .vmem S64x2048 .f32) (h2 : a2.IsWhole)
    (a3 : Memref sig .tc .vmem S64x2048 .f32) (h3 : a3.IsWhole)
    (a4 : Memref sig .tc .vmem S8x2048 .f32) (h4 : a4.IsWhole)
    (a5 : Memref sig .tc .vmem S64x1 .i32) (h5 : a5.IsWhole)
    (a6 : Memref sig .tc .vmem S1x1 .f32) (h6 : a6.IsWhole)
    (a7 : Memref sig .tc .vmem S64x1 .i32) (h7 : a7.IsWhole)
    (a8 : Memref sig .tc .vmem S64x1 .f32) (h8 : a8.IsWhole)
    (a9 : Memref sig .tc .vmem S64x100352 .f32) (h9 : a9.IsWhole)
    (a10 : Memref sig .tc .vmem S64x100352 .f32) (h10 : a10.IsWhole)
    (a11 : Memref sig .tc .vmem S64x2048 .f32) (h11 : a11.IsWhole)
    (a12 : Memref sig .tc .vmem S64x2048 .f32) (h12 : a12.IsWhole)
    (a13 : Memref sig .tc .vmem S64x2048 .f32) (h13 : a13.IsWhole)
    (a14 : Memref sig .tc .vmem S64x2048 .f32) (h14 : a14.IsWhole)
    (a15 : Memref sig .tc .vmem S1x2048 .f32) (h15 : a15.IsWhole)
    (a16 : Memref sig .tc .vmem S64x8 .f32) (h16 : a16.IsWhole)
    (a17 : Memref sig .tc .vmem S64x1 .f32) (h17 : a17.IsWhole)
    (a18 : Memref sig .tc .vmem S64x1 .f32) (h18 : a18.IsWhole)
    (a19 : Memref sig .tc .vmem S64x1 .f32) (h19 : a19.IsWhole)
    (hp : (i 0).val = 2) (hj : (i 1).val ≠ 0) (hl : (i 1).val ≠ 48) (hc : k0_cond6 i = 1#1)
    (lg : Vec F S64x2048 .f32) (gb : Vec F S64x2048 .f32) (ax : Vec F S8x2048 .f32) (pv : Vec F S64x1 .i32) (ep : Vec F S1x1 .f32) (sm : Vec F S64x1 .i32) (lp : Vec F S64x1 .f32) (S : Scr F) (K : PUnit → sProp 𝕄) :
    iprop(holds c a2 lg ∗ holds c a3 gb ∗ holds c a4 ax ∗ holds c a5 pv ∗ holds c a6 ep ∗ holds c a7 sm ∗ holds c a8 lp ∗ holds c a9 (S).w ∗ holds c a10 (S).t ∗ holds c a11 (S).a ∗ holds c a12 (S).b ∗ holds c a13 (S).d ∗ holds c a14 (S).e ∗ holds c a15 (S).nv ∗ holds c a16 (S).pa ∗ holds c a17 (S).al ∗ holds c a18 (S).be ∗ holds c a19 (S).ga
        ∗ (iprop(holds c a2 lg ∗ holds c a3 gb ∗ holds c a4 ax ∗ holds c a5 pv ∗ holds c a6 ep ∗ holds c a7 sm ∗ holds c a8 lp ∗ holds c a9 ((phase2 i hc gb ax pv S)).w ∗ holds c a10 ((phase2 i hc gb ax pv S)).t ∗ holds c a11 ((phase2 i hc gb ax pv S)).a ∗ holds c a12 ((phase2 i hc gb ax pv S)).b ∗ holds c a13 ((phase2 i hc gb ax pv S)).d ∗ holds c a14 ((phase2 i hc gb ax pv S)).e ∗ holds c a15 ((phase2 i hc gb ax pv S)).nv ∗ holds c a16 ((phase2 i hc gb ax pv S)).pa ∗ holds c a17 ((phase2 i hc gb ax pv S)).al ∗ holds c a18 ((phase2 i hc gb ax pv S)).be ∗ holds c a19 ((phase2 i hc gb ax pv S)).ga) -∗ K ⟨⟩))
      ⊢ wp frame (wpE (defs₀ (F := F)) Variants.none c none) Set.univ (cc0__tc_body i a2 h2 a3 h3 a4 h4 a5 h5 a6 h6 a7 h7 a8 h8 a9 h9 a10 h10 a11 h11 a12 h12 a13 h13 a14 h14 a15 h15 a16 h16 a17 h17 a18 h18 a19 h19) K := by
  have c1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := fun h => by have := (guard_pj 0 (i 0) (i 1)).mp h; simp at this; omega
  have c3 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1) := fun h => by have := (guard_pj 1 (i 0) (i 1)).mp h; simp at this; omega
  have c5 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1) := fun h => by have := (guard_pj 2 (i 0) (i 1)).mp h; simp at this; omega
  have c2 : ¬ (Scalar.cmpi .ne (Scalar.extui (Scalar.cmpi .eq (BitVec.ofNat 32 (i 0).val) 0#32) : BitVec 32) 0#32 = 1#1) := fun h => by have := (guard_p 0 (i 0)).mp h; simp at this; omega
  have c4 : ¬ k0_cond4 i = 1#1 := fun h => by have := (cond4_iff i).mp h; omega
  have c6 : k0_cond6 i = 1#1 := (cond6_iff i).mpr hp
  have c7 : ¬ k0_cond7 i = 1#1 := fun h => by have := (cond7_iff i).mp h; omega
  simp only [cc0__tc_body_eq_skeleton]; unfold cc0__tc_body_skel
  iintro ⟨H2, H3, H4, H5, H6, H7, H8, H9, H10, H11, H12, H13, H14, H15, H16, H17, H18, H19, Hk⟩
  sl_exec
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iapply (pointsTo_rep_of_read (c : Thread nD τ) a11 _ fullShare _ ?_) $$ H11
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H12]
  · iapply (pointsTo_rep_of_read (c : Thread nD τ) a12 _ fullShare _ ?_) $$ H12
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H13]
  · iapply (pointsTo_rep_of_read (c : Thread nD τ) a13 _ fullShare _ ?_) $$ H13
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H14]
  · iexact H14
  isplitl [H15]
  · iexact H15
  isplitl [H16]
  · iexact H16
  isplitl [H17]
  · iexact H17
  isplitl [H18]
  · iexact H18
  iexact H19

set_option maxHeartbeats 2000000 in
/-- The body at the last point of phase 2: it leaves the scratch as `phase2` says and stores the two results, `outS` and `outL`. -/
theorem run_last2 (c : Dev nD) (i : grid0.Coords)
    (a2 : Memref sig .tc .vmem S64x2048 .f32) (h2 : a2.IsWhole)
    (a3 : Memref sig .tc .vmem S64x2048 .f32) (h3 : a3.IsWhole)
    (a4 : Memref sig .tc .vmem S8x2048 .f32) (h4 : a4.IsWhole)
    (a5 : Memref sig .tc .vmem S64x1 .i32) (h5 : a5.IsWhole)
    (a6 : Memref sig .tc .vmem S1x1 .f32) (h6 : a6.IsWhole)
    (a7 : Memref sig .tc .vmem S64x1 .i32) (h7 : a7.IsWhole)
    (a8 : Memref sig .tc .vmem S64x1 .f32) (h8 : a8.IsWhole)
    (a9 : Memref sig .tc .vmem S64x100352 .f32) (h9 : a9.IsWhole)
    (a10 : Memref sig .tc .vmem S64x100352 .f32) (h10 : a10.IsWhole)
    (a11 : Memref sig .tc .vmem S64x2048 .f32) (h11 : a11.IsWhole)
    (a12 : Memref sig .tc .vmem S64x2048 .f32) (h12 : a12.IsWhole)
    (a13 : Memref sig .tc .vmem S64x2048 .f32) (h13 : a13.IsWhole)
    (a14 : Memref sig .tc .vmem S64x2048 .f32) (h14 : a14.IsWhole)
    (a15 : Memref sig .tc .vmem S1x2048 .f32) (h15 : a15.IsWhole)
    (a16 : Memref sig .tc .vmem S64x8 .f32) (h16 : a16.IsWhole)
    (a17 : Memref sig .tc .vmem S64x1 .f32) (h17 : a17.IsWhole)
    (a18 : Memref sig .tc .vmem S64x1 .f32) (h18 : a18.IsWhole)
    (a19 : Memref sig .tc .vmem S64x1 .f32) (h19 : a19.IsWhole)
    (hp : (i 0).val = 2) (hj : (i 1).val = 48) (hc : k0_cond6 i = 1#1)
    (lg : Vec F S64x2048 .f32) (gb : Vec F S64x2048 .f32) (ax : Vec F S8x2048 .f32) (pv : Vec F S64x1 .i32) (ep : Vec F S1x1 .f32) (sm : Vec F S64x1 .i32) (lp : Vec F S64x1 .f32) (S : Scr F) (K : PUnit → sProp 𝕄) :
    iprop(holds c a2 lg ∗ holds c a3 gb ∗ holds c a4 ax ∗ holds c a5 pv ∗ holds c a6 ep ∗ holds c a7 sm ∗ holds c a8 lp ∗ holds c a9 (S).w ∗ holds c a10 (S).t ∗ holds c a11 (S).a ∗ holds c a12 (S).b ∗ holds c a13 (S).d ∗ holds c a14 (S).e ∗ holds c a15 (S).nv ∗ holds c a16 (S).pa ∗ holds c a17 (S).al ∗ holds c a18 (S).be ∗ holds c a19 (S).ga
        ∗ (iprop(holds c a2 lg ∗ holds c a3 gb ∗ holds c a4 ax ∗ holds c a5 pv ∗ holds c a6 ep ∗ holds c a7 (outS (phase2 i hc gb ax pv S)) ∗ holds c a8 (outL (phase2 i hc gb ax pv S)) ∗ holds c a9 ((phase2 i hc gb ax pv S)).w ∗ holds c a10 ((phase2 i hc gb ax pv S)).t ∗ holds c a11 ((phase2 i hc gb ax pv S)).a ∗ holds c a12 ((phase2 i hc gb ax pv S)).b ∗ holds c a13 ((phase2 i hc gb ax pv S)).d ∗ holds c a14 ((phase2 i hc gb ax pv S)).e ∗ holds c a15 ((phase2 i hc gb ax pv S)).nv ∗ holds c a16 ((phase2 i hc gb ax pv S)).pa ∗ holds c a17 ((phase2 i hc gb ax pv S)).al ∗ holds c a18 ((phase2 i hc gb ax pv S)).be ∗ holds c a19 ((phase2 i hc gb ax pv S)).ga) -∗ K ⟨⟩))
      ⊢ wp frame (wpE (defs₀ (F := F)) Variants.none c none) Set.univ (cc0__tc_body i a2 h2 a3 h3 a4 h4 a5 h5 a6 h6 a7 h7 a8 h8 a9 h9 a10 h10 a11 h11 a12 h12 a13 h13 a14 h14 a15 h15 a16 h16 a17 h17 a18 h18 a19 h19) K := by
  have c1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) := fun h => by have := (guard_pj 0 (i 0) (i 1)).mp h; simp at this; omega
  have c3 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1) := fun h => by have := (guard_pj 1 (i 0) (i 1)).mp h; simp at this; omega
  have c5 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1) := fun h => by have := (guard_pj 2 (i 0) (i 1)).mp h; simp at this; omega
  have c2 : ¬ (Scalar.cmpi .ne (Scalar.extui (Scalar.cmpi .eq (BitVec.ofNat 32 (i 0).val) 0#32) : BitVec 32) 0#32 = 1#1) := fun h => by have := (guard_p 0 (i 0)).mp h; simp at this; omega
  have c4 : ¬ k0_cond4 i = 1#1 := fun h => by have := (cond4_iff i).mp h; omega
  have c6 : k0_cond6 i = 1#1 := (cond6_iff i).mpr hp
  have c7 : k0_cond7 i = 1#1 := (cond7_iff i).mpr hj
  simp only [cc0__tc_body_eq_skeleton]; unfold cc0__tc_body_skel
  iintro ⟨H2, H3, H4, H5, H6, H7, H8, H9, H10, H11, H12, H13, H14, H15, H16, H17, H18, H19, Hk⟩
  sl_exec
  sl_step
  iapply Hk
  isplitl [H2]
  · iexact H2
  isplitl [H3]
  · iexact H3
  isplitl [H4]
  · iexact H4
  isplitl [H5]
  · iexact H5
  isplitl [H6]
  · iexact H6
  isplitl [H7]
  · iapply (pointsTo_rep_of_read (c : Thread nD τ) a7 _ fullShare _ ?_) $$ H7
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H8]
  · iapply (pointsTo_rep_of_read (c : Thread nD τ) a8 _ fullShare _ ?_) $$ H8
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H9]
  · iexact H9
  isplitl [H10]
  · iexact H10
  isplitl [H11]
  · iapply (pointsTo_rep_of_read (c : Thread nD τ) a11 _ fullShare _ ?_) $$ H11
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H12]
  · iapply (pointsTo_rep_of_read (c : Thread nD τ) a12 _ fullShare _ ?_) $$ H12
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H13]
  · iapply (pointsTo_rep_of_read (c : Thread nD τ) a13 _ fullShare _ ?_) $$ H13
    sl_unfold_run_names
    simp only [rd_S64x2048, rw_S64x2048, rc_S64x2048, rd_S64x8, rw_S64x8, rc_S64x8, rd_S1x2048, rw_S1x2048, rc_S1x2048, rd_S64x1, rw_S64x1, rc_S64x1, rd_S1x1, rw_S1x1, rc_S1x1, rd_S8x2048, rw_S8x2048, rc_S8x2048]; try simp only [rdp_S64x100352, rwp_S64x100352, rdp_S8x2048, rwp_S8x2048, rdp_S64x8, rwp_S64x8]
    try rfl
  isplitl [H14]
  · iexact H14
  isplitl [H15]
  · iexact H15
  isplitl [H16]
  · iexact H16
  isplitl [H17]
  · iexact H17
  isplitl [H18]
  · iexact H18
  iexact H19

end Cert.KernelIdeal.Hand
-- ==== Proof.KernelIdealStep.lean ====
/-
  The body at one grid point as one triple: `step` puts the six guarded pieces of `KernelIdealBody` together by the point's
  phase and block, and `body_triple` says that the body, run on the point's staging buffers and the scratch buffers,
  performs `step` and, at the last point, stores the two results.
-/
module

public import proofs.«01_k».proof.Proof.KernelIdealBody

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

/-- One grid point: the phase's first point clears or prepares its buffers, then the phase's own piece runs. -/
def step (i : grid0.Coords) (lg gb : Vec F S64x2048 .f32) (ax : Vec F S8x2048 .f32) (pv : Vec F S64x1 .i32) (ep : Vec F S1x1 .f32)
    (S : Scr F) : Scr F :=
  if (i 0).val = 0 then phase0 i ax pv (if (i 1).val = 0 then begin0 S else S)
  else if (i 0).val = 1 then phase1 i lg ax pv (if (i 1).val = 0 then begin1 S else S)
  else if h : k0_cond6 i = 1#1 then phase2 i h gb ax pv (if (i 1).val = 0 then begin2 ep S else S)
  else S

/-- Whether a point is the last one, which stores the results. -/
abbrev isLast (i : grid0.Coords) : Prop := (i 0).val = 2 ∧ (i 1).val = 48

/-- The eleven scratch buffers held at the contents `S`. -/
def scratchAt (c : Dev nD) (S : Scr F) : sProp 𝕄 :=
  iprop(holds c (Memref.whole cc0_scratch0) S.w ∗ holds c (Memref.whole cc0_scratch1) S.t ∗ holds c (Memref.whole cc0_scratch2) S.a ∗ holds c (Memref.whole cc0_scratch3) S.b ∗ holds c (Memref.whole cc0_scratch4) S.d ∗ holds c (Memref.whole cc0_scratch5) S.e ∗ holds c (Memref.whole cc0_scratch6) S.nv ∗ holds c (Memref.whole cc0_scratch7) S.pa ∗ holds c (Memref.whole cc0_scratch8) S.al ∗ holds c (Memref.whole cc0_scratch9) S.be ∗ holds c (Memref.whole cc0_scratch10) S.ga)

set_option maxHeartbeats 4000000 in
/-- The body at a grid point, on the point's staging buffers and the scratch buffers: the inputs stay, the scratch goes
    from `S` to `step … S`, and the last point stores the two results. -/
theorem body_triple (c : Dev nD) (t : Fin cfg0.N) (lg gb : Vec F S64x2048 .f32) (ax : Vec F S8x2048 .f32) (pv : Vec F S64x1 .i32)
    (ep : Vec F S1x1 .f32) (sm : Vec F S64x1 .i32) (lp : Vec F S64x1 .f32) (S S' : Scr F)
    (hS : step (grid0.coords t) lg gb ax pv ep S = S') (K : PUnit → sProp 𝕄) :
    iprop(holds c (st0_0 t) lg ∗ holds c (st0_1 t) gb ∗ holds c (st0_2 t) ax ∗ holds c (st0_3 t) pv ∗ holds c (st0_4 t) ep ∗ holds c (st0_5 t) sm ∗ holds c (st0_6 t) lp ∗ scratchAt c S
        ∗ (iprop(holds c (st0_0 t) lg ∗ holds c (st0_1 t) gb ∗ holds c (st0_2 t) ax ∗ holds c (st0_3 t) pv ∗ holds c (st0_4 t) ep ∗ holds c (st0_5 t) (if isLast (grid0.coords t) then outS S' else sm) ∗ holds c (st0_6 t) (if isLast (grid0.coords t) then outL S' else lp) ∗ scratchAt c S') -∗ K ⟨⟩))
      ⊢ wp frame (wpE (defs₀ (F := F)) Variants.none c none) Set.univ (bodyAt0 t) K := by
  have h0 : (grid0.coords t 0).val < 3 := (grid0.coords t 0).isLt
  have h1 : (grid0.coords t 1).val < 49 := (grid0.coords t 1).isLt
  refine BIBase.Entails.trans (Q := iprop(holds c (st0_0 t) lg ∗ holds c (st0_1 t) gb ∗ holds c (st0_2 t) ax ∗ holds c (st0_3 t) pv ∗ holds c (st0_4 t) ep ∗ holds c (st0_5 t) sm ∗ holds c (st0_6 t) lp ∗ holds c (Memref.whole cc0_scratch0) S.w ∗ holds c (Memref.whole cc0_scratch1) S.t ∗ holds c (Memref.whole cc0_scratch2) S.a ∗ holds c (Memref.whole cc0_scratch3) S.b ∗ holds c (Memref.whole cc0_scratch4) S.d ∗ holds c (Memref.whole cc0_scratch5) S.e ∗ holds c (Memref.whole cc0_scratch6) S.nv ∗ holds c (Memref.whole cc0_scratch7) S.pa ∗ holds c (Memref.whole cc0_scratch8) S.al ∗ holds c (Memref.whole cc0_scratch9) S.be ∗ holds c (Memref.whole cc0_scratch10) S.ga
        ∗ (iprop(holds c (st0_0 t) lg ∗ holds c (st0_1 t) gb ∗ holds c (st0_2 t) ax ∗ holds c (st0_3 t) pv ∗ holds c (st0_4 t) ep ∗ holds c (st0_5 t) (if isLast (grid0.coords t) then outS S' else sm) ∗ holds c (st0_6 t) (if isLast (grid0.coords t) then outL S' else lp) ∗ holds c (Memref.whole cc0_scratch0) S'.w ∗ holds c (Memref.whole cc0_scratch1) S'.t ∗ holds c (Memref.whole cc0_scratch2) S'.a ∗ holds c (Memref.whole cc0_scratch3) S'.b ∗ holds c (Memref.whole cc0_scratch4) S'.d ∗ holds c (Memref.whole cc0_scratch5) S'.e ∗ holds c (Memref.whole cc0_scratch6) S'.nv ∗ holds c (Memref.whole cc0_scratch7) S'.pa ∗ holds c (Memref.whole cc0_scratch8) S'.al ∗ holds c (Memref.whole cc0_scratch9) S'.be ∗ holds c (Memref.whole cc0_scratch10) S'.ga) -∗ K ⟨⟩))) ?_ ?_
  · unfold scratchAt
    iintro ⟨H0, H1, H2, H3, H4, H5, H6, ⟨G0, G1, G2, G3, G4, G5, G6, G7, G8, G9, G10⟩, Hk⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    iintro ⟨H0, H1, H2, H3, H4, H5, H6, G0, G1, G2, G3, G4, G5, G6, G7, G8, G9, G10⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    iexact G10
  by_cases p0 : (grid0.coords t 0).val = 0
  · have nl : ¬ isLast (grid0.coords t) := fun h => by have := h.1; omega
    by_cases j0 : (grid0.coords t 1).val = 0
    · have e : S' = phase0 (grid0.coords t) ax pv (begin0 S) := by rw [← hS]; unfold step; rw [if_pos p0, if_pos j0]
      subst e
      rw [if_neg nl, if_neg nl]
      exact run_first0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) p0 j0 lg gb ax pv ep sm lp S K
    · have e : S' = phase0 (grid0.coords t) ax pv S := by rw [← hS]; unfold step; rw [if_pos p0, if_neg j0]
      subst e
      rw [if_neg nl, if_neg nl]
      exact run_later0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) p0 j0 lg gb ax pv ep sm lp S K
  by_cases p1 : (grid0.coords t 0).val = 1
  · have nl : ¬ isLast (grid0.coords t) := fun h => by have := h.1; omega
    by_cases j0 : (grid0.coords t 1).val = 0
    · have e : S' = phase1 (grid0.coords t) lg ax pv (begin1 S) := by rw [← hS]; unfold step; rw [if_neg p0, if_pos p1, if_pos j0]
      subst e
      rw [if_neg nl, if_neg nl]
      exact run_first1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) p1 j0 lg gb ax pv ep sm lp S K
    · have e : S' = phase1 (grid0.coords t) lg ax pv S := by rw [← hS]; unfold step; rw [if_neg p0, if_pos p1, if_neg j0]
      subst e
      rw [if_neg nl, if_neg nl]
      exact run_later1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) p1 j0 lg gb ax pv ep sm lp S K
  have p2 : (grid0.coords t 0).val = 2 := by omega
  have hc : k0_cond6 (grid0.coords t) = 1#1 := (cond6_iff _).mpr p2
  by_cases j0 : (grid0.coords t 1).val = 0
  · have nl : ¬ isLast (grid0.coords t) := fun h => by have := h.2; omega
    have e : S' = phase2 (grid0.coords t) hc gb ax pv (begin2 ep S) := by rw [← hS]; unfold step; rw [if_neg p0, if_neg p1, dif_pos hc, if_pos j0]
    subst e
    rw [if_neg nl, if_neg nl]
    exact run_first2 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) p2 j0 hc lg gb ax pv ep sm lp S K
  by_cases jl : (grid0.coords t 1).val = 48
  · have hl : isLast (grid0.coords t) := ⟨p2, jl⟩
    have e : S' = phase2 (grid0.coords t) hc gb ax pv S := by rw [← hS]; unfold step; rw [if_neg p0, if_neg p1, dif_pos hc, if_neg j0]
    subst e
    rw [if_pos hl, if_pos hl]
    exact run_last2 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) p2 jl hc lg gb ax pv ep sm lp S K
  · have nl : ¬ isLast (grid0.coords t) := fun h => jl h.2
    have e : S' = phase2 (grid0.coords t) hc gb ax pv S := by rw [← hS]; unfold step; rw [if_neg p0, if_neg p1, dif_pos hc, if_neg j0]
    subst e
    rw [if_neg nl, if_neg nl]
    exact run_later2 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) p2 j0 jl hc lg gb ax pv ep sm lp S K

end Cert.KernelIdeal.Hand

end
-- ==== Proof.Spec.lean ====
/-
  One row of the computation, over the extended reals, in plain formulas: the weights, the sums, the mixed probability
  and the score of every column, and the running maximum of a lane.
-/
module

public import Idealize.ShloMosaic.PureOps.Ideal
public import Idealize.ShloMosaic.Lib.IdealHost

@[expose] public section

noncomputable section

namespace Cert.Spec

open Idealize.ShloMosaic
open scoped Classical

/-- The mask's threshold. -/
abbrev thr : EReal := Ideal.ofBits .f32 0x3D4CCCCD#32
/-- The small constant under the logarithms. -/
abbrev tiny : EReal := Ideal.ofBits .f32 0x2B8CBCCC#32
/-- The kernel's cap on a Gumbel draw. -/
abbrev cap : EReal := Ideal.ofBits .f32 0x41600000#32
/-- The stand-in column of a lane that did not reach the maximum. -/
abbrev big : EReal := Ideal.ofBits .f32 0x7F7FC99E#32

/-- What a row of the inputs holds, column by column (columns past the last object hold zeros in the tables). -/
structure Row where
  lg : ℕ → EReal
  ct : Fin 3 → ℕ → EReal
  mf : ℕ → EReal
  ep : EReal
  pb : ℕ

namespace Row

variable (R : Row)

/-- The column is switched on. -/
def on (n : ℕ) : Prop := thr < R.mf n
/-- The offset from the previous object, one coordinate. -/
def dd (k : Fin 3) (n : ℕ) : EReal := R.ct k n - R.ct k R.pb
/-- The squared distance. -/
def d2 (n : ℕ) : EReal := (R.dd 0 n * R.dd 0 n + R.dd 1 n * R.dd 1 n) + R.dd 2 n * R.dd 2 n
/-- The column is switched on and away from the previous object. -/
def live (n : ℕ) : Prop := R.on n ∧ R.d2 n ≠ 0
/-- The weight. -/
def w (n : ℕ) : EReal := if R.live n then Ideal.div 1 (R.d2 n) else 0
/-- The exponential of the logit. -/
def t (n : ℕ) : EReal := Ideal.exp (R.lg n)
/-- The weighted exponential. -/
def wt (n : ℕ) : EReal := if R.live n then R.t n * Ideal.div 1 (R.d2 n) else 0
/-- The exponential where switched on. -/
def mt (n : ℕ) : EReal := if R.on n then R.t n else 0
/-- The exponential at the previous object. -/
def pt (n : ℕ) : EReal := if n = R.pb then R.t n else 0
/-- One where switched on. -/
def cn (n : ℕ) : EReal := if R.on n then 1 else 0
/-- The sum over the columns of the padded table. -/
def tot (f : ℕ → EReal) : EReal := ∑ l : Fin 2048, ∑ j ∈ Finset.range 49, f (2048 * j + l.val)
/-- The allowed exponentials' sum. -/
def t2 : EReal := tot R.mt - if R.on R.pb then tot R.pt else 0
/-- The number of allowed columns. -/
def nv : EReal := tot R.cn - if R.on R.pb then 1 else 0
/-- The normalizer. -/
def zn : EReal := Ideal.div (tot R.wt) (tot R.w) + tiny * R.t2
/-- The factor of the weights. -/
def al : EReal := if 0 < tot R.w then Ideal.div (1 - R.ep) (R.zn * tot R.w) else 0
/-- The factor beside them. -/
def be : EReal := if 0 < tot R.w then Ideal.div ((1 - R.ep) * tiny) R.zn else Ideal.div (1 - R.ep) R.t2
/-- The uniform part. -/
def ga : EReal := Ideal.div R.ep (max R.nv 1)
/-- The mixed probability. -/
def pe (n : ℕ) : EReal := if R.on n ∧ n ≠ R.pb then R.t n * (R.al * R.w n + R.be) + R.ga else 0
/-- Its logarithm. -/
def lp (n : ℕ) : EReal := Ideal.log (R.pe n + tiny)
/-- The score, with the draws `g`. -/
def sc (g : ℕ → EReal) (n : ℕ) : EReal := R.lp n + min (g n) cap

end Row

/-! ## Lanes -/

/-- What a lane's accumulators hold after `n` blocks: nothing above minus infinity yet, or the first of its columns with the
    largest score, that column and its log-probability. -/
def Lane (sc lp : ℕ → EReal) (l n : ℕ) (a b d : EReal) : Prop :=
  (a = ⊥ ∧ b = 0 ∧ d = 0 ∧ ∀ j < n, sc (2048 * j + l) = ⊥) ∨
  ∃ j < n, a = sc (2048 * j + l) ∧ b = (((2048 * j + l : ℕ) : ℝ) : EReal) ∧ d = lp (2048 * j + l) ∧ a ≠ ⊥ ∧
    (∀ i < n, sc (2048 * i + l) ≤ a) ∧ ∀ i < j, sc (2048 * i + l) < a

/-- Before any block a lane holds nothing. -/
theorem Lane.start (sc lp : ℕ → EReal) (l : ℕ) : Lane sc lp l 0 ⊥ 0 0 :=
  .inl ⟨rfl, rfl, rfl, fun j h => absurd h (Nat.not_lt_zero j)⟩

/-- A block's column takes over exactly where its score is larger. -/
theorem Lane.step {sc lp : ℕ → EReal} {l n : ℕ} {a b d : EReal} (h : Lane sc lp l n a b d) :
    Lane sc lp l (n + 1) (if a < sc (2048 * n + l) then sc (2048 * n + l) else a)
      (if a < sc (2048 * n + l) then (((2048 * n + l : ℕ) : ℝ) : EReal) else b)
      (if a < sc (2048 * n + l) then lp (2048 * n + l) else d) := by
  by_cases hs : a < sc (2048 * n + l)
  · simp only [if_pos hs]
    refine .inr ⟨n, n.lt_succ_self, rfl, rfl, rfl, (lt_of_le_of_lt bot_le hs).ne', ?_, ?_⟩
    · intro i hi
      rcases Nat.lt_succ_iff_lt_or_eq.mp hi with hi | rfl
      · rcases h with ⟨ha, -, -, hb⟩ | ⟨j, hj, -, -, -, -, hm, -⟩
        · rw [hb i hi]; exact bot_le
        · exact (hm i hi).trans hs.le
      · exact le_rfl
    · intro i hi
      rcases h with ⟨ha, -, -, hb⟩ | ⟨j, hj, -, -, -, -, hm, -⟩
      · rw [hb i hi, ← ha]; exact hs
      · exact (hm i hi).trans_lt hs
  · simp only [if_neg hs]
    have hs' := not_lt.mp hs
    rcases h with ⟨ha, hb, hd, hall⟩ | ⟨j, hj, h1, h2, h3, h4, hm, hf⟩
    · refine .inl ⟨ha, hb, hd, fun i hi => ?_⟩
      rcases Nat.lt_succ_iff_lt_or_eq.mp hi with hi | rfl
      · exact hall i hi
      · rw [ha] at hs'; exact le_bot_iff.mp hs'
    · refine .inr ⟨j, hj.trans n.lt_succ_self, h1, h2, h3, h4, fun i hi => ?_, hf⟩
      rcases Nat.lt_succ_iff_lt_or_eq.mp hi with hi | rfl
      · exact hm i hi
      · exact hs'

/-- Natural numbers equal as extended reals are equal. -/
theorem nat_coe_inj {m n : ℕ} (h : (((m : ℕ) : ℝ) : EReal) = ((n : ℕ) : ℝ)) : m = n := by
  exact_mod_cast EReal.coe_eq_coe_iff.mp h

/-- The filler is at least every column's number. -/
theorem big_ge : (((100352 : ℕ) : ℝ) : EReal) ≤ big := by
  have : big = ((16763294 * 2 ^ (104 : ℕ) : ℝ) : EReal) := by
    simp [Ideal.ofBits, Ideal.ieee, -EReal.coe_mul]
  rw [this, EReal.coe_le_coe_iff]; norm_num

section Final

variable {sc lp : ℕ → EReal} {a b d : Fin 2048 → EReal} (hl : ∀ l : Fin 2048, Lane sc lp l.val 49 (a l) (b l) (d l))
  {c : ℕ} (hc : c < 100352) (hM : ∀ n < 100352, sc n ≤ sc c) (hlt : ∀ n < c, sc n < sc c) (hbot : sc c ≠ ⊥)

include hl hM in
/-- No lane's best is above the winner's score. -/
theorem lane_le (l : Fin 2048) : a l ≤ sc c := by
  rcases hl l with ⟨h, -⟩ | ⟨j, hj, h, -⟩
  · rw [h]; exact bot_le
  · rw [h]; exact hM _ (by omega)

include hl hc hM hlt hbot in
/-- The winner's lane holds the winner's score, column and log-probability. -/
theorem lane_at : a ⟨c % 2048, Nat.mod_lt _ (by norm_num)⟩ = sc c ∧ b ⟨c % 2048, Nat.mod_lt _ (by norm_num)⟩ = ((c : ℝ) : EReal)
    ∧ d ⟨c % 2048, Nat.mod_lt _ (by norm_num)⟩ = lp c := by
  have e : 2048 * (c / 2048) + c % 2048 = c := Nat.div_add_mod c 2048
  rcases hl ⟨c % 2048, Nat.mod_lt _ (by norm_num)⟩ with ⟨-, -, -, h⟩ | ⟨j, hj, h1, h2, h3, h4, hm, hf⟩
  · exact absurd (e ▸ h (c / 2048) (by omega)) hbot
  · dsimp only at h1 h2 h3 hm hf
    have hle := hm (c / 2048) (by omega)
    rw [e] at hle
    have hge : a ⟨c % 2048, Nat.mod_lt _ (by norm_num)⟩ ≤ sc c := lane_le hl hM _
    have ha := le_antisymm hge hle
    have hj' : j = c / 2048 := by
      rcases lt_trichotomy j (c / 2048) with hlt' | h | hgt
      · have := hlt (2048 * j + c % 2048) (by omega)
        rw [← h1, ha] at this; exact absurd this (lt_irrefl _)
      · exact h
      · have := hf _ hgt
        rw [e, ha] at this; exact absurd this (lt_irrefl _)
    subst hj'
    rw [e] at h1 h2 h3
    exact ⟨h1, h2, h3⟩

include hl hc hM hlt hbot in
/-- The largest lane value is the largest score. -/
theorem lanes_max : Finset.fold max ⊥ a Finset.univ = sc c := by
  refine le_antisymm (Finset.fold_max_le _ |>.mpr ⟨bot_le, fun l _ => lane_le hl hM l⟩) ?_
  exact (Finset.le_fold_max _).mpr (.inr ⟨_, Finset.mem_univ _, (lane_at hl hc hM hlt hbot).1.ge⟩)

include hl hc hM hlt hbot in
/-- The smallest column among the lanes that reached it is the first column with the largest score. -/
theorem lanes_min : Finset.fold min ⊤ (fun l => if a l = sc c then b l else big) Finset.univ = ((c : ℝ) : EReal) := by
  refine le_antisymm ?_ ?_
  · refine (Finset.fold_min_le _).mpr (.inr ⟨⟨c % 2048, Nat.mod_lt _ (by norm_num)⟩, Finset.mem_univ _, ?_⟩)
    rw [if_pos (lane_at hl hc hM hlt hbot).1, (lane_at hl hc hM hlt hbot).2.1]
  · refine (Finset.le_fold_min _).mpr ⟨le_top, fun l _ => ?_⟩
    split_ifs with h
    · rcases hl l with ⟨h', -⟩ | ⟨j, hj, h1, h2, -⟩
      · exact absurd (h.symm.trans h') hbot
      · rw [h2]
        by_contra hcon
        have : 2048 * j + l.val < c := by
          have := not_le.mp hcon
          exact_mod_cast this
        exact absurd (h1.symm.trans h) (hlt _ this).ne
    · refine le_trans ?_ big_ge
      exact_mod_cast hc.le

include hl hc hM hlt hbot in
/-- The lanes at that column hold its log-probability once, and zeros beside it. -/
theorem lanes_sum : (∑ l : Fin 2048, if b l = ((c : ℝ) : EReal) then d l else 0) = lp c := by
  rw [Finset.sum_eq_single (⟨c % 2048, Nat.mod_lt _ (by norm_num)⟩ : Fin 2048)]
  · rw [if_pos (lane_at hl hc hM hlt hbot).2.1, (lane_at hl hc hM hlt hbot).2.2]
  · intro l _ hne
    split_ifs with h
    · rcases hl l with ⟨-, -, h', -⟩ | ⟨j, hj, h1, h2, -⟩
      · exact h'
      · exfalso
        have : 2048 * j + l.val = c := nat_coe_inj (h2.symm.trans h)
        exact hne (Fin.ext (by simp only; omega))
    · rfl
  · intro h; exact absurd (Finset.mem_univ _) h

end Final

/-- A column's number, as a float, is read back as itself. -/
theorem fptosi_nat (c : ℕ) (hc : c < 100352) : Ideal.fptosi 32 ((c : ℝ) : EReal) = BitVec.ofNat 32 c := by
  have h : Ideal.toIntClamped (-(2 ^ (32 - 1) : Nat)) ((2 ^ (32 - 1) : Nat) - 1) ((c : ℝ) : EReal) = (c : ℤ) := by
    show max _ (min _ (if (0 : ℝ) ≤ (c : ℝ) then ⌊(c : ℝ)⌋ else ⌈(c : ℝ)⌉)) = _
    rw [if_pos (Nat.cast_nonneg c), Int.floor_natCast]
    omega
  rw [Ideal.fptosi, h]
  simp

/-- A total is the sum over all columns. -/
theorem tot_eq (f : ℕ → EReal) : Row.tot f = ∑ n ∈ Finset.range 100352, f n := by
  have key : ∀ J : ℕ, (∑ j ∈ Finset.range J, ∑ l ∈ Finset.range 2048, f (2048 * j + l)) = ∑ n ∈ Finset.range (2048 * J), f n := by
    intro J
    induction J with
    | zero => simp
    | succ J ih => rw [Finset.sum_range_succ, ih, Nat.mul_succ, Finset.sum_range_add]
  unfold Row.tot
  rw [Finset.sum_comm, ← key 49]
  exact Finset.sum_congr rfl fun j _ => (Finset.sum_range fun l => f (2048 * j + l)).symm

end Cert.Spec

end
-- ==== Proof.Pay.lean ====
/-
  What the kernel's vector expressions hold at an index, over the extended reals: each reading is the expression's own
  arithmetic at that row and lane.
-/
module

public import proofs.«01_k».proof.Proof.Gen.KernelIdeal.Skeleton
public import proofs.«01_k».proof.Proof.Spec
public import Idealize.ShloMosaic.Lib.Pointwise
public import Idealize.ShloMosaic.Lib.StableHlo.Predicate

@[expose] public section

set_option maxRecDepth 16384

noncomputable section

namespace Cert.KernelIdeal.Pay

open Cert.KernelIdeal Cert.KernelIdeal.Gen Cert.Spec
open Idealize.ShloMosaic Idealize.ShloMosaic.TcCoe Idealize.SL.Sem

/-- A vector of extended reals. -/
abbrev RVec (s : Shape) : Type := FVec Ideal s .f32

variable (b : Fin 64) (l : Fin 2048)

/-- The squared distance of a column's center from a row's previous one. -/
theorem pay6_at (cx cy cz : RVec S1x2048) (px py pz : RVec S64x1) :
    k0_pay6 (F := Ideal) cx cy cz px py pz (ix2 b l) =
      ((cx (ix2 0 l) - px (ix2 b 0)) * (cx (ix2 0 l) - px (ix2 b 0)) + (cy (ix2 0 l) - py (ix2 b 0)) * (cy (ix2 0 l) - py (ix2 b 0)))
        + (cz (ix2 0 l) - pz (ix2 b 0)) * (cz (ix2 0 l) - pz (ix2 b 0)) := by
  pointwise [k0_pay6]

/-- Whether a column's mask is above the threshold. -/
theorem pay34_at (r : RVec S1x2048) : k0_pay34 (F := Ideal) r (ix2 0 l) = BitVec.ofBool (decide (thr < r (ix2 0 l))) := by
  pointwise [k0_pay34]

/-- Whether a column is on and its squared distance is not zero. -/
theorem pay7_at (mr : IVec S1x2048 1) (cx cy cz : RVec S1x2048) (px py pz : RVec S64x1) :
    k0_pay7 (F := Ideal) mr cx cy cz px py pz (ix2 b l) =
      IntOp.andi (mr (ix2 0 l)) (BitVec.ofBool (decide (k0_pay6 (F := Ideal) cx cy cz px py pz (ix2 b l) ≠ 0))) := by
  pointwise [k0_pay7]

/-- The reciprocal of the squared distance. -/
theorem pay8_at (cx cy cz : RVec S1x2048) (px py pz : RVec S64x1) :
    k0_pay8 (F := Ideal) cx cy cz px py pz (ix2 b l) = Ideal.div 1 (k0_pay6 (F := Ideal) cx cy cz px py pz (ix2 b l)) := by
  pointwise [k0_pay8]

/-- The exponential of a logit. -/
theorem pay9_at (x : RVec S64x2048) : k0_pay9 (F := Ideal) x (ix2 b l) = Ideal.exp (x (ix2 b l)) := by
  pointwise [k0_pay9]

/-- The weight: the reciprocal where the column is on and apart, else zero. -/
theorem pay10_at (mr : IVec S1x2048 1) (cx cy cz : RVec S1x2048) (px py pz : RVec S64x1) :
    k0_pay10 (F := Ideal) mr cx cy cz px py pz (ix2 b l) =
      Scalar.select (k0_pay7 (F := Ideal) mr cx cy cz px py pz (ix2 b l)) (k0_pay8 (F := Ideal) cx cy cz px py pz (ix2 b l)) 0 := by
  pointwise [k0_pay10]

/-- The stored weight is the weight. -/
theorem pay11_at (mr : IVec S1x2048 1) (cx cy cz : RVec S1x2048) (px py pz : RVec S64x1) :
    k0_pay11 (F := Ideal) mr cx cy cz px py pz (ix2 b l) = k0_pay10 (F := Ideal) mr cx cy cz px py pz (ix2 b l) := by
  pointwise [k0_pay11]

/-- The lanes' sum of the weights. -/
theorem pay12_at (x : RVec S64x2048) : k0_pay12 (F := Ideal) x (ix2 b 0) = ∑ l, x (ix2 b l) := by
  pointwise [k0_pay12]

/-- The lanes' sum of weight times exponential. -/
theorem pay13_at (x : RVec S64x2048) : k0_pay13 (F := Ideal) x (ix2 b 0) = ∑ l, x (ix2 b l) := by
  pointwise [k0_pay13]

/-- The lanes' sum of the switched-on exponentials, less the previous object's where it is on. -/
theorem pay15_at (x y : RVec S64x2048) (z : RVec S64x1) :
    k0_pay15 (F := Ideal) x y z (ix2 b 0) = ∑ l, x (ix2 b l) - if thr < z (ix2 b 0) then ∑ l, y (ix2 b l) else 0 := by
  pointwise [k0_pay15, k0_pay14]

/-- One minus the mixing weight. -/
theorem pay16_at (x : RVec S1x1) : k0_pay16 (F := Ideal) x (ix2 0 0) = 1 - x (ix2 0 0) := by
  pointwise [k0_pay16]

/-- The count of what is on, less one where the previous object is, and at least one. -/
theorem pay17_at (x : RVec S1x2048) (z : RVec S64x1) :
    k0_pay17 (F := Ideal) x z (ix2 b 0) = max (∑ l, x (ix2 0 l) - if thr < z (ix2 b 0) then 1 else 0) 1 := by
  pointwise [k0_pay17, k0_pay14]

/-- Whether the weights' sum is positive. -/
theorem pay18_at (x : RVec S64x2048) :
    k0_pay18 (F := Ideal) x (ix2 b 0) = BitVec.ofBool (decide (0 < ∑ l, x (ix2 b l))) := by
  pointwise [k0_pay18, k0_pay12]

/-- The coefficient of weight times exponential: a quotient where the weights' sum is positive, else zero. -/
theorem pay20_at (x y z : RVec S64x1) (o : RVec S1x1) (p : IVec S64x1 1) :
    k0_pay20 (F := Ideal) x y z o p (ix2 b 0) =
      Scalar.select (p (ix2 b 0)) (Ideal.div (o (ix2 0 0))
        ((Ideal.div (y (ix2 b 0)) (x (ix2 b 0)) + tiny * z (ix2 b 0)) * x (ix2 b 0))) 0 := by
  pointwise [k0_pay20, k0_pay19]

/-- The coefficient of the exponential alone, in the two cases of the weights' sum. -/
theorem pay21_at (x y z : RVec S64x1) (o : RVec S1x1) (p : IVec S64x1 1) :
    k0_pay21 (F := Ideal) x y z o p (ix2 b 0) =
      Scalar.select (p (ix2 b 0)) (Ideal.div (o (ix2 0 0) * tiny) (Ideal.div (y (ix2 b 0)) (x (ix2 b 0)) + tiny * z (ix2 b 0)))
        (Ideal.div (o (ix2 0 0)) (z (ix2 b 0))) := by
  pointwise [k0_pay21, k0_pay19]

/-- The mixing weight divided by the count. -/
theorem pay22_at (x : RVec S64x1) (e : RVec S1x1) :
    k0_pay22 (F := Ideal) x e (ix2 b 0) = Ideal.div (e (ix2 0 0)) (x (ix2 b 0)) := by
  pointwise [k0_pay22]

/-- The best score starts at minus infinity. -/
theorem pay23_at : k0_pay23 (F := Ideal) (ix2 b l) = ⊥ := by
  pointwise [k0_pay23]
  simp [Ideal.ofBits, Ideal.ieee]

/-- The best column starts at zero. -/
theorem pay24_at : k0_pay24 (F := Ideal) (ix2 b l) = 0 := by
  pointwise [k0_pay24]

/-- The best log-probability starts at zero. -/
theorem pay47_at : k0_pay47 (F := Ideal) (Scalar.ofBits .f32 0x00000000#32) (ix2 b l) = 0 := by
  pointwise [k0_pay47]

/-- The log-probability: of the mixed probability where the column may be chosen, of the small constant elsewhere. -/
theorem pay25_at (oh : IVec S64x2048 1) (mr : IVec S1x2048 1) (w t : RVec S64x2048) (al be ga : RVec S64x1) :
    k0_pay25 (F := Ideal) oh mr w t al be ga (ix2 b l) =
      Ideal.log (Scalar.select (IntOp.andi (mr (ix2 0 l)) (IntOp.xori (oh (ix2 b l)) 1#1))
        (t (ix2 b l) * (al (ix2 b 0) * w (ix2 b l) + be (ix2 b 0)) + ga (ix2 b 0)) 0 + tiny) := by
  pointwise [k0_pay25]

/-- The score: the log-probability plus the draw, capped. -/
theorem pay26_at (oh : IVec S64x2048 1) (mr : IVec S1x2048 1) (w t : RVec S64x2048) (al be ga : RVec S64x1) (g : RVec S64x2048) :
    k0_pay26 (F := Ideal) oh mr w t al be ga g (ix2 b l) =
      k0_pay25 (F := Ideal) oh mr w t al be ga (ix2 b l) + min (g (ix2 b l)) cap := by
  pointwise [k0_pay26]

/-- Whether the score is above the lane's best. -/
theorem pay27_at (oh : IVec S64x2048 1) (mr : IVec S1x2048 1) (w t : RVec S64x2048) (al be ga : RVec S64x1) (g x : RVec S64x2048) :
    k0_pay27 (F := Ideal) oh mr w t al be ga g x (ix2 b l) =
      BitVec.ofBool (decide (x (ix2 b l) < k0_pay26 (F := Ideal) oh mr w t al be ga g (ix2 b l))) := by
  pointwise [k0_pay27]

/-- The lane's best score after the block: the block's score where it is larger, else the one before. -/
theorem pay28_at (oh : IVec S64x2048 1) (mr : IVec S1x2048 1) (w t : RVec S64x2048) (al be ga : RVec S64x1) (g x y : RVec S64x2048) :
    k0_pay28 (F := Ideal) oh mr w t al be ga g x y (ix2 b l) =
      Scalar.select (k0_pay27 (F := Ideal) oh mr w t al be ga g x (ix2 b l))
        (k0_pay26 (F := Ideal) oh mr w t al be ga g (ix2 b l)) (y (ix2 b l)) := by
  pointwise [k0_pay28]

/-- A choice between two arrays, by a condition at each index. -/
theorem pay1_at (u : IVec S64x2048 1) (x y : RVec S64x2048) :
    k0_pay1 (F := Ideal) u x y (ix2 b l) = Scalar.select (u (ix2 b l)) (x (ix2 b l)) (y (ix2 b l)) := by
  pointwise [k0_pay1]

/-- A choice between two arrays, by a condition at each index. -/
theorem pay2_at (x : RVec S64x2048) (u : IVec S64x2048 1) (y : RVec S64x2048) :
    k0_pay2 (F := Ideal) x u y (ix2 b l) = Scalar.select (u (ix2 b l)) (x (ix2 b l)) (y (ix2 b l)) := by
  pointwise [k0_pay2]

/-- The gathered rows start at zero. -/
theorem pay30_at (k : Fin 8) : k0_pay30 (F := Ideal) (ix2 b k) = 0 := by
  pointwise [k0_pay30]

/-- The count starts at zero. -/
theorem pay31_at : k0_pay31 (F := Ideal) (ix2 0 l) = 0 := by
  pointwise [k0_pay31]

/-- The first lane accumulator starts at zero. -/
theorem pay38_at : k0_pay38 (F := Ideal) (ix2 b l) = 0 := by
  pointwise [k0_pay38, k0_pay37]

/-- The second lane accumulator starts at zero. -/
theorem pay39_at : k0_pay39 (F := Ideal) (ix2 b l) = 0 := by
  pointwise [k0_pay39, k0_pay37]

/-- The third lane accumulator starts at zero. -/
theorem pay40_at : k0_pay40 (F := Ideal) (ix2 b l) = 0 := by
  pointwise [k0_pay40, k0_pay37]

/-- The fourth lane accumulator starts at zero. -/
theorem pay41_at : k0_pay41 (F := Ideal) (ix2 b l) = 0 := by
  pointwise [k0_pay41, k0_pay37]

/-- A column's number as a word, from the block's number and the lane. -/
theorem col_word (i : grid0.Coords) :
    IntOp.addi (Scalar.muli (BitVec.ofNat 32 (i 1).val) 2048#32) (BitVec.ofNat 32 l.val) = BitVec.ofNat 32 (2048 * (i 1).val + l.val) := by
  show BitVec.ofNat 32 (i 1).val * 2048#32 + BitVec.ofNat 32 l.val = _
  rw [← BitVec.ofNat_mul, ← BitVec.ofNat_add, Nat.mul_comm]

/-- A column's number as a word. -/
theorem pay32_at (i : grid0.Coords) : k0_pay32 i (ix2 b l) = BitVec.ofNat 32 (2048 * (i 1).val + l.val) := by
  rw [← col_word]
  pointwise [k0_pay32]

/-- A column's number as a real. -/
theorem pay29_at (i : grid0.Coords) :
    k0_pay29 (F := Ideal) (k0_pay32 i) (ix2 b l) = (((2048 * (i 1).val + l.val : ℕ) : ℝ) : EReal) := by
  have h : k0_pay29 (F := Ideal) (k0_pay32 i) (ix2 b l) = (((k0_pay32 i (ix2 b l)).toInt : ℝ) : EReal) := by
    pointwise [k0_pay29]
    rfl
  have hj : (i 1).val < 49 := (i 1).isLt
  have e : (BitVec.ofNat 32 (2048 * (i 1).val + l.val)).toInt = ((2048 * (i 1).val + l.val : ℕ) : ℤ) := by
    rw [BitVec.toInt_eq_toNat_cond, BitVec.toNat_ofNat]
    omega
  rw [h, pay32_at b l i, e, Int.cast_natCast]

/-- Whether a column is the row's previous object. -/
theorem pay33_at (i : grid0.Coords) (pv : IVec S64x1 32) (p : ℕ) (hp : p < 100000) (hpv : pv (ix2 b 0) = BitVec.ofNat 32 p) :
    k0_pay33 (F := Ideal) i pv (ix2 b l) = BitVec.ofBool (decide (2048 * (i 1).val + l.val = p)) := by
  have h : k0_pay33 (F := Ideal) i pv (ix2 b l) = IntOp.cmpi .eq (k0_pay32 i (ix2 b l)) (pv (ix2 b 0)) := by
    pointwise [k0_pay33]
  have hj : (i 1).val < 49 := (i 1).isLt
  rw [h, pay32_at, hpv]
  have : (BitVec.ofNat 32 (2048 * (i 1).val + l.val) = BitVec.ofNat 32 p) ↔ 2048 * (i 1).val + l.val = p := by
    constructor
    · intro e
      have := congrArg BitVec.toNat e
      rw [BitVec.toNat_ofNat, BitVec.toNat_ofNat] at this
      omega
    · intro e; rw [e]
  by_cases hh : 2048 * (i 1).val + l.val = p
  · simp [IntOp.cmpi, hh]
  · have := mt this.mp hh
    simp [IntOp.cmpi, beq_eq_false_iff_ne.mpr this, hh]

/-- The gathered rows after a block: what was there plus the table's columns weighted by whether each is the previous object. -/
theorem pay35_at (i : grid0.Coords) (pv : IVec S64x1 32) (pa : RVec S64x8) (ax : RVec S8x2048) (k : Fin 8) :
    k0_pay35 (F := Ideal) i pv pa ax (ix2 b k) =
      pa (ix2 b k) + ∑ x, ((((k0_pay33 (F := Ideal) i pv (ix2 b x)).setWidth 32).toInt : ℝ) : EReal) * ax (ix2 k x) := by
  pointwise [k0_pay35]
  rfl

/-- The count after a block: one more where the column is on. -/
theorem pay36_at (r v : RVec S1x2048) :
    k0_pay36 (F := Ideal) r v (ix2 0 l) = v (ix2 0 l) + ((((k0_pay34 (F := Ideal) r (ix2 0 l)).setWidth 32).toInt : ℝ) : EReal) := by
  pointwise [k0_pay36]
  rfl

/-- The stored exponential is the exponential. -/
theorem pay42_at (x : RVec S64x2048) : k0_pay42 (F := Ideal) x (ix2 b l) = x (ix2 b l) := by
  pointwise [k0_pay42]

/-- The first lane accumulator takes the weight. -/
theorem pay43_at (x y : RVec S64x2048) : k0_pay43 (F := Ideal) x y (ix2 b l) = y (ix2 b l) + x (ix2 b l) := by
  pointwise [k0_pay43]

/-- The second lane accumulator takes weight times exponential. -/
theorem pay44_at (wm : IVec S64x2048 1) (r t b' : RVec S64x2048) :
    k0_pay44 (F := Ideal) wm r t b' (ix2 b l) = b' (ix2 b l) + Scalar.select (wm (ix2 b l)) (t (ix2 b l) * r (ix2 b l)) 0 := by
  pointwise [k0_pay44]

/-- The third lane accumulator takes the exponential where the column is on. -/
theorem pay45_at (r : RVec S1x2048) (t b' : RVec S64x2048) :
    k0_pay45 (F := Ideal) r t b' (ix2 b l) = b' (ix2 b l) + Scalar.select (k0_pay34 (F := Ideal) r (ix2 0 l)) (t (ix2 b l)) 0 := by
  pointwise [k0_pay45]

/-- The fourth lane accumulator takes the exponential where the column is the previous object. -/
theorem pay46_at (i : grid0.Coords) (pv : IVec S64x1 32) (t b' : RVec S64x2048) :
    k0_pay46 (F := Ideal) i pv t b' (ix2 b l) = b' (ix2 b l) + Scalar.select (k0_pay33 (F := Ideal) i pv (ix2 b l)) (t (ix2 b l)) 0 := by
  pointwise [k0_pay46]

/-- The smallest column among the lanes whose best score is the largest. -/
theorem pay3_at (x y : RVec S64x2048) :
    k0_pay3 (F := Ideal) x y (ix2 b 0) =
      Finset.fold min ⊤ (fun l => if x (ix2 b l) = Finset.fold max ⊥ (fun l' => x (ix2 b l')) Finset.univ then y (ix2 b l) else big) Finset.univ := by
  have e1 : Ideal.ofBits .f32 0xFF800000#32 = ⊥ := by simp [Ideal.ofBits, Ideal.ieee]
  have e2 : Ideal.ofBits .f32 0x7F800000#32 = ⊤ := by simp [Ideal.ofBits, Ideal.ieee]
  rw [← e1, ← e2]
  pointwise [k0_pay3]

/-- The first result is that column as an integer. -/
theorem pay4_at (x y : RVec S64x2048) : k0_pay4 (F := Ideal) x y (ix2 b 0) = Ideal.fptosi 32 (k0_pay3 (F := Ideal) x y (ix2 b 0)) := by
  pointwise [k0_pay4]
  rfl

/-- The second result sums the lanes' log-probabilities whose column is that one. -/
theorem pay5_at (x y z : RVec S64x2048) :
    k0_pay5 (F := Ideal) x y z (ix2 b 0) = ∑ l, if y (ix2 b l) = k0_pay3 (F := Ideal) x y (ix2 b 0) then z (ix2 b l) else 0 := by
  pointwise [k0_pay5]

end Cert.KernelIdeal.Pay

end
-- ==== Proof.Phases.lean ====
/-
  What the scratch buffers hold after every grid point, over the extended reals: the sums of phase 0, the stored weights
  and exponentials with the sums of phase 1, and the running best of phase 2, each as a plain formula of the row's inputs.
-/
module

public import proofs.«01_k».proof.Proof.KernelIdealStep
public import proofs.«01_k».proof.Proof.Pay

@[expose] public section

set_option maxRecDepth 16384

noncomputable section

namespace Cert.KernelIdeal.Hand

open Cert.KernelIdeal Cert.KernelIdeal.Gen Cert.KernelIdeal.Pay Cert.Spec
open Idealize.ShloMosaic Idealize.ShloMosaic.TcCoe Idealize.SL.Sem
open scoped Classical

/-! ## Reading windows -/

section Windows
variable {α : Type} (b : Fin 64) (l : Fin 2048)

/-- A one-row window of the table block reads that row. -/
theorem row_at (ax : S8x2048.Idx → α) (k : Fin 8) (inb : ∀ a, (![k.val, 0] : Fin 2 → ℕ) a + S1x2048.size a ≤ S8x2048.size a) :
    VecWindow.window (s := S8x2048) ax ![k.val, 0] S1x2048.size inb (ix2 0 l) = ax (ix2 k l) := by
  refine congrArg ax (funext fun a => Fin.ext ?_)
  fin_cases a
  · show k.val + 1 * 0 = k.val
    omega
  · show 0 + 1 * l.val = l.val
    omega

/-- A one-column window of the gathered rows reads that column. -/
theorem col_at (pa : S64x8.Idx → α) (k : Fin 8) (inb : ∀ a, (![0, k.val] : Fin 2 → ℕ) a + S64x1.size a ≤ S64x8.size a) :
    VecWindow.window (s := S64x8) pa ![0, k.val] S64x1.size inb (ix2 b 0) = pa (ix2 b k) := by
  refine congrArg pa (funext fun a => Fin.ext ?_)
  fin_cases a
  · show 0 + 1 * b.val = b.val
    omega
  · show k.val + 1 * 0 = k.val
    omega

/-- Row 0 of the table's block at a lane. -/
theorem row0_at (ax : RVec S8x2048) : row0 (F := Ideal) ax (ix2 0 l) = ax (ix2 0 l) := row_at l ax 0 _
/-- Row 1 of the table's block at a lane. -/
theorem row1_at (ax : RVec S8x2048) : row1 (F := Ideal) ax (ix2 0 l) = ax (ix2 1 l) := row_at l ax 1 _
/-- Row 2 of the table's block at a lane. -/
theorem row2_at (ax : RVec S8x2048) : row2 (F := Ideal) ax (ix2 0 l) = ax (ix2 2 l) := row_at l ax 2 _
/-- Row 3 of the table's block at a lane. -/
theorem row3_at (ax : RVec S8x2048) : row3 (F := Ideal) ax (ix2 0 l) = ax (ix2 3 l) := row_at l ax 3 _
/-- Column 0 of the gathered rows at a row. -/
theorem col0_at (pa : RVec S64x8) : col0 (F := Ideal) pa (ix2 b 0) = pa (ix2 b 0) := col_at b pa 0 _
/-- Column 1 of the gathered rows at a row. -/
theorem col1_at (pa : RVec S64x8) : col1 (F := Ideal) pa (ix2 b 0) = pa (ix2 b 1) := col_at b pa 1 _
/-- Column 2 of the gathered rows at a row. -/
theorem col2_at (pa : RVec S64x8) : col2 (F := Ideal) pa (ix2 b 0) = pa (ix2 b 2) := col_at b pa 2 _
/-- Column 3 of the gathered rows at a row. -/
theorem col3_at (pa : RVec S64x8) : col3 (F := Ideal) pa (ix2 b 0) = pa (ix2 b 3) := col_at b pa 3 _

/-- The column a block starts at, as the body computes it. -/
theorem start_toNat (j : Fin 49) : (Scalar.indexCast (Scalar.muli (BitVec.ofNat 32 j.val) 2048#32)).toNat = 2048 * j.val := by
  revert j; decide +kernel

/-- Phase 1 stores its block at the block's first column. -/
theorem off1_eq (i : grid0.Coords) : k0_off1 i = ![0, 2048 * (i 1).val] := by
  show ![0, _] = _
  rw [← start_toNat (i 1)]
/-- Phase 2 reads its block at the block's first column. -/
theorem off2_eq (i : grid0.Coords) : k0_off2 i = ![0, 2048 * (i 1).val] := by
  show ![0, _] = _
  rw [← start_toNat (i 1)]

/-- The block read back from a cache. -/
theorem blkOf_at (i : grid0.Coords) (h : k0_cond6 i = 1#1) (x : RVec S64x100352) (hn : 2048 * (i 1).val + l.val < 100352) :
    blkOf (F := Ideal) i h x (ix2 b l) = x (ix2 b ⟨2048 * (i 1).val + l.val, hn⟩) := by
  refine congrArg x (funext fun a => Fin.ext ?_)
  have e := off2_eq i
  fin_cases a
  · show k0_off2 i 0 + 1 * b.val = b.val
    rw [e]
    show 0 + 1 * b.val = b.val
    omega
  · show k0_off2 i 1 + 1 * l.val = _
    rw [e]
    show 2048 * (i 1).val + 1 * l.val = 2048 * (i 1).val + l.val
    omega

/-- A cache after a block was stored, inside the block. -/
theorem put_in (i : grid0.Coords) (x : S64x100352.Idx → α) (y : S64x2048.Idx → α) (n : Fin 100352) (hn : n.val = 2048 * (i 1).val + l.val) :
    VecWindow.put (s := S64x100352) x (k0_off1 i) S64x2048.size y (ix2 b n) = y (ix2 b l) := by
  have hin : ∀ a, k0_off1 i a ≤ ((ix2 b n : S64x100352.Idx) a).val ∧ ((ix2 b n : S64x100352.Idx) a).val < k0_off1 i a + S64x2048.size a := by
    intro a
    rw [off1_eq]
    fin_cases a
    · exact ⟨Nat.zero_le _, by show b.val < 0 + 64; omega⟩
    · exact ⟨by show 2048 * (i 1).val ≤ n.val; omega, by show n.val < 2048 * (i 1).val + 2048; omega⟩
  unfold VecWindow.put
  rw [dif_pos hin]
  refine congrArg y (funext fun a => Fin.ext ?_)
  show ((ix2 b n : S64x100352.Idx) a).val - k0_off1 i a = ((ix2 b l : S64x2048.Idx) a).val
  rw [off1_eq]
  fin_cases a
  · show b.val - 0 = b.val
    omega
  · show n.val - 2048 * (i 1).val = l.val
    omega

/-- A cache after a block was stored, before the block. -/
theorem put_before (i : grid0.Coords) (x : S64x100352.Idx → α) (y : S64x2048.Idx → α) (n : Fin 100352) (hn : n.val < 2048 * (i 1).val) :
    VecWindow.put (s := S64x100352) x (k0_off1 i) S64x2048.size y (ix2 b n) = x (ix2 b n) := by
  unfold VecWindow.put
  rw [dif_neg]
  intro h
  have h1 := (h 1).1
  rw [off1_eq] at h1
  have : 2048 * (i 1).val ≤ n.val := h1
  omega

end Windows

/-! ## Conditions -/

/-- A choice by the bit of a proposition is the choice by any equivalent one. -/
theorem sel_iff {p q : Prop} [Decidable p] (h : p ↔ q) (x y : EReal) :
    Scalar.select (BitVec.ofBool (decide p)) x y = if q then x else y := by
  by_cases hp : p
  · rw [if_pos (h.mp hp)]; simp [hp, Scalar.select]
  · rw [if_neg (mt h.mpr hp)]; simp [hp, Scalar.select]

/-- The conjunction of two propositions' bits is the bit of their conjunction. -/
theorem and_bit {p q : Prop} [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The complement of a proposition's bit is the bit of its negation. -/
theorem not_bit {p : Prop} [Decidable p] : IntOp.xori (BitVec.ofBool (decide p)) 1#1 = BitVec.ofBool (decide (¬ p)) := by
  by_cases hp : p <;> simp [hp, IntOp.xori]

/-- A proposition's bit, as a number, is one where it holds and zero where not. -/
theorem bit_val {p : Prop} [Decidable p] :
    (((((BitVec.ofBool (decide p)).setWidth 32).toInt : ℤ) : ℝ) : EReal) = if p then 1 else 0 := by
  by_cases hp : p
  · rw [if_pos hp]; simp [hp]
  · rw [if_neg hp]; simp [hp]

/-! ## What a block of the tables holds -/

/-- The four rows of block `j` of the table, and the previous objects. -/
structure Blk (D : Fin 64 → Row) (j : ℕ) (ax : RVec S8x2048) (pv : IVec S64x1 32) : Prop where
  c0 : ∀ b (l : Fin 2048), ax (ix2 0 l) = (D b).ct 0 (2048 * j + l.val)
  c1 : ∀ b (l : Fin 2048), ax (ix2 1 l) = (D b).ct 1 (2048 * j + l.val)
  c2 : ∀ b (l : Fin 2048), ax (ix2 2 l) = (D b).ct 2 (2048 * j + l.val)
  mf : ∀ b (l : Fin 2048), ax (ix2 3 l) = (D b).mf (2048 * j + l.val)
  pv : ∀ b, pv (ix2 b 0) = BitVec.ofNat 32 (D b).pb
  lt : ∀ b, (D b).pb < 100000
  off : ∀ b n, 100000 ≤ n → ¬ (D b).on n

/-! ## Phase 0 -/

/-- The gathered rows after the blocks below column `n`. -/
def Gath (R : Row) (n : ℕ) (pa : Fin 8 → EReal) : Prop :=
  pa 0 = (if R.pb < n then R.ct 0 R.pb else 0) ∧ pa 1 = (if R.pb < n then R.ct 1 R.pb else 0) ∧
    pa 2 = (if R.pb < n then R.ct 2 R.pb else 0) ∧ pa 3 = (if R.pb < n then R.mf R.pb else 0)

/-- After `n` blocks of phase 0. -/
def P0 (D : Fin 64 → Row) (n : ℕ) (S : Scr Ideal) : Prop :=
  ∀ b, Gath (D b) (2048 * n) (fun k => S.pa (ix2 b k)) ∧
    ∀ l : Fin 2048, S.nv (ix2 0 l) = ∑ j ∈ Finset.range n, (D b).cn (2048 * j + l.val)

/-- Phase 0 begins with nothing gathered or counted. -/
theorem P0_zero (D : Fin 64 → Row) (S : Scr Ideal) : P0 D 0 (begin0 S) := by
  intro b
  refine ⟨⟨?_, ?_, ?_, ?_⟩, fun l => ?_⟩
  · rw [if_neg (by omega)]; exact pay30_at b 0
  · rw [if_neg (by omega)]; exact pay30_at b 1
  · rw [if_neg (by omega)]; exact pay30_at b 2
  · rw [if_neg (by omega)]; exact pay30_at b 3
  · rw [Finset.sum_range_zero]; exact pay31_at l

/-- One gathered row over one block. -/
theorem gath_step (i : grid0.Coords) (pv : IVec S64x1 32) (pa : RVec S64x8) (ax : RVec S8x2048) (b : Fin 64) (k : Fin 8)
    (f : ℕ → EReal) (p : ℕ) (hp : p < 100000) (hpv : pv (ix2 b 0) = BitVec.ofNat 32 p)
    (hax : ∀ l : Fin 2048, ax (ix2 k l) = f (2048 * (i 1).val + l.val))
    (hpa : pa (ix2 b k) = if p < 2048 * (i 1).val then f p else 0) :
    k0_pay35 (F := Ideal) i pv pa ax (ix2 b k) = if p < 2048 * ((i 1).val + 1) then f p else 0 := by
  have hs : (∑ x : Fin 2048, (((((k0_pay33 (F := Ideal) i pv (ix2 b x)).setWidth 32).toInt : ℤ) : ℝ) : EReal) * ax (ix2 k x))
      = if 2048 * (i 1).val ≤ p ∧ p < 2048 * (i 1).val + 2048 then f p else 0 := by
    have : ∀ x : Fin 2048, (((((k0_pay33 (F := Ideal) i pv (ix2 b x)).setWidth 32).toInt : ℤ) : ℝ) : EReal) * ax (ix2 k x)
        = if 2048 * (i 1).val + x.val = p then f p else 0 := by
      intro x
      rw [pay33_at b x i pv p hp hpv, bit_val, hax]
      split_ifs with h
      · rw [one_mul, h]
      · rw [zero_mul]
    rw [Finset.sum_congr rfl fun x _ => this x]
    split_ifs with h
    · rw [Finset.sum_eq_single (⟨p - 2048 * (i 1).val, by omega⟩ : Fin 2048)]
      · rw [if_pos (by simp only; omega)]
      · intro x _ hx
        rw [if_neg]
        intro e; exact hx (Fin.ext (by simp only; omega))
      · intro h; exact absurd (Finset.mem_univ _) h
    · refine Finset.sum_eq_zero fun x _ => if_neg ?_
      intro e; have := x.isLt; omega
  rw [pay35_at, hs, hpa]
  by_cases h1 : p < 2048 * (i 1).val
  · rw [if_pos h1, if_neg (by omega), if_pos (by omega), add_zero]
  · rw [if_neg h1, zero_add]
    by_cases h2 : p < 2048 * ((i 1).val + 1)
    · rw [if_pos (by omega), if_pos h2]
    · rw [if_neg (by omega), if_neg h2]

/-- A point of phase 0 adds its block. -/
theorem P0_step {D : Fin 64 → Row} {S : Scr Ideal} (i : grid0.Coords) {ax : RVec S8x2048} {pv : IVec S64x1 32}
    (hB : Blk D (i 1).val ax pv) (h : P0 D (i 1).val S) : P0 D ((i 1).val + 1) (phase0 i ax pv S) := by
  intro b
  obtain ⟨⟨h0, h1, h2, h3⟩, hn⟩ := h b
  refine ⟨⟨?_, ?_, ?_, ?_⟩, fun l => ?_⟩
  · exact gath_step i pv S.pa ax b 0 _ _ (hB.lt b) (hB.pv b) (hB.c0 b) h0
  · exact gath_step i pv S.pa ax b 1 _ _ (hB.lt b) (hB.pv b) (hB.c1 b) h1
  · exact gath_step i pv S.pa ax b 2 _ _ (hB.lt b) (hB.pv b) (hB.c2 b) h2
  · exact gath_step i pv S.pa ax b 3 _ _ (hB.lt b) (hB.pv b) (hB.mf b) h3
  · show k0_pay36 (row3 (F := Ideal) ax) S.nv (ix2 0 l) = _
    rw [pay36_at, pay34_at, bit_val, row3_at, hB.mf b, hn l, Finset.sum_range_succ]
    unfold Row.cn Row.on
    congr 1
    split_ifs <;> rfl

/-! ## Phase 1 -/

/-- The caches up to column `n`: the weights, and the exponentials of the columns that exist. -/
def Caches (R : Row) (n : ℕ) (w t : Fin 100352 → EReal) : Prop :=
  ∀ c : Fin 100352, c.val < n → w c = R.w c.val ∧ (c.val < 100000 → t c = R.t c.val)

/-- After `n` blocks of phase 1. -/
def P1 (D : Fin 64 → Row) (n : ℕ) (S : Scr Ideal) : Prop :=
  P0 D 49 S ∧ ∀ b, Caches (D b) (2048 * n) (fun c => S.w (ix2 b c)) (fun c => S.t (ix2 b c)) ∧ ∀ l : Fin 2048,
    S.a (ix2 b l) = (∑ j ∈ Finset.range n, (D b).w (2048 * j + l.val)) ∧
    S.b (ix2 b l) = (∑ j ∈ Finset.range n, (D b).wt (2048 * j + l.val)) ∧
    S.d (ix2 b l) = (∑ j ∈ Finset.range n, (D b).mt (2048 * j + l.val)) ∧
    S.e (ix2 b l) = (∑ j ∈ Finset.range n, (D b).pt (2048 * j + l.val))

/-- Phase 1 begins with nothing cached or summed. -/
theorem P1_zero {D : Fin 64 → Row} {S : Scr Ideal} (h : P0 D 49 S) : P1 D 0 (begin1 S) := by
  refine ⟨h, fun b => ⟨fun c hc => absurd hc (by omega), fun l => ⟨?_, ?_, ?_, ?_⟩⟩⟩
  · rw [Finset.sum_range_zero]; exact pay38_at b l
  · rw [Finset.sum_range_zero]; exact pay39_at b l
  · rw [Finset.sum_range_zero]; exact pay40_at b l
  · rw [Finset.sum_range_zero]; exact pay41_at b l

/-- A point of phase 1 caches and adds its block. -/
theorem P1_step {D : Fin 64 → Row} {S : Scr Ideal} (i : grid0.Coords) {ax : RVec S8x2048} {pv : IVec S64x1 32} {lg : RVec S64x2048}
    (hB : Blk D (i 1).val ax pv) (hlg : ∀ b (l : Fin 2048), 2048 * (i 1).val + l.val < 100000 → lg (ix2 b l) = (D b).lg (2048 * (i 1).val + l.val))
    (h : P1 D (i 1).val S) : P1 D ((i 1).val + 1) (phase1 i lg ax pv S) := by
  have hj : (i 1).val < 49 := (i 1).isLt
  refine ⟨h.1, fun b => ?_⟩
  obtain ⟨hc, hs⟩ := h.2 b
  obtain ⟨⟨h0, h1, h2, -⟩, -⟩ := h.1 b
  have hlt := hB.lt b
  have hpb : (D b).pb < 2048 * 49 := by omega
  rw [if_pos hpb] at h0 h1 h2
  have h0 : S.pa (ix2 b 0) = (D b).ct 0 (D b).pb := h0
  have h1 : S.pa (ix2 b 1) = (D b).ct 1 (D b).pb := h1
  have h2 : S.pa (ix2 b 2) = (D b).ct 2 (D b).pb := h2
  have e6 : ∀ l : Fin 2048, k0_pay6 (row0 (F := Ideal) ax) (row1 (F := Ideal) ax) (row2 (F := Ideal) ax) (col0 (F := Ideal) S.pa) (col1 (F := Ideal) S.pa) (col2 (F := Ideal) S.pa) (ix2 b l)
      = (D b).d2 (2048 * (i 1).val + l.val) := by
    intro l
    rw [pay6_at, row0_at, row1_at, row2_at, col0_at, col1_at, col2_at, hB.c0 b, hB.c1 b, hB.c2 b, h0, h1, h2]
    rfl
  have e34 : ∀ l : Fin 2048, k0_pay34 (row3 (F := Ideal) ax) (ix2 0 l) = BitVec.ofBool (decide ((D b).on (2048 * (i 1).val + l.val))) := by
    intro l
    rw [pay34_at, row3_at, hB.mf b]
    exact congrArg BitVec.ofBool (decide_eq_decide.mpr Iff.rfl)
  have e7 : ∀ l : Fin 2048, k0_pay7 (k0_pay34 (row3 (F := Ideal) ax)) (row0 (F := Ideal) ax) (row1 (F := Ideal) ax) (row2 (F := Ideal) ax) (col0 (F := Ideal) S.pa) (col1 (F := Ideal) S.pa) (col2 (F := Ideal) S.pa) (ix2 b l)
      = BitVec.ofBool (decide ((D b).live (2048 * (i 1).val + l.val))) := by
    intro l
    rw [pay7_at, e34, e6, and_bit]
    exact congrArg BitVec.ofBool (decide_eq_decide.mpr Iff.rfl)
  have e8 : ∀ l : Fin 2048, k0_pay8 (row0 (F := Ideal) ax) (row1 (F := Ideal) ax) (row2 (F := Ideal) ax) (col0 (F := Ideal) S.pa) (col1 (F := Ideal) S.pa) (col2 (F := Ideal) S.pa) (ix2 b l)
      = Ideal.div 1 ((D b).d2 (2048 * (i 1).val + l.val)) := by
    intro l
    rw [pay8_at, e6]
  have e10 : ∀ l : Fin 2048, k0_pay10 (k0_pay34 (row3 (F := Ideal) ax)) (row0 (F := Ideal) ax) (row1 (F := Ideal) ax) (row2 (F := Ideal) ax) (col0 (F := Ideal) S.pa) (col1 (F := Ideal) S.pa) (col2 (F := Ideal) S.pa) (ix2 b l)
      = (D b).w (2048 * (i 1).val + l.val) := by
    intro l
    rw [pay10_at, e7, e8, sel_iff Iff.rfl]
    rfl
  have e9 : ∀ l : Fin 2048, 2048 * (i 1).val + l.val < 100000 → k0_pay9 (F := Ideal) lg (ix2 b l) = (D b).t (2048 * (i 1).val + l.val) := by
    intro l hl
    rw [pay9_at, hlg b l hl]
    rfl
  refine ⟨fun c hcn => ?_, fun l => ⟨?_, ?_, ?_, ?_⟩⟩
  · by_cases hlo : c.val < 2048 * (i 1).val
    · obtain ⟨hw, ht⟩ := hc c hlo
      refine ⟨?_, fun hv => ?_⟩
      · exact (put_before b i S.w _ c hlo).trans hw
      · exact (put_before b i S.t _ c hlo).trans (ht hv)
    · have hl : c.val - 2048 * (i 1).val < 2048 := by omega
      have he : c.val = 2048 * (i 1).val + (⟨c.val - 2048 * (i 1).val, hl⟩ : Fin 2048).val := by simp only; omega
      refine ⟨?_, fun hv => ?_⟩
      · refine (put_in b ⟨c.val - 2048 * (i 1).val, hl⟩ i S.w _ c he).trans ?_
        rw [pay11_at, e10, ← he]
      · refine (put_in b ⟨c.val - 2048 * (i 1).val, hl⟩ i S.t _ c he).trans ?_
        rw [pay42_at, e9 _ (by rw [← he]; exact hv), ← he]
  · show k0_pay43 _ S.a (ix2 b l) = _
    rw [pay43_at, e10, (hs l).1, Finset.sum_range_succ]
  · show k0_pay44 _ _ _ S.b (ix2 b l) = _
    rw [pay44_at, e7, e8, (hs l).2.1, Finset.sum_range_succ, sel_iff Iff.rfl]
    congr 1
    unfold Row.wt
    by_cases hv : (D b).live (2048 * (i 1).val + l.val)
    · have : 2048 * (i 1).val + l.val < 100000 := by
        by_contra hcon
        exact hB.off b _ (not_lt.mp hcon) hv.1
      rw [if_pos hv, if_pos hv, e9 l this]
    · rw [if_neg hv, if_neg hv]
  · show k0_pay45 _ _ S.d (ix2 b l) = _
    rw [pay45_at, e34, (hs l).2.2.1, Finset.sum_range_succ, sel_iff Iff.rfl]
    congr 1
    unfold Row.mt
    by_cases hv : (D b).on (2048 * (i 1).val + l.val)
    · have : 2048 * (i 1).val + l.val < 100000 := by
        by_contra hcon
        exact hB.off b _ (not_lt.mp hcon) hv
      rw [if_pos hv, if_pos hv, e9 l this]
    · rw [if_neg hv, if_neg hv]
  · show k0_pay46 i pv _ S.e (ix2 b l) = _
    rw [pay46_at, pay33_at b l i pv _ hlt (hB.pv b), (hs l).2.2.2, Finset.sum_range_succ, sel_iff Iff.rfl]
    congr 1
    unfold Row.pt
    by_cases hv : 2048 * (i 1).val + l.val = (D b).pb
    · rw [if_pos hv, if_pos hv, e9 l (by omega)]
    · rw [if_neg hv, if_neg hv]

/-! ## Phase 2 -/

/-- After `n` blocks of phase 2, with the draws `g` (past the last object, whatever the block held). -/
def P2 (D : Fin 64 → Row) (g : Fin 64 → ℕ → EReal) (n : ℕ) (S : Scr Ideal) : Prop :=
  ∀ b, Caches (D b) 100352 (fun c => S.w (ix2 b c)) (fun c => S.t (ix2 b c)) ∧
    S.al (ix2 b 0) = (D b).al ∧ S.be (ix2 b 0) = (D b).be ∧ S.ga (ix2 b 0) = (D b).ga ∧
    ∀ l : Fin 2048, Lane ((D b).sc (g b)) (D b).lp l.val n (S.a (ix2 b l)) (S.b (ix2 b l)) (S.d (ix2 b l))

/-- Phase 2 begins with the coefficients formed and no lane decided. -/
theorem P2_zero {D : Fin 64 → Row} {S : Scr Ideal} (g : Fin 64 → ℕ → EReal) {ep : RVec S1x1} (hep : ∀ b, ep (ix2 0 0) = (D b).ep)
    (hlt : ∀ b, (D b).pb < 100000) (h : P1 D 49 S) : P2 D g 0 (begin2 ep S) := by
  intro b
  obtain ⟨hc, hs⟩ := h.2 b
  obtain ⟨⟨-, -, -, h3⟩, hn⟩ := h.1 b
  have hpb : (D b).pb < 2048 * 49 := by have := hlt b; omega
  rw [if_pos hpb] at h3
  have h3 : S.pa (ix2 b 3) = (D b).mf (D b).pb := h3
  have ea : (∑ l : Fin 2048, S.a (ix2 b l)) = Row.tot (D b).w := Finset.sum_congr rfl fun l _ => (hs l).1
  have eb : (∑ l : Fin 2048, S.b (ix2 b l)) = Row.tot (D b).wt := Finset.sum_congr rfl fun l _ => (hs l).2.1
  have ed : (∑ l : Fin 2048, S.d (ix2 b l)) = Row.tot (D b).mt := Finset.sum_congr rfl fun l _ => (hs l).2.2.1
  have ee : (∑ l : Fin 2048, S.e (ix2 b l)) = Row.tot (D b).pt := Finset.sum_congr rfl fun l _ => (hs l).2.2.2
  have en : (∑ l : Fin 2048, S.nv (ix2 0 l)) = Row.tot (D b).cn := Finset.sum_congr rfl fun l _ => hn l
  have e15 : k0_pay15 S.d S.e (col3 (F := Ideal) S.pa) (ix2 b 0) = (D b).t2 := by
    rw [pay15_at, ed, ee, col3_at, h3]
    unfold Row.t2 Row.on
    split_ifs <;> rfl
  have e17 : k0_pay17 S.nv (col3 (F := Ideal) S.pa) (ix2 b 0) = max (D b).nv 1 := by
    rw [pay17_at, en, col3_at, h3]
    unfold Row.nv Row.on
    split_ifs <;> rfl
  refine ⟨fun c hcn => hc c hcn, ?_, ?_, ?_, fun l => ?_⟩
  · show k0_pay20 _ _ _ _ _ (ix2 b 0) = _
    rw [pay20_at, pay18_at, pay16_at, pay12_at, pay13_at, e15, ea, eb, hep b, sel_iff (q := 0 < Row.tot (D b).w) Iff.rfl]
    unfold Row.al Row.zn
    split_ifs <;> rfl
  · show k0_pay21 _ _ _ _ _ (ix2 b 0) = _
    rw [pay21_at, pay18_at, pay16_at, pay12_at, pay13_at, e15, ea, eb, hep b, sel_iff (q := 0 < Row.tot (D b).w) Iff.rfl]
    unfold Row.be Row.zn
    split_ifs <;> rfl
  · show k0_pay22 _ _ (ix2 b 0) = _
    rw [pay22_at, e17, hep b]
    rfl
  · show Lane _ _ _ 0 (k0_pay23 (F := Ideal) (ix2 b l)) (k0_pay24 (F := Ideal) (ix2 b l))
      (k0_pay47 (F := Ideal) (Scalar.ofBits .f32 0x00000000#32) (ix2 b l))
    rw [pay23_at, pay24_at, pay47_at]
    exact Lane.start _ _ _

/-- A point of phase 2 brings each lane's best up to its block. -/
theorem P2_step {D : Fin 64 → Row} {S : Scr Ideal} (i : grid0.Coords) (h6 : k0_cond6 i = 1#1) {ax : RVec S8x2048} {pv : IVec S64x1 32}
    {gb : RVec S64x2048} {g : Fin 64 → ℕ → EReal} (hB : Blk D (i 1).val ax pv)
    (hg : ∀ b (l : Fin 2048), gb (ix2 b l) = g b (2048 * (i 1).val + l.val))
    (h : P2 D g (i 1).val S) : P2 D g ((i 1).val + 1) (phase2 i h6 gb ax pv S) := by
  have hj : (i 1).val < 49 := (i 1).isLt
  intro b
  obtain ⟨hc, hal, hbe, hga, hl⟩ := h b
  refine ⟨hc, hal, hbe, hga, fun l => ?_⟩
  have hlt := hB.lt b
  have hn : 2048 * (i 1).val + l.val < 100352 := by omega
  obtain ⟨hw, ht⟩ := hc ⟨_, hn⟩ hn
  have e34 : k0_pay34 (row3 (F := Ideal) ax) (ix2 0 l) = BitVec.ofBool (decide ((D b).on (2048 * (i 1).val + l.val))) := by
    rw [pay34_at, row3_at, hB.mf b]
    exact congrArg BitVec.ofBool (decide_eq_decide.mpr Iff.rfl)
  have e25 : k0_pay25 (k0_pay33 (F := Ideal) i pv) (k0_pay34 (row3 (F := Ideal) ax)) (blkOf i h6 S.w) (blkOf i h6 S.t) S.al S.be S.ga (ix2 b l)
      = (D b).lp (2048 * (i 1).val + l.val) := by
    rw [pay25_at, e34, pay33_at b l i pv _ hlt (hB.pv b), not_bit, and_bit, sel_iff Iff.rfl, hal, hbe, hga, blkOf_at b l i h6 _ hn,
      blkOf_at b l i h6 _ hn]
    unfold Row.lp Row.pe
    by_cases hv : (D b).on (2048 * (i 1).val + l.val) ∧ ¬ 2048 * (i 1).val + l.val = (D b).pb
    · have hlt : 2048 * (i 1).val + l.val < 100000 := by
        by_contra hcon
        exact hB.off b _ (not_lt.mp hcon) hv.1
      have ew : S.w (ix2 b ⟨2048 * (i 1).val + l.val, hn⟩) = (D b).w (2048 * (i 1).val + l.val) := hw
      have et : S.t (ix2 b ⟨2048 * (i 1).val + l.val, hn⟩) = (D b).t (2048 * (i 1).val + l.val) := ht hlt
      rw [if_pos hv, if_pos hv, ew, et]
    · rw [if_neg hv, if_neg hv]
  have e26 : k0_pay26 (k0_pay33 (F := Ideal) i pv) (k0_pay34 (row3 (F := Ideal) ax)) (blkOf i h6 S.w) (blkOf i h6 S.t) S.al S.be S.ga gb (ix2 b l)
      = (D b).sc (g b) (2048 * (i 1).val + l.val) := by
    rw [pay26_at, e25, hg b l]
    rfl
  have e27 : k0_pay27 (k0_pay33 (F := Ideal) i pv) (k0_pay34 (row3 (F := Ideal) ax)) (blkOf i h6 S.w) (blkOf i h6 S.t) S.al S.be S.ga gb S.a (ix2 b l)
      = BitVec.ofBool (decide (S.a (ix2 b l) < (D b).sc (g b) (2048 * (i 1).val + l.val))) := by
    rw [pay27_at, e26]
  show Lane _ _ _ _ (k0_pay28 (F := Ideal) _ _ _ _ _ _ _ _ _ _ (ix2 b l)) (k0_pay1 (F := Ideal) _ _ _ (ix2 b l)) (k0_pay2 (F := Ideal) _ _ _ (ix2 b l))
  rw [pay28_at, pay1_at, pay2_at, e26, e27, e25, pay29_at, sel_iff Iff.rfl, sel_iff Iff.rfl, sel_iff Iff.rfl]
  convert (hl l).step

/-- The draws may be replaced on columns not yet met. -/
theorem P2_congr {D : Fin 64 → Row} {S : Scr Ideal} {g g' : Fin 64 → ℕ → EReal} {n : ℕ} (hg : ∀ b c, c < 2048 * n → g b c = g' b c)
    (h : P2 D g n S) : P2 D g' n S := by
  intro b
  obtain ⟨hc, hal, hbe, hga, hl⟩ := h b
  refine ⟨hc, hal, hbe, hga, fun l => ?_⟩
  have hsc : ∀ j < n, (D b).sc (g b) (2048 * j + l.val) = (D b).sc (g' b) (2048 * j + l.val) := fun j hj => by
    unfold Row.sc
    rw [hg b _ (by omega)]
  rcases hl l with ⟨h1, h2, h3, h4⟩ | ⟨j, hj, h1, h2, h3, h4, h5, h6⟩
  · exact .inl ⟨h1, h2, h3, fun j hj => (hsc j hj).symm.trans (h4 j hj)⟩
  · refine .inr ⟨j, hj, h1.trans (hsc j hj), h2, h3, h4, fun k hk => (hsc k hk).symm.le.trans (h5 k hk), fun k hk => ?_⟩
    rw [← hsc k (hk.trans hj)]
    exact h6 k hk

end Cert.KernelIdeal.Hand

end
-- ==== Proof.Rows.lean ====
/-
  The rows of the inputs, and what it is for a column to win a row: the first of the row's columns with the largest score.
-/
module

public import proofs.«01_k».proof.Proof.Spec

@[expose] public section

noncomputable section

namespace Cert.Spec

open Idealize.ShloMosaic

/-- A vector over the objects, continued by zeros. -/
def pad (f : Fin 100000 → EReal) (n : ℕ) : EReal := if h : n < 100000 then f ⟨n, h⟩ else 0

/-- The continued vector at an object, by its number. -/
theorem pad_lt (f : Fin 100000 → EReal) (n : ℕ) (h : n < 100000) : pad f n = f ⟨n, h⟩ := dif_pos h
/-- The continued vector at an object. -/
theorem pad_fin (f : Fin 100000 → EReal) (n : Fin 100000) : pad f n.val = f n := dif_pos n.isLt
/-- The continued vector past the last object is zero. -/
theorem pad_ge (f : Fin 100000 → EReal) (n : ℕ) (h : 100000 ≤ n) : pad f n = 0 := dif_neg (not_lt.mpr h)

/-- The row of given logits, coordinates, mask, small number and previous object. -/
def rowOf (lg : Fin 100000 → EReal) (ct : Fin 3 → Fin 100000 → EReal) (mf : Fin 100000 → EReal) (ep : EReal) (pv : BitVec 32) : Row where
  lg := pad lg
  ct k := pad (ct k)
  mf := pad mf
  ep := ep
  pb := pv.toNat

/-- The threshold is positive. -/
theorem thr_pos : (0 : EReal) < thr := by
  have : thr = ((13421773 * 2 ^ (-28 : ℤ) : ℝ) : EReal) := by
    simp [Ideal.ofBits, Ideal.ieee, -EReal.coe_mul]
  rw [this]
  norm_num [← EReal.coe_zero, EReal.coe_lt_coe_iff, -EReal.coe_mul]

/-- No column past the last object is switched on. -/
theorem rowOf_off (lg : Fin 100000 → EReal) (ct : Fin 3 → Fin 100000 → EReal) (mf : Fin 100000 → EReal) (ep : EReal) (pv : BitVec 32)
    (n : ℕ) (h : 100000 ≤ n) : ¬ (rowOf lg ct mf ep pv).on n := by
  show ¬ thr < pad mf n
  rw [pad_ge mf n h]
  exact not_lt.mpr thr_pos.le

/-- Column `c` is the first of the row's columns with the largest score, which no column past the last object exceeds. -/
structure Win (R : Row) (g : ℕ → EReal) (c : ℕ) : Prop where
  lt : c < 100000
  le : ∀ n < 100000, R.sc g n ≤ R.sc g c
  first : ∀ n < c, R.sc g n < R.sc g c
  tail : Ideal.log tiny + cap ≤ R.sc g c
  ne : R.sc g c ≠ ⊥

/-- A column past the last object scores no more than the winner. -/
theorem Win.tail_le {R : Row} {g g' : ℕ → EReal} {c : ℕ} (h : Win R g c) {n : ℕ} (hn : ¬ R.on n) : R.sc g' n ≤ R.sc g c := by
  refine le_trans ?_ h.tail
  unfold Row.sc Row.lp Row.pe
  rw [if_neg fun q => hn q.1, zero_add]
  exact add_le_add le_rfl (min_le_right _ _)

end Cert.Spec

end
-- ==== Proof.Inv.lean ====
/-
  The scratch after any number of grid points, and what the last point stores: in every row the winning column and its
  log-probability.
-/
module

public import proofs.«01_k».proof.Proof.Phases
public import proofs.«01_k».proof.Proof.Rows

@[expose] public section

set_option maxRecDepth 16384

noncomputable section

namespace Cert.KernelIdeal.Hand

open Cert.KernelIdeal Cert.KernelIdeal.Gen Cert.KernelIdeal.Pay Cert.Spec
open Idealize.ShloMosaic Idealize.ShloMosaic.TcCoe Idealize.SL.Sem

/-- The scratch before grid point `t`: phase by phase, the draws of phase 2 being those of the table up to its last column. -/
def Inv (D : Fin 64 → Row) (gm : Fin 64 → ℕ → EReal) (t : ℕ) (S : Scr Ideal) : Prop :=
  if t = 0 then True
  else if t ≤ 49 then P0 D t S
  else if t ≤ 98 then P1 D (t - 49) S
  else ∃ g : Fin 64 → ℕ → EReal, (∀ b c, c < 100000 → g b c = gm b c) ∧ P2 D g (t - 98) S

/-- A point's phase is its number divided by 49. -/
theorem coords0 : ∀ t : Fin cfg0.N, (grid0.coords t 0).val = t.val / 49 := (by decide +kernel : ∀ t : Fin grid0.N, _)
/-- A point's block is its number modulo 49. -/
theorem coords1 : ∀ t : Fin cfg0.N, (grid0.coords t 1).val = t.val % 49 := (by decide +kernel : ∀ t : Fin grid0.N, _)

/-- One grid point keeps the invariant. -/
theorem inv_step {D : Fin 64 → Row} {gm : Fin 64 → ℕ → EReal} (t : Fin cfg0.N) {S : Scr Ideal} {lg gb : RVec S64x2048} {ax : RVec S8x2048}
    {pv : IVec S64x1 32} {ep : RVec S1x1} (hB : Blk D (t.val % 49) ax pv)
    (hlg : t.val / 49 = 1 → ∀ b (l : Fin 2048), 2048 * (t.val % 49) + l.val < 100000 → lg (ix2 b l) = (D b).lg (2048 * (t.val % 49) + l.val))
    (hgb : t.val / 49 = 2 → ∀ b (l : Fin 2048), 2048 * (t.val % 49) + l.val < 100000 → gb (ix2 b l) = gm b (2048 * (t.val % 49) + l.val))
    (hep : ∀ b, ep (ix2 0 0) = (D b).ep) (h : Inv D gm t.val S) :
    Inv D gm (t.val + 1) (step (grid0.coords t) lg gb ax pv ep S) := by
  have e0 := coords0 t
  have e1 := coords1 t
  have ht : t.val < 147 := t.isLt
  generalize grid0.coords t = i at e0 e1 ⊢
  generalize t.val = n at *
  unfold step
  by_cases p0 : n / 49 = 0
  · rw [if_pos (e0.trans p0)]
    have hn : n % 49 = n := Nat.mod_eq_of_lt (by omega)
    rw [hn] at e1 hB
    have h0 : P0 D n (if (i 1).val = 0 then begin0 S else S) := by
      by_cases hz : n = 0
      · rw [if_pos (e1.trans hz), hz]; exact P0_zero D S
      · rw [if_neg fun q => hz (e1.symm.trans q)]
        unfold Inv at h
        rwa [if_neg hz, if_pos (by omega)] at h
    unfold Inv
    rw [if_neg (by omega), if_pos (by omega)]
    rw [← e1] at hB h0 ⊢
    exact P0_step i hB h0
  · rw [if_neg fun q => p0 (e0.symm.trans q)]
    by_cases p1 : n / 49 = 1
    · rw [if_pos (e0.trans p1)]
      have hn : n % 49 = n - 49 := by omega
      have h1 : P1 D (n % 49) (if (i 1).val = 0 then begin1 S else S) := by
        unfold Inv at h
        rw [if_neg (by omega)] at h
        by_cases hz : n % 49 = 0
        · rw [if_pos (e1.trans hz), hz]
          rw [if_pos (by omega), show n = 49 by omega] at h
          exact P1_zero h
        · rw [if_neg fun q => hz (e1.symm.trans q)]
          rwa [if_neg (by omega), if_pos (by omega), ← hn] at h
      unfold Inv
      rw [if_neg (by omega), if_neg (by omega), if_pos (by omega), show n + 1 - 49 = n % 49 + 1 by omega]
      have hlg := hlg p1
      rw [← e1] at hB h1 hlg ⊢
      exact P1_step i hB hlg h1
    · have p2 : n / 49 = 2 := by omega
      have h6 : k0_cond6 i = 1#1 := (cond6_iff i).mpr (e0.trans p2)
      rw [if_neg fun q => p1 (e0.symm.trans q), dif_pos h6]
      have h2 : ∃ g : Fin 64 → ℕ → EReal, (∀ b c, c < 100000 → g b c = gm b c) ∧ P2 D g (n % 49) (if (i 1).val = 0 then begin2 ep S else S) := by
        unfold Inv at h
        rw [if_neg (by omega), if_neg (by omega)] at h
        by_cases hz : n % 49 = 0
        · rw [if_pos (e1.trans hz), hz]
          rw [if_pos (by omega), show n - 49 = 49 by omega] at h
          exact ⟨gm, fun _ _ _ => rfl, P2_zero gm hep hB.lt h⟩
        · rw [if_neg fun q => hz (e1.symm.trans q)]
          rwa [if_neg (by omega), show n - 98 = n % 49 by omega] at h
      obtain ⟨g, hg, h2⟩ := h2
      unfold Inv
      rw [if_neg (by omega), if_neg (by omega), if_neg (by omega), show n + 1 - 98 = n % 49 + 1 by omega]
      have hgb := hgb p2
      let g' : Fin 64 → ℕ → EReal := fun b c => if h : 2048 * (n % 49) ≤ c ∧ c < 2048 * (n % 49) + 2048 then gb (ix2 b ⟨c - 2048 * (n % 49), by omega⟩) else g b c
      have hg' : ∀ b c, c < 2048 * (n % 49) → g b c = g' b c := fun b c hc => by
        show _ = dite _ _ _
        rw [dif_neg (by omega)]
      refine ⟨g', fun b c hc => ?_, ?_⟩
      · by_cases hin : 2048 * (n % 49) ≤ c ∧ c < 2048 * (n % 49) + 2048
        · show dite _ _ _ = _
          rw [dif_pos hin, hgb b ⟨c - 2048 * (n % 49), by omega⟩ (by show 2048 * (n % 49) + (c - 2048 * (n % 49)) < _; omega)]
          exact congrArg (gm b) (by show 2048 * (n % 49) + (c - 2048 * (n % 49)) = c; omega)
        · exact (dif_neg hin).trans (hg b c hc)
      · have hb : ∀ b (l : Fin 2048), gb (ix2 b l) = g' b (2048 * (n % 49) + l.val) := fun b l => by
          have := l.isLt
          show _ = dite _ _ _
          rw [dif_pos (by omega)]
          exact congrArg (fun x => gb (ix2 b x)) (Fin.ext (by show l.val = 2048 * (n % 49) + l.val - 2048 * (n % 49); omega))
        have h3 := P2_congr hg' h2
        rw [← e1] at hB h3 ⊢
        refine P2_step i h6 hB ?_ h3
        rw [e1]; exact hb

/-- What the last point stores in a row whose winner is `c`. -/
theorem inv_last {D : Fin 64 → Row} {gm : Fin 64 → ℕ → EReal} {S : Scr Ideal} (h : Inv D gm 147 S) (b : Fin 64) (hoff : ∀ n, 100000 ≤ n → ¬ (D b).on n)
    {c : ℕ} (hw : Win (D b) (gm b) c) :
    outS S (ix2 b 0) = BitVec.ofNat 32 c ∧ outL S (ix2 b 0) = (D b).lp c := by
  unfold Inv at h
  rw [if_neg (by omega), if_neg (by omega), if_neg (by omega)] at h
  obtain ⟨g, hg, h2⟩ := h
  obtain ⟨-, -, -, -, hl⟩ := h2 b
  have hlt := hw.lt
  have hsc : ∀ n < 100000, (D b).sc (g b) n = (D b).sc (gm b) n := fun n hn => by unfold Row.sc; rw [hg b n hn]
  have hc : c < 100352 := by omega
  have hM : ∀ n < 100352, (D b).sc (g b) n ≤ (D b).sc (g b) c := fun n _ => by
    rw [hsc c hlt]
    by_cases hn : n < 100000
    · rw [hsc n hn]; exact hw.le n hn
    · exact hw.tail_le (hoff n (not_lt.mp hn))
  have hf : ∀ n < c, (D b).sc (g b) n < (D b).sc (g b) c := fun n hn => by
    rw [hsc c hlt, hsc n (by omega)]; exact hw.first n hn
  have hbot : (D b).sc (g b) c ≠ ⊥ := by rw [hsc c hlt]; exact hw.ne
  have e3 : k0_pay3 (F := Ideal) S.a S.b (ix2 b 0) = ((c : ℝ) : EReal) := by
    rw [pay3_at, lanes_max hl hc hM hf hbot, ← lanes_min hl hc hM hf hbot]
  refine ⟨?_, ?_⟩
  · show k0_pay4 (F := Ideal) S.a S.b (ix2 b 0) = _
    rw [pay4_at, e3]
    exact fptosi_nat c hc
  · show k0_pay5 (F := Ideal) S.a S.b S.d (ix2 b 0) = _
    rw [pay5_at, e3, ← lanes_sum hl hc hM hf hbot]

end Cert.KernelIdeal.Hand

end
-- ==== Proof.Entry.lean ====
/-
  What the region finds in the three buffers the host makes for it: the table of the objects (its first three rows the
  coordinates, its fourth the mask, all of it zero past the last object), the previous objects and the small number.
-/
module

public import proofs.«01_k».proof.Proof.Gen.KernelIdeal.Frame
public import Idealize.ShloMosaic.Lib.Claim
public import Idealize.ShloMosaic.Lib.Pointwise
public import Idealize.ShloMosaic.Lib.Routing.OpsSet
public import Idealize.ShloMosaic.Lib.Routing.OpsOne
public import Idealize.ShloMosaic.Lib.Routing.OpsPair

@[expose] public section

set_option maxRecDepth 16384
noncomputable section

namespace Cert.KernelIdeal.Hand

open Cert.KernelIdeal Cert.KernelIdeal.Gen
open Idealize.ShloMosaic Idealize.ShloMosaic.TcCoe Idealize.SL.Sem Idealize.ShloMosaic.Routing

variable (m : (ℓ : Loc nD τ sig) → Buf (Elt Ideal) ℓ)

/-- A pair of index words. -/
def wordPair (x y : BitVec 32) : IVec S2 32 :=
  concatenate S2 0 [⟨S1, broadcastInDim S1 ![] bcast_S_S1 (constantI S_ 32 x)⟩, ⟨S1, broadcastInDim S1 ![] bcast_S_S1 (constantI S_ 32 y)⟩] concatenates_S1_S1_S2_d0

/-- The table with the coordinates written. -/
def tab1 (ct : FVec Ideal S100000x3 .f32) : FVec Ideal S8x100352 .f32 :=
  Host.scatter scatter_S8x100352_S2_S3x100000_01_n_01_0 (fun _ b => b) (broadcastInDim S8x100352 ![] bcast_S_S8x100352 (constant (F := Ideal) S_ .f32 0x00000000#32))
    (wordPair 0#32 0#32) (transpose S3x100000 [1, 0] ct transposes_S100000x3_S3x100000_1_0)

/-- The table with the coordinates and the mask written. -/
def tab2 (ct : FVec Ideal S100000x3 .f32) (mf : FVec Ideal S100000 .f32) : FVec Ideal S8x100352 .f32 :=
  Host.scatter scatter_S8x100352_S2_S100000_0_0_01_0 (fun _ b => b) (tab1 ct) (wordPair 3#32 0#32) mf

/-- The previous objects, as a column. -/
theorem entry10 (c : Dev nD) : V (F := Ideal) m c main_v10 = shapeCast S64x1 (m (c, main_arg5)) shapeCasts_S64_S64x1 := by
  show StableHlo.after [hostOps0].flatten _ (Proc.tc.devRef _) = _
  rw [show ([hostOps0 (F := Ideal)].flatten) = hostOps0 from by simp only [List.flatten_cons, List.flatten_nil, List.append_nil]]
  unfold hostOps0
  after_results
  first | done | rfl
/-- The small number, as a matrix of one entry. -/
theorem entry11 (c : Dev nD) : V (F := Ideal) m c main_v11 = shapeCast S1x1 (m (c, main_arg4)) shapeCasts_S_S1x1 := by
  show StableHlo.after [hostOps0].flatten _ (Proc.tc.devRef _) = _
  rw [show ([hostOps0 (F := Ideal)].flatten) = hostOps0 from by simp only [List.flatten_cons, List.flatten_nil, List.append_nil]]
  unfold hostOps0
  after_results
  first | done | rfl
set_option maxHeartbeats 1000000 in
/-- The table. -/
theorem entry9 (c : Dev nD) : V (F := Ideal) m c main_v9 = tab2 (m (c, main_arg1)) (m (c, main_arg2)) := by
  unfold tab2 tab1 wordPair
  show StableHlo.after [hostOps0].flatten _ (Proc.tc.devRef _) = _
  rw [show ([hostOps0 (F := Ideal)].flatten) = hostOps0 from by simp only [List.flatten_cons, List.flatten_nil, List.append_nil]]
  unfold hostOps0
  after_results
  first | done | rfl

/-- The first word of a pair. -/
theorem wordPair_0 (x y : BitVec 32) : wordPair x y (ix1 (0 : Fin 2)) = x := by
  unfold wordPair
  pointwise
/-- The second word of a pair. -/
theorem wordPair_1 (x y : BitVec 32) : wordPair x y (ix1 (1 : Fin 2)) = y := by
  unfold wordPair
  pointwise

/-- A matrix update at a pair of zero words lands where it stands. -/
theorem lands1 (k : Fin 3) (n : Fin 100000) (r : Fin 8) (c : Fin 100352) :
    scatter_S8x100352_S2_S3x100000_01_n_01_0.resultIdx? (ix2 k n) (wordPair 0#32 0#32) = some (ix2 r c) ↔ k.val = r.val ∧ n.val = c.val := by
  have s0 := start_pair scatter_S8x100352_S2_S3x100000_01_n_01_0 rfl rfl (wordPair 0#32 0#32) (ix2 k n) 0
  have s1 := start_pair scatter_S8x100352_S2_S3x100000_01_n_01_0 rfl rfl (wordPair 0#32 0#32) (ix2 k n) 1
  replace s0 := s0.trans (congrArg BitVec.toInt (wordPair_0 _ _))
  replace s1 := s1.trans (congrArg BitVec.toInt (wordPair_1 _ _))
  have w0 : scatter_S8x100352_S2_S3x100000_01_n_01_0.window (ix2 k n) 0 = k.val := rfl
  have w1 : scatter_S8x100352_S2_S3x100000_01_n_01_0.window (ix2 k n) 1 = n.val := rfl
  have t0 : ((0#32 : BitVec 32).toInt) = 0 := rfl
  rw [t0] at s0 s1
  refine (resultIdx?_ix2 scatter_S8x100352_S2_S3x100000_01_n_01_0 (ix2 k n) (wordPair 0#32 0#32) r c).trans ?_
  rw [s0, s1, w0, w1]
  omega

/-- A row update at the words three and zero lands in row three, where it stands. -/
theorem lands2 (n : Fin 100000) (r : Fin 8) (c : Fin 100352) :
    scatter_S8x100352_S2_S100000_0_0_01_0.resultIdx? (ix1 n) (wordPair 3#32 0#32) = some (ix2 r c) ↔ r.val = 3 ∧ n.val = c.val := by
  have s0 := start_pair scatter_S8x100352_S2_S100000_0_0_01_0 rfl rfl (wordPair 3#32 0#32) (ix1 n) 0
  have s1 := start_pair scatter_S8x100352_S2_S100000_0_0_01_0 rfl rfl (wordPair 3#32 0#32) (ix1 n) 1
  replace s0 := s0.trans (congrArg BitVec.toInt (wordPair_0 _ _))
  replace s1 := s1.trans (congrArg BitVec.toInt (wordPair_1 _ _))
  have w0 : scatter_S8x100352_S2_S100000_0_0_01_0.window (ix1 n) 0 = 0 := rfl
  have w1 : scatter_S8x100352_S2_S100000_0_0_01_0.window (ix1 n) 1 = n.val := rfl
  have t0 : ((0#32 : BitVec 32).toInt) = 0 := rfl
  have t3 : ((3#32 : BitVec 32).toInt) = 3 := rfl
  rw [t3] at s0
  rw [t0] at s1
  refine (resultIdx?_ix2 scatter_S8x100352_S2_S100000_0_0_01_0 (ix1 n) (wordPair 3#32 0#32) r c).trans ?_
  rw [s0, s1, w0, w1]
  omega

/-- The coordinates' rows of the table, where an object stands. -/
theorem tab2_ct (ct : FVec Ideal S100000x3 .f32) (mf : FVec Ideal S100000 .f32) (r : Fin 8) (k : Fin 3) (c : Fin 100352) (n : Fin 100000)
    (hr : k.val = r.val) (hc : n.val = c.val) : tab2 ct mf (ix2 r c) = ct (ix2 n k) := by
  have hk := k.isLt
  unfold tab2
  rw [scatter_set_miss _ _ _ _ _ fun j h => by
    obtain ⟨n', rfl⟩ : ∃ n', j = ix1 n' := ⟨j 0, eq_ix1 j⟩
    rw [lands2] at h
    omega]
  unfold tab1
  rw [scatter_set_hit _ _ _ _ _ (ct (ix2 n k)) (fun j h => by
    obtain ⟨k', n', rfl⟩ : ∃ k' n', j = ix2 k' n' := ⟨j 0, j 1, eq_ix2 j⟩
    rw [lands1] at h
    obtain rfl : k' = k := Fin.ext (by omega)
    obtain rfl : n' = n := Fin.ext (by omega)
    pointwise) (ix2 k n) ((lands1 k n r c).mpr ⟨hr, hc⟩)]

/-- The coordinates' rows of the table, past the last object. -/
theorem tab2_ct_off (ct : FVec Ideal S100000x3 .f32) (mf : FVec Ideal S100000 .f32) (r : Fin 8) (c : Fin 100352)
    (hc : 100000 ≤ c.val) : tab2 ct mf (ix2 r c) = 0 := by
  unfold tab2
  rw [scatter_set_miss _ _ _ _ _ fun j h => by
    obtain ⟨n', rfl⟩ : ∃ n', j = ix1 n' := ⟨j 0, eq_ix1 j⟩
    rw [lands2] at h
    have := n'.isLt
    omega]
  unfold tab1
  rw [scatter_set_miss _ _ _ _ _ fun j h => by
    obtain ⟨k', n', rfl⟩ : ∃ k' n', j = ix2 k' n' := ⟨j 0, j 1, eq_ix2 j⟩
    rw [lands1] at h
    have := n'.isLt
    omega]
  pointwise

/-- The mask's row of the table, where an object stands. -/
theorem tab2_mf (ct : FVec Ideal S100000x3 .f32) (mf : FVec Ideal S100000 .f32) (c : Fin 100352) (n : Fin 100000)
    (hc : n.val = c.val) : tab2 ct mf (ix2 3 c) = mf (ix1 n) := by
  unfold tab2
  rw [scatter_set_hit _ _ _ _ _ (mf (ix1 n)) (fun j h => by
    obtain ⟨n', rfl⟩ : ∃ n', j = ix1 n' := ⟨j 0, eq_ix1 j⟩
    rw [lands2] at h
    obtain rfl : n' = n := Fin.ext (by omega)
    rfl) (ix1 n) ((lands2 n 3 c).mpr ⟨rfl, hc⟩)]

end Cert.KernelIdeal.Hand
-- ==== Proof.KernelIdealFrame.lean ====
/-
  The frame: on every start the program terminates, leaves its arguments as it found them and every counter at zero.

  Nothing is said here of what the body computes: every window is forgotten (its staging buffer holds anything before
  and after a point), the scratch buffers hold anything, and `body_triple` gives the body's run from any contents.
-/
module

public import proofs.«01_k».proof.Proof.KernelIdealStep

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

/-- Assertions that entail each other are equal. -/
theorem eq_of_both {P Q : sProp 𝕄} (h : BIBase.Entails P Q) (h' : BIBase.Entails Q P) : P = Q := BI.Entails.antisymm h h'

/-- A scratch buffer owned whole is its memref held at its contents. -/
theorem holds_whole (c : Dev nD) (b : Ref sig .tc) (X : b.ty.Contents (Elt F)) :
    (holds c (Memref.whole b) X : sProp 𝕄) = (((c : Thread nD τ).loc b) ↦{fullShare} X) := by
  rw [show (holds c (Memref.whole b) X : sProp 𝕄) = owns (c : Thread nD τ) (Memref.whole b) fullShare X from (owns_eq_rep _ _ _ _).symm,
    owns_whole_eq]
  refine eq_of_both ?_ ?_
  · iintro ⟨%f, %hf, H⟩
    subst hf
    iexact H
  · iintro H
    iexists X
    isplitr
    · ipureintro; rfl
    iexact H

/-- The scratch buffers at `S`, buffer by buffer. -/
theorem scratchAt_eq (c : Dev nD) (S : Scr F) :
    (scratchAt c S : sProp 𝕄) = iprop((((c : Thread nD τ).loc cc0_scratch0) ↦{fullShare} S.w) ∗ (((c : Thread nD τ).loc cc0_scratch1) ↦{fullShare} S.t) ∗ (((c : Thread nD τ).loc cc0_scratch2) ↦{fullShare} S.a) ∗ (((c : Thread nD τ).loc cc0_scratch3) ↦{fullShare} S.b) ∗ (((c : Thread nD τ).loc cc0_scratch4) ↦{fullShare} S.d) ∗ (((c : Thread nD τ).loc cc0_scratch5) ↦{fullShare} S.e) ∗ (((c : Thread nD τ).loc cc0_scratch6) ↦{fullShare} S.nv) ∗ (((c : Thread nD τ).loc cc0_scratch7) ↦{fullShare} S.pa) ∗ (((c : Thread nD τ).loc cc0_scratch8) ↦{fullShare} S.al) ∗ (((c : Thread nD τ).loc cc0_scratch9) ↦{fullShare} S.be) ∗ (((c : Thread nD τ).loc cc0_scratch10) ↦{fullShare} S.ga)) := by
  unfold scratchAt
  rw [holds_whole c cc0_scratch0 S.w, holds_whole c cc0_scratch1 S.t, holds_whole c cc0_scratch2 S.a, holds_whole c cc0_scratch3 S.b, holds_whole c cc0_scratch4 S.d, holds_whole c cc0_scratch5 S.e, holds_whole c cc0_scratch6 S.nv, holds_whole c cc0_scratch7 S.pa, holds_whole c cc0_scratch8 S.al, holds_whole c cc0_scratch9 S.be, holds_whole c cc0_scratch10 S.ga]

/-- The scratch buffers at anything are the scratch buffers at some `S`. -/
theorem scopedRest_scratch (c : Dev nD) :
    (Pipeline.scopedRest (Ix := Unit) (Name := ℕ) (U := UR sig nD τ) (Lvl := ℕ) (Val := Elt F) spec0 c : sProp 𝕄)
      = iprop(∃ S : Scr F, scratchAt c S) := by
  rw [scopedRest0_eq]
  simp only [scratchAt_eq]
  refine eq_of_both ?_ ?_
  · iintro ⟨⟨%f0, G0⟩, ⟨%f1, G1⟩, ⟨%f2, G2⟩, ⟨%f3, G3⟩, ⟨%f4, G4⟩, ⟨%f5, G5⟩, ⟨%f6, G6⟩, ⟨%f7, G7⟩, ⟨%f8, G8⟩, ⟨%f9, G9⟩, ⟨%f10, G10⟩⟩
    iexists (⟨f0, f1, f2, f3, f4, f5, f6, f7, f8, f9, f10⟩ : Scr F)
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    iexact G10
  · iintro ⟨%S, G0, G1, G2, G3, G4, G5, G6, G7, G8, G9, G10⟩
    isplitl [G0]; · iexists S.w; iexact G0
    isplitl [G1]; · iexists S.t; iexact G1
    isplitl [G2]; · iexists S.a; iexact G2
    isplitl [G3]; · iexists S.b; iexact G3
    isplitl [G4]; · iexists S.d; iexact G4
    isplitl [G5]; · iexists S.e; iexact G5
    isplitl [G6]; · iexists S.nv; iexact G6
    isplitl [G7]; · iexists S.pa; iexact G7
    isplitl [G8]; · iexists S.al; iexact G8
    isplitl [G9]; · iexists S.be; iexact G9
    iexists S.ga; iexact G10

variable (m : (ℓ : Loc nD τ sig) → Buf (Elt F) ℓ) (ρ : Dev nD → PrngReg)

/-- Every window is forgotten. -/
def forgets : Fin 7 → Bool := fun _ => true

/-- The proof data of the frame: the arrays as the region finds them, nothing named of what the body leaves. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The frame's data start from the arrays' contents at the region's entry. -/
theorem fA_eq (c : Dev nD) (w : Fin cfg0.W) : (fdats m 0 c).A w = V m c (Pipeline.arrRef spec0 w) := by dsimp only [fdats]

/-- The kernel's row of the body table at a point is the body there. -/
theorem defs₀_row (t : Fin cfg0.N) : defs₀ (F := F) .tc cfg0.body (cfg0.bodyArgs t (cfg0.slots t)) = bodyAt0 t := by
  unfold defs₀; rw [Defs.onTc_tc]

/-- The body from any contents of the staging buffers and of the scratch, back to some contents. -/
theorem forget_body (c : Dev nD) (t : Fin cfg0.N) :
    iprop((fdats (F := F) m 0 c).Φ t.castSucc ∗ (fdats m 0 c).owesAt () t.castSucc
        ∗ (∃ X, owns (c : Thread nD τ) (st0_0 t) fullShare X) ∗ (∃ X, owns (c : Thread nD τ) (st0_1 t) fullShare X)
        ∗ (∃ X, owns (c : Thread nD τ) (st0_2 t) fullShare X) ∗ (∃ X, owns (c : Thread nD τ) (st0_3 t) fullShare X)
        ∗ (∃ X, owns (c : Thread nD τ) (st0_4 t) fullShare X) ∗ (∃ X, owns (c : Thread nD τ) (st0_5 t) fullShare X)
        ∗ (∃ X, owns (c : Thread nD τ) (st0_6 t) fullShare X))
      ⊢ wp frame (wpE (defs₀ (F := F)) Variants.none c none) Set.univ (bodyAt0 t) fun _ =>
        iprop((fdats (F := F) m 0 c).Φ t.succ ∗ (fdats m 0 c).owesAt () t.succ
        ∗ (∃ X, owns (c : Thread nD τ) (st0_0 t) fullShare X) ∗ (∃ X, owns (c : Thread nD τ) (st0_1 t) fullShare X)
        ∗ (∃ X, owns (c : Thread nD τ) (st0_2 t) fullShare X) ∗ (∃ X, owns (c : Thread nD τ) (st0_3 t) fullShare X)
        ∗ (∃ X, owns (c : Thread nD τ) (st0_4 t) fullShare X) ∗ (∃ X, owns (c : Thread nD τ) (st0_5 t) fullShare X)
        ∗ (∃ X, owns (c : Thread nD τ) (st0_6 t) fullShare X)) := by
  rw [show (fdats (F := F) m 0 c).Φ t.succ = Pipeline.ΦA spec0 c from rfl,
    show (fdats (F := F) m 0 c).Φ t.castSucc = Pipeline.ΦA spec0 c from rfl,
    show (fdats (F := F) m 0 c).owesAt () t.succ = (fdats m 0 c).owesAt () t.castSucc from rfl]
  unfold Pipeline.ΦA
  rw [scopedRest_scratch]
  simp only [owns_eq_rep]
  iintro ⟨⟨⟨%S, HS⟩, HP⟩, Ho, ⟨%x0, H0⟩, ⟨%x1, H1⟩, ⟨%x2, H2⟩, ⟨%x3, H3⟩, ⟨%x4, H4⟩, ⟨%x5, H5⟩, ⟨%x6, H6⟩⟩
  iapply (body_triple c t x0 x1 x2 x3 x4 x5 x6 S _ rfl _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS HP]
  · isplitl [HS]
    · iexists (step (grid0.coords t) x0 x1 x2 x3 x4 S); iexact HS
    iexact HP
  isplitl [Ho]; · iexact Ho
  isplitl [H0]; · iexists x0; iexact H0
  isplitl [H1]; · iexists x1; iexact H1
  isplitl [H2]; · iexists x2; iexact H2
  isplitl [H3]; · iexists x3; iexact H3
  isplitl [H4]; · iexists x4; iexact H4
  isplitl [H5]; · iexists _; iexact H5
  iexists _; iexact H6

/-- The body meets its obligation at every point when what the buffers hold is forgotten. -/
theorem forget_obligation (c : Dev nD) :
    BodyObligationLoose (fdats (F := F) m 0 c) (defs₀ (F := F)) Variants.none () Set.univ forgets := fun t => by
  rw [bigSep_W0, bigSep_W0, defs₀_row]
  exact triple_restated (forget_body m c t) rfl .rfl fun _ => .rfl

/-- The two results' buffers, which the host lines after the region write. -/
def written : Finset (Ref sig .tc) := {main_v13, main_v14}

/-- The host lines after the region write the two results' buffers only. -/
theorem sfx_written : ∀ ops ∈ ([hostOps1] : List (List (HloOp τ sig (Elt F)))), ∀ op ∈ ops,
    ∀ b : Ref sig .tc, Proc.devRef .tc b ∈ op.writes → b ∈ written := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.nullary_writes, StableHlo.unary_writes, StableHlo.binary_writes, StableHlo.reshape_writes,
      Finset.mem_singleton] at hb
    have hb' := Proc.devRef_injective _ hb
    subst hb'
    decide

set_option backward.isDefEq.respectTransparency.types false in
/-- The run, from any memory with zero counters: every array of the region and every buffer no host line after the
    region writes ends at what the region found there, and the counters are zero. -/
theorem run_forget :
    θ_run defs (onTc (τ := τ) (main (F := F))) (s₀ m ρ)
      (fun r => Pipeline.RDat.FramePostR (cfgs 0) (fun c => (fdats m 0 c).toRForget forgets) written (fun c b => V0 m c (Proc.devRef .tc b)) r
        ∧ r.2.sem = fun _ => 0) :=
  Pipeline.θ_run_frame_around_T_forget (Q' := _) cfgs (fdats m) (0 : Fin 1) launch0 defs₀ Variants.none forgets written m ρ main
    (hbody := fun c => forget_obligation m c) (hshare := fun c => (fdats m 0 c).share_full fun _ => rfl)
    (howed := fun _ _ => rfl) (V₀ := V0 m) (opss := [hostOps1]) (hsub := sfx_sub) (hfresh := sfx_fresh) (hkeep := sfx_keeps)
    (hT := sfx_written) (hmain := hmain m Variants.none) (hA := fA_eq m) (hΦ := fun _ _ => rfl)

/-- The arguments end as launched and the counters at zero. -/
theorem run_args :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  refine (θ_run defs _ _).mono (fun r h => ⟨fun c => ?_, h.2⟩) (run_forget m ρ)
  refine ⟨?_, ?_, ?_, ?_, ?_, ?_⟩
  · exact (Pipeline.RDat.FramePostR.arr_in h.1 c 0 rfl).trans (V_main_arg0 m c)
  · exact ((h.1 c).2 main_arg1 (Finset.mem_sdiff.mpr ⟨Pipeline.mem_restRefs_of main_arg1 (by decide) (by decide), by decide⟩)).trans (V_main_arg1 m c)
  · exact ((h.1 c).2 main_arg2 (Finset.mem_sdiff.mpr ⟨Pipeline.mem_restRefs_of main_arg2 (by decide) (by decide), by decide⟩)).trans (V_main_arg2 m c)
  · exact (Pipeline.RDat.FramePostR.arr_in h.1 c 1 rfl).trans (V_main_arg3 m c)
  · exact ((h.1 c).2 main_arg4 (Finset.mem_sdiff.mpr ⟨Pipeline.mem_restRefs_of main_arg4 (by decide) (by decide), by decide⟩)).trans (V_main_arg4 m c)
  · exact ((h.1 c).2 main_arg5 (Finset.mem_sdiff.mpr ⟨Pipeline.mem_restRefs_of main_arg5 (by decide) (by decide), by decide⟩)).trans (V_main_arg5 m c)

end Cert.KernelIdeal.Hand

end
-- ==== Proof.Blocks.lean ====
/-
  The blocks the windows of the region bring in, read off the arguments.
-/
module

public import proofs.«01_k».proof.Proof.Inv
public import proofs.«01_k».proof.Proof.Entry
public import proofs.«01_k».proof.Proof.KernelIdealFrame
public import Idealize.ShloMosaic.Lib.Pipeline.ValueKit

@[expose] public section

set_option maxRecDepth 65536

noncomputable section

namespace Cert.KernelIdeal.Hand

open Cert.KernelIdeal Cert.KernelIdeal.Gen Cert.KernelIdeal.Pay Cert.Spec
open Idealize.ShloMosaic Idealize.ShloMosaic.TcCoe Idealize.SL.Sem
open Idealize.ShloMosaic.Pipeline (Dat BodyObligation BodyObligationLoose)

variable (m : (ℓ : Loc nD τ sig) → Buf (Elt Ideal) ℓ) (ρ : Dev nD → PrngReg)

/-- The block the logits' window stands at: in phase 1 the point's own block, else block 0. -/
theorem idx0 : ∀ t : Fin cfg0.N, win0_0.index t = ![0, if t.val / 49 = 1 then t.val % 49 else 0] := (by decide +kernel : ∀ t : Fin grid0.N, _)
/-- The block the draws' window stands at: in phase 2 the point's own block, else block 0. -/
theorem idx1 : ∀ t : Fin cfg0.N, win0_1.index t = ![0, if t.val / 49 = 2 then t.val % 49 else 0] := (by decide +kernel : ∀ t : Fin grid0.N, _)
/-- The block the table's window stands at: the point's own block, in every phase. -/
theorem idx2 : ∀ t : Fin cfg0.N, win0_2.index t = ![0, t.val % 49] := (by decide +kernel : ∀ t : Fin grid0.N, _)
/-- The block the previous objects' window stands at: always the whole array. -/
theorem idx3 : ∀ t : Fin cfg0.N, win0_3.index t = ![0, 0] := (by decide +kernel : ∀ t : Fin grid0.N, _)
/-- The block the mixing weight's window stands at: always the whole array. -/
theorem idx4 : ∀ t : Fin cfg0.N, win0_4.index t = ![0, 0] := (by decide +kernel : ∀ t : Fin grid0.N, _)
/-- The logits' window moves 64 rows and as many columns of its block as the array has left. -/
theorem xs0 : ∀ t : Fin cfg0.N, win0_0.xsize (grid0.coords t) 0 = 64 ∧ win0_0.xsize (grid0.coords t) 1 = min 2048 (100000 - 2048 * (if t.val / 49 = 1 then t.val % 49 else 0)) :=
  (by decide +kernel : ∀ t : Fin grid0.N, _)
/-- The draws' window moves 64 rows and as many columns of its block as the array has left. -/
theorem xs1 : ∀ t : Fin cfg0.N, win0_1.xsize (grid0.coords t) 0 = 64 ∧ win0_1.xsize (grid0.coords t) 1 = min 2048 (100000 - 2048 * (if t.val / 49 = 2 then t.val % 49 else 0)) :=
  (by decide +kernel : ∀ t : Fin grid0.N, _)

/-- Index (k, l) of the table's block is column 2048·j + l of row k of the table. -/
theorem emb2 (t : Fin cfg0.N) (k : Fin 8) (l : Fin 2048) (hl : 2048 * (t.val % 49) + l.val < 100352) :
    (win0_2.blk t).view.emb (ix2 k l) = (ix2 k (⟨2048 * (t.val % 49) + l.val, hl⟩ : Fin 100352) : S8x100352.Idx) := by
  funext a
  apply Fin.ext
  match a with
  | ⟨0, _⟩ =>
    refine (Pipeline.Window.rect_emb_val _ _ _ _).trans ?_
    rw [idx2 t]
    show 0 * 8 + k.val = k.val
    omega
  | ⟨1, _⟩ =>
    refine (Pipeline.Window.rect_emb_val _ _ _ _).trans ?_
    rw [idx2 t]
    show (t.val % 49) * 2048 + l.val = 2048 * (t.val % 49) + l.val
    omega

/-- In phase 1, index (b, l) of the logits' block is column 2048·j + l of row b of the array, where that column exists. -/
theorem emb0 (t : Fin cfg0.N) (h : t.val / 49 = 1) (y : (win0_0.xblock (grid0.coords t)).Idx) (b : Fin 64) (l : Fin 2048)
    (e0 : (y 0).val = b.val) (e1 : (y 1).val = l.val) (hl : 2048 * (t.val % 49) + l.val < 100000) :
    (win0_0.blk t).view.emb y = (ix2 b (⟨2048 * (t.val % 49) + l.val, hl⟩ : Fin 100000) : S64x100000.Idx) := by
  funext a
  apply Fin.ext
  match a with
  | ⟨0, _⟩ =>
    refine (Pipeline.Window.rect_emb_val _ _ _ _).trans ?_
    rw [idx0 t]
    show 0 * 64 + (y 0).val = b.val
    omega
  | ⟨1, _⟩ =>
    refine (Pipeline.Window.rect_emb_val _ _ _ _).trans ?_
    rw [idx0 t, if_pos h]
    show (t.val % 49) * 2048 + (y 1).val = 2048 * (t.val % 49) + l.val
    omega

/-- In phase 2, index (b, l) of the draws' block is column 2048·j + l of row b of the array, where that column exists. -/
theorem emb1 (t : Fin cfg0.N) (h : t.val / 49 = 2) (y : (win0_1.xblock (grid0.coords t)).Idx) (b : Fin 64) (l : Fin 2048)
    (e0 : (y 0).val = b.val) (e1 : (y 1).val = l.val) (hl : 2048 * (t.val % 49) + l.val < 100000) :
    (win0_1.blk t).view.emb y = (ix2 b (⟨2048 * (t.val % 49) + l.val, hl⟩ : Fin 100000) : S64x100000.Idx) := by
  funext a
  apply Fin.ext
  match a with
  | ⟨0, _⟩ =>
    refine (Pipeline.Window.rect_emb_val _ _ _ _).trans ?_
    rw [idx1 t]
    show 0 * 64 + (y 0).val = b.val
    omega
  | ⟨1, _⟩ =>
    refine (Pipeline.Window.rect_emb_val _ _ _ _).trans ?_
    rw [idx1 t, if_pos h]
    show (t.val % 49) * 2048 + (y 1).val = 2048 * (t.val % 49) + l.val
    omega

/-- An index of the previous objects' block is that index of the array. -/
theorem emb3 (t : Fin cfg0.N) (b : Fin 64) (k : Fin 1) : (win0_3.blk t).view.emb (ix2 b k) = (ix2 b k : S64x1.Idx) := by
  funext a
  apply Fin.ext
  match a with
  | ⟨0, _⟩ =>
    refine (Pipeline.Window.rect_emb_val _ _ _ _).trans ?_
    rw [idx3 t]
    show 0 * 64 + b.val = b.val
    omega
  | ⟨1, _⟩ =>
    refine (Pipeline.Window.rect_emb_val _ _ _ _).trans ?_
    rw [idx3 t]
    show 0 * 1 + k.val = k.val
    omega

/-- An index of the mixing weight's block is that index of the array. -/
theorem emb4 (t : Fin cfg0.N) (b : Fin 1) (k : Fin 1) : (win0_4.blk t).view.emb (ix2 b k) = (ix2 b k : S1x1.Idx) := by
  funext a
  apply Fin.ext
  match a with
  | ⟨0, _⟩ =>
    refine (Pipeline.Window.rect_emb_val _ _ _ _).trans ?_
    rw [idx4 t]
    show 0 * 1 + b.val = b.val
    omega
  | ⟨1, _⟩ =>
    refine (Pipeline.Window.rect_emb_val _ _ _ _).trans ?_
    rw [idx4 t]
    show 0 * 1 + k.val = k.val
    omega

/-- A block of the logits' array reads the array where the block's index embeds. -/
theorem read0 (t : Fin cfg0.N) (X : RVec S64x100000) (y : (win0_0.xblock (grid0.coords t)).Idx) :
    (win0_0.blk t).view.read (Elt Ideal) X y = X ((win0_0.blk t).view.emb y) := rfl
/-- A block of the draws' array reads the array where the block's index embeds. -/
theorem read1 (t : Fin cfg0.N) (X : RVec S64x100000) (y : (win0_1.xblock (grid0.coords t)).Idx) :
    (win0_1.blk t).view.read (Elt Ideal) X y = X ((win0_1.blk t).view.emb y) := rfl
/-- A block of the table's array reads the array where the block's index embeds. -/
theorem read2 (t : Fin cfg0.N) (X : RVec S8x100352) (y : (win0_2.xblock (grid0.coords t)).Idx) :
    (win0_2.blk t).view.read (Elt Ideal) X y = X ((win0_2.blk t).view.emb y) := rfl
/-- A block of the previous objects' array reads the array where the block's index embeds. -/
theorem read3 (t : Fin cfg0.N) (X : IVec S64x1 32) (y : (win0_3.xblock (grid0.coords t)).Idx) :
    (win0_3.blk t).view.read (Elt Ideal) X y = X ((win0_3.blk t).view.emb y) := rfl
/-- A block of the mixing weight's array reads the array where the block's index embeds. -/
theorem read4 (t : Fin cfg0.N) (X : RVec S1x1) (y : (win0_4.xblock (grid0.coords t)).Idx) :
    (win0_4.blk t).view.read (Elt Ideal) X y = X ((win0_4.blk t).view.emb y) := rfl

/-- The logits' block at a point is read off the logits argument. -/
theorem blk_0 (c : Dev nD) (t : Fin cfg0.N) : iblk (F := Ideal) m c 0 t = (win0_0.blk t).view.read (Elt Ideal) (m (c, main_arg0) : RVec S64x100000) :=
  congrArg ((win0_0.blk t).view.read (Elt Ideal)) (V_main_arg0 (F := Ideal) m c)
/-- The draws' block at a point is read off the draws argument. -/
theorem blk_1 (c : Dev nD) (t : Fin cfg0.N) : iblk (F := Ideal) m c 1 t = (win0_1.blk t).view.read (Elt Ideal) (m (c, main_arg3) : RVec S64x100000) :=
  congrArg ((win0_1.blk t).view.read (Elt Ideal)) (V_main_arg3 (F := Ideal) m c)
/-- The table's block at a point is read off the table of the centers and the mask. -/
theorem blk_2 (c : Dev nD) (t : Fin cfg0.N) : iblk (F := Ideal) m c 2 t = (win0_2.blk t).view.read (Elt Ideal) (tab2 (m (c, main_arg1)) (m (c, main_arg2))) :=
  congrArg ((win0_2.blk t).view.read (Elt Ideal)) (entry9 m c)
/-- The previous objects' block at a point is read off the previous objects, as a column. -/
theorem blk_3 (c : Dev nD) (t : Fin cfg0.N) : iblk (F := Ideal) m c 3 t = (win0_3.blk t).view.read (Elt Ideal) (shapeCast S64x1 (m (c, main_arg5)) shapeCasts_S64_S64x1 : IVec S64x1 32) :=
  congrArg ((win0_3.blk t).view.read (Elt Ideal)) (entry10 m c)
/-- The mixing weight's block at a point is read off the mixing weight, as a one-by-one array. -/
theorem blk_4 (c : Dev nD) (t : Fin cfg0.N) : iblk (F := Ideal) m c 4 t = (win0_4.blk t).view.read (Elt Ideal) (shapeCast S1x1 (m (c, main_arg4)) shapeCasts_S_S1x1 : RVec S1x1) :=
  congrArg ((win0_4.blk t).view.read (Elt Ideal)) (entry11 m c)

/-- The logits' staging buffer in phase 1, where the block lies in the array. -/
theorem logits_at (c : Dev nD) (t : Fin cfg0.N) (h1 : t.val / 49 = 1) (d : RVec S64x2048) (b : Fin 64) (l : Fin 2048) (hl : 2048 * (t.val % 49) + l.val < 100000) :
    win0_0.fill (grid0.coords t) d (iblk (F := Ideal) m c 0 t) (ix2 b l) = (m (c, main_arg0) : RVec S64x100000) (ix2 b ⟨2048 * (t.val % 49) + l.val, hl⟩) := by
  have hm : win0_0.moved (grid0.coords t) (ix2 b l) := by
    rw [Pipeline.Window.moved_iff]
    intro a
    have hx := xs0 t
    rw [if_pos h1] at hx
    have := b.isLt
    have := l.isLt
    match a with
    | ⟨0, _⟩ => erw [hx.1]; exact b.isLt
    | ⟨1, _⟩ => erw [hx.2]; show l.val < _; omega
  unfold Pipeline.Window.fill
  rw [dif_pos hm]
  rw [blk_0, read0, emb0 t h1 _ b l rfl rfl hl]

/-- The draws' staging buffer in phase 2, where the block lies in the array. -/
theorem draws_at (c : Dev nD) (t : Fin cfg0.N) (h1 : t.val / 49 = 2) (d : RVec S64x2048) (b : Fin 64) (l : Fin 2048) (hl : 2048 * (t.val % 49) + l.val < 100000) :
    win0_1.fill (grid0.coords t) d (iblk (F := Ideal) m c 1 t) (ix2 b l) = (m (c, main_arg3) : RVec S64x100000) (ix2 b ⟨2048 * (t.val % 49) + l.val, hl⟩) := by
  have hm : win0_1.moved (grid0.coords t) (ix2 b l) := by
    rw [Pipeline.Window.moved_iff]
    intro a
    have hx := xs1 t
    rw [if_pos h1] at hx
    have := b.isLt
    have := l.isLt
    match a with
    | ⟨0, _⟩ => erw [hx.1]; exact b.isLt
    | ⟨1, _⟩ => erw [hx.2]; show l.val < _; omega
  unfold Pipeline.Window.fill
  rw [dif_pos hm]
  rw [blk_1, read1, emb1 t h1 _ b l rfl rfl hl]

/-- The table's staging buffer. -/
theorem table_at (c : Dev nD) (t : Fin cfg0.N) (k : Fin 8) (l : Fin 2048) (hl : 2048 * (t.val % 49) + l.val < 100352) :
    (iblk (F := Ideal) m c 2 t : RVec S8x2048) (ix2 k l) = tab2 (m (c, main_arg1)) (m (c, main_arg2)) (ix2 k ⟨2048 * (t.val % 49) + l.val, hl⟩) := by
  rw [blk_2, read2, emb2 t k l hl]

/-- The previous objects' staging buffer holds each row's previous object. -/
theorem prev_at (c : Dev nD) (t : Fin cfg0.N) (b : Fin 64) :
    (iblk (F := Ideal) m c 3 t : IVec S64x1 32) (ix2 b 0) = (m (c, main_arg5) : IVec S64 32) (ix1 b) := by
  have : (shapeCast S64x1 (m (c, main_arg5)) shapeCasts_S64_S64x1 : IVec S64x1 32) (ix2 b 0) = (m (c, main_arg5) : IVec S64 32) (ix1 b) := by pointwise
  rw [blk_3, read3, emb3 t b 0, this]

/-- The mixing weight's staging buffer holds the mixing weight. -/
theorem eps_at (c : Dev nD) (t : Fin cfg0.N) :
    (iblk (F := Ideal) m c 4 t : RVec S1x1) (ix2 0 0) = (m (c, main_arg4) : RVec S_) ix0 := by
  have : (shapeCast S1x1 (m (c, main_arg4)) shapeCasts_S_S1x1 : RVec S1x1) (ix2 0 0) = (m (c, main_arg4) : RVec S_) ix0 := by pointwise
  rw [blk_4, read4, emb4 t 0 0, this]

end Cert.KernelIdeal.Hand

end
-- ==== Proof.Launch.lean ====
/-
  The region's run with the values named: the scratch follows the invariant, and the last point stores each row's winner.
-/
module

public import proofs.«01_k».proof.Proof.Blocks

@[expose] public section

set_option maxRecDepth 65536

noncomputable section

namespace Cert.KernelIdeal.Hand

open Cert.KernelIdeal Cert.KernelIdeal.Gen Cert.KernelIdeal.Pay Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

local notation "𝕄" => MT nD τ sig Unit (Elt Ideal) ℕ (UR sig nD τ) ℕ

variable (m : (ℓ : Loc nD τ sig) → Buf (Elt Ideal) ℓ) (ρ : Dev nD → PrngReg)

/-- A row of the arguments. -/
def rowD (c : Dev nD) (b : Fin 64) : Row :=
  rowOf (fun n => (m (c, main_arg0) : RVec S64x100000) (ix2 b n)) (fun k n => (m (c, main_arg1) : RVec S100000x3) (ix2 n k))
    (fun n => (m (c, main_arg2) : RVec S100000) (ix1 n)) ((m (c, main_arg4) : RVec S_) ix0) ((m (c, main_arg5) : IVec S64 32) (ix1 b))

/-- A row of the draws. -/
def drawD (c : Dev nD) (b : Fin 64) : ℕ → EReal := pad fun n => (m (c, main_arg3) : RVec S64x100000) (ix2 b n)

/-- The table's block is the rows'. -/
theorem blkD (c : Dev nD) (t : Fin cfg0.N) (hpv : ∀ b, ((m (c, main_arg5) : IVec S64 32) (ix1 b)).toNat < 100000) :
    Blk (rowD m c) (t.val % 49) (iblk (F := Ideal) m c 2 t) (iblk (F := Ideal) m c 3 t) := by
  have hj : t.val % 49 < 49 := Nat.mod_lt _ (by norm_num)
  have hct : ∀ (r : Fin 8) (k : Fin 3) (hr : k.val = r.val) (b : Fin 64) (l : Fin 2048),
      (iblk (F := Ideal) m c 2 t : RVec S8x2048) (ix2 r l) = (rowD m c b).ct k (2048 * (t.val % 49) + l.val) := by
    intro r k hr b l
    have hl := l.isLt
    rw [table_at m c t r l (by omega)]
    by_cases hn : 2048 * (t.val % 49) + l.val < 100000
    · rw [tab2_ct _ _ r k _ ⟨2048 * (t.val % 49) + l.val, hn⟩ hr rfl]
      exact (pad_lt (fun n => (m (c, main_arg1) : RVec S100000x3) (ix2 n k)) _ hn).symm
    · rw [tab2_ct_off _ _ r _ (not_lt.mp hn)]
      exact (pad_ge (fun n => (m (c, main_arg1) : RVec S100000x3) (ix2 n k)) _ (not_lt.mp hn)).symm
  refine ⟨hct 0 0 rfl, hct 1 1 rfl, hct 2 2 rfl, ?_, ?_, hpv, fun b => rowOf_off _ _ _ _ _⟩
  · intro b l
    have hl := l.isLt
    rw [table_at m c t 3 l (by omega)]
    by_cases hn : 2048 * (t.val % 49) + l.val < 100000
    · rw [tab2_mf _ _ _ ⟨2048 * (t.val % 49) + l.val, hn⟩ rfl]
      exact (pad_lt (fun n => (m (c, main_arg2) : RVec S100000) (ix1 n)) _ hn).symm
    · rw [tab2_ct_off _ _ 3 _ (not_lt.mp hn)]
      exact (pad_ge (fun n => (m (c, main_arg2) : RVec S100000) (ix1 n)) _ (not_lt.mp hn)).symm
  · intro b
    rw [prev_at]
    show _ = BitVec.ofNat 32 (BitVec.toNat _)
    rw [BitVec.ofNat_toNat, BitVec.setWidth_eq]

variable (col : Dev nD → Fin 64 → ℕ)

/-- The two results of the region, the winners' columns given. -/
def resS (c : Dev nD) : IVec S64x1 32 := fun i => BitVec.ofNat 32 (col c (i 0))
/-- The winners' log-probabilities, as a column. -/
def resL (c : Dev nD) : RVec S64x1 := fun i => (rowD m c (i 0)).lp (col c (i 0))

/-- The proof data. -/
def vdats (_ : Fin 1) (c : Dev nD) : Dat τ (Elt Ideal) Unit ℕ (UR sig nD τ) ℕ cfg0 c where
  A w := V m c (Pipeline.arrRef spec0 w)
  after w t := match w with
    | 0 => win0_0.fill (grid0.coords t) (fun _ => (0 : EReal)) (iblk m c 0 t)
    | 1 => win0_1.fill (grid0.coords t) (fun _ => (0 : EReal)) (iblk m c 1 t)
    | 2 => iblk m c 2 t
    | 3 => iblk m c 3 t
    | 4 => iblk m c 4 t
    | 5 => resS col c
    | 6 => resL m col c
    | ⟨_ + 7, h⟩ => absurd h (Nat.not_lt.2 (Nat.le_add_left _ _))
  Φ t := iprop((∃ S : Scr Ideal, ⌜Inv (rowD m c) (drawD m c) t.val S⌝ ∗ scratchAt c S) ∗ ∃ r, prngReg c r)
  q _ := fullShare
  owed _ := 0

/-- The data start from the arrays' contents at the region's entry. -/
theorem vA_eq (c : Dev nD) (w : Fin cfg0.W) : (vdats m col 0 c).A w = V m c (Pipeline.arrRef spec0 w) := by dsimp only [vdats]

/-- After a point the table's staging buffer still holds its block. -/
theorem vafter2 (c : Dev nD) (t : Fin cfg0.N) : (vdats m col 0 c).after 2 t = iblk (F := Ideal) m c 2 t := by dsimp only [vdats]
/-- After a point the previous objects' staging buffer still holds its block. -/
theorem vafter3 (c : Dev nD) (t : Fin cfg0.N) : (vdats m col 0 c).after 3 t = iblk (F := Ideal) m c 3 t := by dsimp only [vdats]
/-- After a point the mixing weight's staging buffer still holds its block. -/
theorem vafter4 (c : Dev nD) (t : Fin cfg0.N) : (vdats m col 0 c).after 4 t = iblk (F := Ideal) m c 4 t := by dsimp only [vdats]

/-- Before a point the logits' staging buffer holds its block, and past the array's end whatever was there. -/
theorem vbefore0 (c : Dev nD) (t : Fin cfg0.N) (d) : (vdats m col 0 c).before 0 t d = win0_0.fill (grid0.coords t) d (iblk m c 0 t) :=
  ((vdats m col 0 c).before_in_eq_fetched 0 rfl (fun _ => rfl)
    (fun t t' h => funext fun a => congrArg (fun n => Pipeline.Clip.of n ((cfg0.win 0).size a) (S64x100000.size a)) (congrFun h a))
    (fun t => by
      show win0_0.cut (grid0.coords t) (win0_0.fill (grid0.coords t) (fun _ => (0 : EReal)) (iblk m c 0 t)) = _
      rw [Pipeline.Window.cut_fill]; unfold Dat.blockOf iblk; rw [vA_eq]) t d).trans
    (by unfold Dat.fetched Dat.blockOf iblk; rw [vA_eq])

/-- Before a point the draws' staging buffer holds its block, and past the array's end whatever was there. -/
theorem vbefore1 (c : Dev nD) (t : Fin cfg0.N) (d) : (vdats m col 0 c).before 1 t d = win0_1.fill (grid0.coords t) d (iblk m c 1 t) :=
  ((vdats m col 0 c).before_in_eq_fetched 1 rfl (fun _ => rfl)
    (fun t t' h => funext fun a => congrArg (fun n => Pipeline.Clip.of n ((cfg0.win 1).size a) (S64x100000.size a)) (congrFun h a))
    (fun t => by
      show win0_1.cut (grid0.coords t) (win0_1.fill (grid0.coords t) (fun _ => (0 : EReal)) (iblk m c 1 t)) = _
      rw [Pipeline.Window.cut_fill]; unfold Dat.blockOf iblk; rw [vA_eq]) t d).trans
    (by unfold Dat.fetched Dat.blockOf iblk; rw [vA_eq])

/-- The first result's buffer is left alone at every point but the last. -/
theorem idle_5 : ∀ t : Fin cfg0.N, idle0 5 (grid0.coords t) = !decide (t.val = 146) := (by decide +kernel : ∀ t : Fin grid0.N, _)
/-- The second result's buffer is left alone at every point but the last. -/
theorem idle_6 : ∀ t : Fin cfg0.N, idle0 6 (grid0.coords t) = !decide (t.val = 146) := (by decide +kernel : ∀ t : Fin grid0.N, _)
/-- The last point is number 146. -/
theorem last_iff : ∀ t : Fin cfg0.N, isLast (grid0.coords t) ↔ t.val = 146 := (by decide +kernel : ∀ t : Fin grid0.N, _)

/-- One point's step of the invariant. -/
theorem vstep (c : Dev nD) (t : Fin cfg0.N) (hpv : ∀ b, ((m (c, main_arg5) : IVec S64 32) (ix1 b)).toNat < 100000) {S : Scr Ideal}
    (h : Inv (rowD m c) (drawD m c) t.val S) (d0 d1 : RVec S64x2048) :
    Inv (rowD m c) (drawD m c) (t.val + 1) (step (grid0.coords t) (win0_0.fill (grid0.coords t) d0 (iblk m c 0 t)) (win0_1.fill (grid0.coords t) d1 (iblk m c 1 t))
      (iblk m c 2 t) (iblk m c 3 t) (iblk m c 4 t) S) := by
  refine inv_step t (blkD m c t hpv) (fun h1 b l hl => ?_) (fun h2 b l hl => ?_) (fun b => eps_at m c t) h
  · rw [logits_at m c t h1 d0 b l hl]
    exact (pad_lt (fun n => (m (c, main_arg0) : RVec S64x100000) (ix2 b n)) _ hl).symm
  · rw [draws_at m c t h2 d1 b l hl]
    exact (pad_lt (fun n => (m (c, main_arg3) : RVec S64x100000) (ix2 b n)) _ hl).symm

/-- What the last point stores. -/
theorem vlast (c : Dev nD) (hw : ∀ b, Win (rowD m c b) (drawD m c b) (col c b)) {S : Scr Ideal} (h : Inv (rowD m c) (drawD m c) 147 S) :
    outS S = resS col c ∧ outL S = resL m col c := by
  constructor
  · funext i
    obtain ⟨b, k, rfl⟩ : ∃ b k, i = ix2 b k := ⟨i 0, i 1, eq_ix2 i⟩
    obtain rfl : k = 0 := Subsingleton.elim _ _
    exact (inv_last h b (fun n => rowOf_off _ _ _ _ _ n) (hw b)).1
  · funext i
    obtain ⟨b, k, rfl⟩ : ∃ b k, i = ix2 b k := ⟨i 0, i 1, eq_ix2 i⟩
    obtain rfl : k = 0 := Subsingleton.elim _ _
    exact (inv_last h b (fun n => rowOf_off _ _ _ _ _ n) (hw b)).2

/-- What is left in a results' buffer: at the last point the result, before it whatever was there. -/
def left5 (c : Dev nD) (t : Fin cfg0.N) : sProp 𝕄 :=
  if t.val = 146 then owns (c : Thread nD τ) (st0_5 t) fullShare (resS col c) else iprop(∃ d, owns (c : Thread nD τ) (st0_5 t) fullShare ((vdats m col 0 c).before 5 t d))
/-- What is left in the second result's buffer: at the last point the result, before it whatever was there. -/
def left6 (c : Dev nD) (t : Fin cfg0.N) : sProp 𝕄 :=
  if t.val = 146 then owns (c : Thread nD τ) (st0_6 t) fullShare (resL m col c) else iprop(∃ d, owns (c : Thread nD τ) (st0_6 t) fullShare ((vdats m col 0 c).before 6 t d))

/-- That is what the first result's window leaves in its buffer. -/
theorem left5_leaves (c : Dev nD) (t : Fin cfg0.N) : left5 m col c t = (vdats m col 0 c).leaves 5 t := by
  unfold left5
  have hi : cfg0.idle 5 (cfg0.grid.coords t) = !decide (t.val = 146) := idle_5 t
  have hf := flush0_5 t
  have ht : t.val < 147 := t.isLt
  show _ = match cfg0.idle 5 (cfg0.grid.coords t) with
    | true => match (cfg0.win 5).flush t with
      | false => iprop(∃ d, owns (c : Thread nD τ) (st0_5 t) fullShare ((vdats m col 0 c).before 5 t d))
      | true => owns (c : Thread nD τ) (st0_5 t) fullShare (resS col c)
    | false => owns (c : Thread nD τ) (st0_5 t) fullShare (resS col c)
  by_cases h : t.val = 146
  · rw [if_pos h, hi, decide_eq_true h]; rfl
  · have : (cfg0.win 5).flush t = false := by
      rw [Bool.eq_false_iff]; intro q; exact h (by have := hf.mp q; omega)
    rw [if_neg h, hi, decide_eq_false h, this]; rfl
/-- That is what the second result's window leaves in its buffer. -/
theorem left6_leaves (c : Dev nD) (t : Fin cfg0.N) : left6 m col c t = (vdats m col 0 c).leaves 6 t := by
  unfold left6
  have hi : cfg0.idle 6 (cfg0.grid.coords t) = !decide (t.val = 146) := idle_6 t
  have hf := flush0_6 t
  have ht : t.val < 147 := t.isLt
  show _ = match cfg0.idle 6 (cfg0.grid.coords t) with
    | true => match (cfg0.win 6).flush t with
      | false => iprop(∃ d, owns (c : Thread nD τ) (st0_6 t) fullShare ((vdats m col 0 c).before 6 t d))
      | true => owns (c : Thread nD τ) (st0_6 t) fullShare (resL m col c)
    | false => owns (c : Thread nD τ) (st0_6 t) fullShare (resL m col c)
  by_cases h : t.val = 146
  · rw [if_pos h, hi, decide_eq_true h]; rfl
  · have : (cfg0.win 6).flush t = false := by
      rw [Bool.eq_false_iff]; intro q; exact h (by have := hf.mp q; omega)
    rw [if_neg h, hi, decide_eq_false h, this]; rfl

variable (hpv : ∀ c b, ((m (c, main_arg5) : IVec S64 32) (ix1 b)).toNat < 100000) (hw : ∀ c b, Win (rowD m c b) (drawD m c b) (col c b))

include hpv hw in
/-- The body from the invariant and the blocks, to the next point's invariant and, at the last point, the results. -/
theorem value_body (c : Dev nD) (t : Fin cfg0.N) :
    iprop((vdats m col 0 c).Φ t.castSucc ∗ (vdats m col 0 c).owesAt () t.castSucc
        ∗ (∃ d, owns (c : Thread nD τ) (st0_0 t) fullShare ((vdats m col 0 c).before 0 t d))
        ∗ (∃ d, owns (c : Thread nD τ) (st0_1 t) fullShare ((vdats m col 0 c).before 1 t d))
        ∗ (∃ d, owns (c : Thread nD τ) (st0_2 t) fullShare ((vdats m col 0 c).before 2 t d))
        ∗ (∃ d, owns (c : Thread nD τ) (st0_3 t) fullShare ((vdats m col 0 c).before 3 t d))
        ∗ (∃ d, owns (c : Thread nD τ) (st0_4 t) fullShare ((vdats m col 0 c).before 4 t d))
        ∗ (∃ d, owns (c : Thread nD τ) (st0_5 t) fullShare ((vdats m col 0 c).before 5 t d))
        ∗ (∃ d, owns (c : Thread nD τ) (st0_6 t) fullShare ((vdats m col 0 c).before 6 t d)))
      ⊢ wp frame (wpE (defs₀ (F := Ideal)) Variants.none c none) Set.univ (bodyAt0 t) fun _ =>
        iprop((vdats m col 0 c).Φ t.succ ∗ (vdats m col 0 c).owesAt () t.succ
        ∗ (∃ d, owns (c : Thread nD τ) (st0_0 t) fullShare (win0_0.fill (grid0.coords t) d (win0_0.cut (grid0.coords t) ((vdats m col 0 c).after 0 t))))
        ∗ (∃ d, owns (c : Thread nD τ) (st0_1 t) fullShare (win0_1.fill (grid0.coords t) d (win0_1.cut (grid0.coords t) ((vdats m col 0 c).after 1 t))))
        ∗ owns (c : Thread nD τ) (st0_2 t) fullShare ((vdats m col 0 c).after 2 t)
        ∗ owns (c : Thread nD τ) (st0_3 t) fullShare ((vdats m col 0 c).after 3 t)
        ∗ owns (c : Thread nD τ) (st0_4 t) fullShare ((vdats m col 0 c).after 4 t)
        ∗ left5 m col c t ∗ left6 m col c t) := by
  rw [show (vdats m col 0 c).Φ t.succ = iprop((∃ S : Scr Ideal, ⌜Inv (rowD m c) (drawD m c) (t.val + 1) S⌝ ∗ scratchAt c S) ∗ ∃ r, prngReg c r) from rfl,
    show (vdats m col 0 c).Φ t.castSucc = iprop((∃ S : Scr Ideal, ⌜Inv (rowD m c) (drawD m c) t.val S⌝ ∗ scratchAt c S) ∗ ∃ r, prngReg c r) from rfl,
    show (vdats m col 0 c).owesAt () t.succ = (vdats m col 0 c).owesAt () t.castSucc from rfl,
    show (vdats m col 0 c).after 0 t = win0_0.fill (grid0.coords t) (fun _ => (0 : EReal)) (iblk m c 0 t) from rfl,
    show (vdats m col 0 c).after 1 t = win0_1.fill (grid0.coords t) (fun _ => (0 : EReal)) (iblk m c 1 t) from rfl,
    vafter2 m col c t, vafter3 m col c t,
    vafter4 m col c t]
  have b0 := vbefore0 m col c t
  have b1 := vbefore1 m col c t
  have b2 := before0_2_of m (vdats m col 0 c) (vA_eq m col c 2) (vafter2 m col c) t
  have b3 := before0_3_of m (vdats m col 0 c) (vA_eq m col c 3) (vafter3 m col c) t
  have b4 := before0_4_of m (vdats m col 0 c) (vA_eq m col c 4) (vafter4 m col c) t
  simp only [b0, b1, b2, b3, b4, Pipeline.Window.cut_fill]
  have hstep := fun (S : Scr Ideal) (h : Inv (rowD m c) (drawD m c) t.val S) => vstep m c t (hpv c) h
  have hlast := fun (S : Scr Ideal) => vlast m col c (hw c) (S := S)
  have hl := last_iff t
  unfold left5 left6
  simp only [owns_eq_rep]
  iintro ⟨⟨⟨%S, %hS, HS⟩, HP⟩, Ho, ⟨%d0, H0⟩, ⟨%d1, H1⟩, ⟨%d2, H2⟩, ⟨%d3, H3⟩, ⟨%d4, H4⟩, ⟨%d5, H5⟩, ⟨%d6, H6⟩⟩
  have hS' := hstep S hS d0 d1
  iapply (body_triple c t _ _ _ _ _ _ _ S _ rfl _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS HP]
  · isplitl [HS]
    · iexists _
      isplitr
      · ipureintro; exact hS'
      iexact HS
    iexact HP
  isplitl [Ho]; · iexact Ho
  isplitl [H0]; · iexists d0; iexact H0
  isplitl [H1]; · iexists d1; iexact H1
  isplitl [H2]; · iexact H2
  isplitl [H3]; · iexact H3
  isplitl [H4]; · iexact H4
  by_cases h : t.val = 146
  · rw [if_pos h, if_pos h, if_pos (hl.mpr h), if_pos (hl.mpr h)]
    rw [h] at hS'
    rw [(hlast _ hS').1, (hlast _ hS').2]
    isplitl [H5]; · iexact H5
    iexact H6
  · rw [if_neg h, if_neg h, if_neg fun q => h (hl.mp q), if_neg fun q => h (hl.mp q)]
    isplitl [H5]; · iexists d5; iexact H5
    iexists d6; iexact H6

include hpv hw in
/-- The body meets its obligation at every point with the invariant and the results named. -/
theorem value_obligation (c : Dev nD) :
    BodyObligationLoose (vdats m col 0 c) (defs₀ (F := Ideal)) Variants.none () Set.univ := fun t => by
  rw [bigSep_W0, bigSep_W0, defs₀_row]
  refine triple_restated (value_body m col hpv hw c t) rfl .rfl fun _ => ?_
  rw [left5_leaves, left6_leaves]

end Cert.KernelIdeal.Hand

end
-- ==== Proof.Value.lean ====
/-
  The whole program's run with the values named: the two results are the winners and their log-probabilities.
-/
module

public import proofs.«01_k».proof.Proof.Launch

@[expose] public section

set_option maxRecDepth 65536

noncomputable section

namespace Cert.KernelIdeal.Hand

open Cert.KernelIdeal Cert.KernelIdeal.Gen Cert.KernelIdeal.Pay Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable (m : (ℓ : Loc nD τ sig) → Buf (Elt Ideal) ℓ) (ρ : Dev nD → PrngReg) (col : Dev nD → Fin 64 → ℕ)
variable (hpv : ∀ c b, ((m (c, main_arg5) : IVec S64 32) (ix1 b)).toNat < 100000) (hw : ∀ c b, Win (rowD m c b) (drawD m c b) (col c b))

/-- The last grid point. -/
def tLast : Fin cfg0.N := (⟨146, by decide⟩ : Fin grid0.N)

/-- The first result's window covers its array at the last point. -/
theorem whole5 : win0_5.WholeAt tLast := by decide +kernel
/-- The second result's window covers its array at the last point. -/
theorem whole6 : win0_6.WholeAt tLast := by decide +kernel

/-- The array of the first result after the region. -/
theorem arr5 (c : Dev nD) : (vdats m col 0 c).arrAt 5 cfg0.N = resS col c :=
  (vdats m col 0 c).arrAt_eq_of_after_last 5 tLast whole5 (resS col c) fun j => rfl
/-- The array of the second result after the region. -/
theorem arr6 (c : Dev nD) : (vdats m col 0 c).arrAt 6 cfg0.N = resL m col c :=
  (vdats m col 0 c).arrAt_eq_of_after_last 6 tLast whole6 (resL m col c) fun j => rfl

/-- The region starts with the scratch at anything. -/
theorem phi_in (c : Dev nD) : (Pipeline.ΦA (U := UR sig nD τ) (Val := Elt Ideal) spec0 c) ⊢ (vdats m col 0 c).Φ 0 := by
  rw [show (vdats m col 0 c).Φ 0 = iprop((∃ S : Scr Ideal, ⌜Inv (rowD m c) (drawD m c) 0 S⌝ ∗ scratchAt c S) ∗ ∃ r, prngReg c r) from rfl]
  unfold Pipeline.ΦA
  rw [scopedRest_scratch]
  iintro ⟨⟨%S, HS⟩, HP⟩
  isplitl [HS]
  · iexists S
    isplitr
    · ipureintro
      show Inv _ _ 0 S
      unfold Inv
      rw [if_pos rfl]; trivial
    iexact HS
  iexact HP
/-- The region ends with the scratch at anything. -/
theorem phi_out (c : Dev nD) : (vdats m col 0 c).Φ (Fin.last cfg0.N) ⊢ (Pipeline.ΦA (U := UR sig nD τ) (Val := Elt Ideal) spec0 c) := by
  rw [show (vdats m col 0 c).Φ (Fin.last cfg0.N) = iprop((∃ S : Scr Ideal, ⌜Inv (rowD m c) (drawD m c) cfg0.N S⌝ ∗ scratchAt c S) ∗ ∃ r, prngReg c r) from rfl]
  unfold Pipeline.ΦA
  rw [scopedRest_scratch]
  iintro ⟨⟨%S, %hS, HS⟩, HP⟩
  isplitl [HS]
  · iexists S; iexact HS
  iexact HP

include hpv hw in
set_option backward.isDefEq.respectTransparency.types false in
/-- Every run of the kernel ends, with the arrays as the data say. -/
theorem run_value :
    θ_run defs (onTc (τ := τ) (main (F := Ideal))) (s₀ m ρ)
      (Pipeline.FramePost cfgs (vdats m col) 0 (Pipeline.afterTail₀ cfgs (vdats m col) 0 (V0 m) [hostOps1])) :=
  Pipeline.θ_run_frame_around_track (Q' := _) cfgs (vdats m col) (0 : Fin 1) launch0 defs₀ Variants.none m ρ main
    (hbody := fun c => value_obligation m col hpv hw c) (hshare := fun c => (vdats m col 0 c).share_full fun _ => rfl)
    (howed := fun _ _ => rfl) (V₀ := V0 m) (opss := [hostOps1]) (hsub := sfx_sub) (hfresh := sfx_fresh) (hkeep := sfx_keeps)
    (hmain := hmain m Variants.none) (hA := vA_eq m col) (hin := phi_in m col) (hout := phi_out m col)

/-- The buffers of two windows differ. -/
theorem arrays_inj : Function.Injective (Pipeline.arrRef (cfgs 0).spec) := by decide +kernel

/-- A column of one reads back flat. -/
theorem flat_i (v : IVec S64x1 32) : (shapeCast S64 v shapeCasts_S64x1_S64 : IVec S64 32) = fun i => v (ix2 (i 0) 0) := by
  funext i
  obtain ⟨a, rfl⟩ : ∃ a : Fin 64, i = ix1 a := ⟨i 0, by funext k; fin_cases k; rfl⟩
  pointwise
/-- A column of reals reads back flat. -/
theorem flat_r (v : RVec S64x1) : (shapeCast S64 v shapeCasts_S64x1_S64 : RVec S64) = fun i => v (ix2 (i 0) 0) := by
  funext i
  obtain ⟨a, rfl⟩ : ∃ a : Fin 64, i = ix1 a := ⟨i 0, by funext k; fin_cases k; rfl⟩
  pointwise

/-- The first result read after the host's last lines. -/
theorem tail13 (c : Dev nD) : Pipeline.afterTail₀ cfgs (vdats m col) 0 (V0 m) [hostOps1] c main_v13 = (fun i => BitVec.ofNat 32 (col c (i 0)) : IVec S64 32) := by
  unfold Pipeline.afterTail₀
  rw [show ([hostOps1 (F := Ideal)].flatten) = hostOps1 from by simp only [List.flatten_cons, List.flatten_nil, List.append_nil]]
  unfold hostOps1
  after_results
  have h := (Pipeline.withArrays_arr (cfgs 0).spec arrays_inj c (V0 m c) (fun w => (vdats m col 0 c).arrAt w (cfgs 0).N) 5).trans (arr5 m col c)
  refine Eq.trans (?_ : _ = (shapeCast S64 (resS col c) shapeCasts_S64x1_S64 : IVec S64 32)) ?_
  · exact congrArg (fun v : IVec S64x1 32 => (shapeCast S64 v shapeCasts_S64x1_S64 : IVec S64 32)) h
  · rw [flat_i]; rfl
/-- The second one. -/
theorem tail14 (c : Dev nD) : Pipeline.afterTail₀ cfgs (vdats m col) 0 (V0 m) [hostOps1] c main_v14 = (fun i => (rowD m c (i 0)).lp (col c (i 0)) : RVec S64) := by
  unfold Pipeline.afterTail₀
  rw [show ([hostOps1 (F := Ideal)].flatten) = hostOps1 from by simp only [List.flatten_cons, List.flatten_nil, List.append_nil]]
  unfold hostOps1
  after_results
  have h := (Pipeline.withArrays_arr (cfgs 0).spec arrays_inj c (V0 m c) (fun w => (vdats m col 0 c).arrAt w (cfgs 0).N) 6).trans (arr6 m col c)
  refine Eq.trans (?_ : _ = (shapeCast S64 (resL m col c) shapeCasts_S64x1_S64 : RVec S64)) ?_
  · exact congrArg (fun v : RVec S64x1 => (shapeCast S64 v shapeCasts_S64x1_S64 : RVec S64)) h
  · rw [flat_r]; rfl

include hpv hw in
/-- The program runs: its results are the winners and their log-probabilities, and the arguments end as launched. -/
theorem run_results :
    θ_run defs (onTc (τ := τ) (main (F := Ideal))) ⟨m, fun _ => 0, ρ⟩ (fun r => ∀ c : Dev nD,
      r.2.mem ((c.tc : Thread nD τ).loc main_v13) = (fun i => BitVec.ofNat 32 (col c (i 0)) : IVec S64 32)
      ∧ r.2.mem ((c.tc : Thread nD τ).loc main_v14) = (fun i => (rowD m c (i 0)).lp (col c (i 0)) : RVec S64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨((h c).2 main_v13 (Pipeline.mem_restRefs_of main_v13 (by decide) (by decide))).trans (tail13 m col c),
    ((h c).2 main_v14 (Pipeline.mem_restRefs_of main_v14 (by decide) (by decide))).trans (tail14 m col c), ?_, ?_, ?_, ?_, ?_, ?_⟩) (run_value m ρ col hpv hw)
  · exact ((h c).1 0).trans (((vdats m col 0 c).arrAt_in 0 rfl _).trans ((vA_eq m col c 0).trans (V_main_arg0 m c)))
  · exact ((h c).2 main_arg1 (Pipeline.mem_restRefs_of main_arg1 (by decide) (by decide))).trans (W_main_arg1 m (vdats m col) c)
  · exact ((h c).2 main_arg2 (Pipeline.mem_restRefs_of main_arg2 (by decide) (by decide))).trans (W_main_arg2 m (vdats m col) c)
  · exact ((h c).1 1).trans (((vdats m col 0 c).arrAt_in 1 rfl _).trans ((vA_eq m col c 1).trans (V_main_arg3 m c)))
  · exact ((h c).2 main_arg4 (Pipeline.mem_restRefs_of main_arg4 (by decide) (by decide))).trans (W_main_arg4 m (vdats m col) c)
  · exact ((h c).2 main_arg5 (Pipeline.mem_restRefs_of main_arg5 (by decide) (by decide))).trans (W_main_arg5 m (vdats m col) c)

end Cert.KernelIdeal.Hand

end
-- ==== Proof.RefFun.lean ====
/-
  The reference's steps as functions of tensors: masks, distances, weights, softmax, mixture, and the choice.
-/
module

public import proofs.«01_k».proof.Proof.Gen.ReferenceIdeal

@[expose] public section

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Two columns of indices side by side. -/
def indexPair (a b : Vec F S64x1 .i32) : Vec F S64x2 .i32 :=
  concatenate S64x2 1 [⟨S64x1, a⟩, ⟨S64x1, b⟩] concatenates_S64x1_S64x1_S64x2_d1

/-- The objects each row may choose. -/
def maskOf (mf : Vec F S100000 .f32) (pv : Vec F S64 .i32) : Vec F S64x100000 .i1 :=
  Host.scatter scatter_S64x100000_S64x2_S64_n_01_01_1 (fun _ b => b) (broadcastInDim S64x100000 ![1] bcast_S100000_S64x100000_1 (cmpf .ogt mf (broadcastInDim S100000 ![] bcast_S_S100000 (constant S_ .f32 0x3D4CCCCD#32)))) (indexPair (F := F) (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0))) (broadcastInDim S64x1 ![0] bcast_S64_S64x1_0 (select (cmpi .slt pv (broadcastInDim S64 ![] bcast_S_S64 (constantI S_ 32 0#32))) (addi pv (broadcastInDim S64 ![] bcast_S_S64 (constantI S_ 32 100000#32))) pv))) (broadcastInDim S64 ![] bcast_S_S64 (constantI S_ 1 0#1))

/-- The offset of every object from the row’s previous one. -/
def diffOf (ce : Vec F S100000x3 .f32) (pv : Vec F S64 .i32) : Vec F S64x100000x3 .f32 :=
  subf (broadcastInDim S64x100000x3 ![0, 1, 2] bcast_S1x100000x3_S64x100000x3_0_1_2 (broadcastInDim S1x100000x3 ![1, 2] bcast_S100000x3_S1x100000x3_1_2 ce)) (broadcastInDim S64x100000x3 ![0, 1, 2] bcast_S64x1x3_S64x100000x3_0_1_2 (broadcastInDim S64x1x3 ![0, 2] bcast_S64x3_S64x1x3_0_2 (select (broadcastInDim S64x3 ![0] bcast_S64_S64x3_0 (Host.reduce IntOp.andi (andi (cmpi .sge (broadcastInDim S64x1 ![0] bcast_S64_S64x1_0 (select (cmpi .slt pv (broadcastInDim S64 ![] bcast_S_S64 (constantI S_ 32 0#32))) (addi pv (broadcastInDim S64 ![] bcast_S_S64 (constantI S_ 32 100000#32))) pv)) (broadcastInDim S64x1 ![] bcast_S_S64x1 (constantI S_ 32 0#32))) (cmpi .sle (broadcastInDim S64x1 ![0] bcast_S64_S64x1_0 (select (cmpi .slt pv (broadcastInDim S64 ![] bcast_S_S64 (constantI S_ 32 0#32))) (addi pv (broadcastInDim S64 ![] bcast_S_S64 (constantI S_ 32 100000#32))) pv)) (broadcastInDim S64x1 ![0, 1] bcast_S1x1_S64x1_0_1 (broadcastInDim S1x1 ![1] bcast_S1_S1x1_1 (constantI S1 32 99999#32))))) (constantI S_ 1 1#1) reducesTo_S64x1_S64_d1 h_S_)) (Host.gather gather_S100000x3_S64x1_S64x3_1_0_n_n_0_1_13 ce (broadcastInDim S64x1 ![0] bcast_S64_S64x1_0 (select (cmpi .slt pv (broadcastInDim S64 ![] bcast_S_S64 (constantI S_ 32 0#32))) (addi pv (broadcastInDim S64 ![] bcast_S_S64 (constantI S_ 32 100000#32))) pv))) (broadcastInDim S64x3 ![] bcast_S_S64x3 (constant S_ .f32 0x7FC00000#32)))))

/-- The distances. -/
def normOf (v24 : Vec F S64x100000x3 .f32) : Vec F S64x100000 .f32 :=
  Host.sqrt (Host.reduceAdd (mulf v24 v24) (constant S_ .f32 0x00000000#32) reducesTo_S64x100000x3_S64x100000_d2 h_S_)

/-- Which distances are zero. -/
def zeroOf (v25 : Vec F S64x100000 .f32) : Vec F S64x100000 .i1 :=
  cmpf .oeq v25 (broadcastInDim S64x100000 ![] bcast_S_S64x100000 (constant S_ .f32 0x00000000#32))

/-- The distances, with ones at the zeros. -/
def safeOf (v25 : Vec F S64x100000 .f32) : Vec F S64x100000 .f32 :=
  select (zeroOf v25) (broadcastInDim S64x100000 ![] bcast_S_S64x100000 (id (constant S_ .f32 0x3F800000#32))) v25

/-- The inverse squared distances of the allowed objects. -/
def weightOf (v18 : Vec F S64x100000 .i1) (v27 : Vec F S64x100000 .i1) (v28 : Vec F S64x100000 .f32) : Vec F S64x100000 .f32 :=
  select (andi v18 (noti v27)) (Host.divf (broadcastInDim S64x100000 ![] bcast_S_S64x100000 (constant S_ .f32 0x3F800000#32)) (mulf v28 v28)) (broadcastInDim S64x100000 ![] bcast_S_S64x100000 (id (constant S_ .f32 0x00000000#32)))

/-- The weights, ones in a row where all of them vanish. -/
def filledOf (v34 : Vec F S64x100000 .f32) : Vec F S64x100000 .f32 :=
  select (broadcastInDim S64x100000 ![0, 1] bcast_S64x1_S64x100000_0_1 (cmpf .oeq (broadcastInDim S64x1 ![0] bcast_S64_S64x1_0 (Host.reduceAdd v34 (constant S_ .f32 0x00000000#32) reducesTo_S64x100000_S64_d1 h_S_)) (broadcastInDim S64x1 ![] bcast_S_S64x1 (constant S_ .f32 0x00000000#32)))) (broadcastInDim S64x100000 ![] bcast_S_S64x100000 (id (constant S_ .f32 0x3F800000#32))) v34

/-- The weights as shares of their row’s sum. -/
def shareOf (v39 : Vec F S64x100000 .f32) : Vec F S64x100000 .f32 :=
  Host.divf v39 (broadcastInDim S64x100000 ![0, 1] bcast_S64x1_S64x100000_0_1 (broadcastInDim S64x1 ![0] bcast_S64_S64x1_0 (Host.reduceAdd v39 (constant S_ .f32 0x00000000#32) reducesTo_S64x100000_S64_d1 h_S_)))

/-- The small constant everywhere. -/
def tinyOf  : Vec F S64x100000 .f32 :=
  broadcastInDim S64x100000 ![] bcast_S_S64x100000 (constant S_ .f32 0x2B8CBCCC#32)

/-- The weighted logits, minus infinity where masked. -/
def maskedOf (lg : Vec F S64x100000 .f32) (v18 : Vec F S64x100000 .i1) (v43 : Vec F S64x100000 .f32) (v44 : Vec F S64x100000 .f32) : Vec F S64x100000 .f32 :=
  select v18 (addf lg (Host.log (addf v43 v44))) (broadcastInDim S64x100000 ![] bcast_S_S64x100000 (id (constant S_ .f32 0xFF800000#32)))

/-- The exponentials of the logits below their row’s maximum. -/
def expOf (v48 : Vec F S64x100000 .f32) : Vec F S64x100000 .f32 :=
  Host.exp (subf v48 (broadcastInDim S64x100000 ![0, 1] bcast_S64x1_S64x100000_0_1 (broadcastInDim S64x1 ![0] bcast_S64_S64x1_0 (maximumf (broadcastInDim S64 ![] bcast_S_S64 (constant S_ .f32 0xFF800000#32)) (Host.reduce FloatOps.maximumf v48 (constant S_ .f32 0xFF800000#32) reducesTo_S64x100000_S64_d1 h_S_)))))

/-- The softmax. -/
def softOf (v55 : Vec F S64x100000 .f32) : Vec F S64x100000 .f32 :=
  Host.divf v55 (broadcastInDim S64x100000 ![0, 1] bcast_S64x1_S64x100000_0_1 (broadcastInDim S64x1 ![0] bcast_S64_S64x1_0 (Host.reduceAdd v55 (constant S_ .f32 0x00000000#32) reducesTo_S64x100000_S64_d1 h_S_)))

/-- The uniform distribution over the allowed objects. -/
def unifOf (v18 : Vec F S64x100000 .i1) : Vec F S64x100000 .f32 :=
  Host.divf (uitofp .f32 v18) (broadcastInDim S64x100000 ![0, 1] bcast_S64x1_S64x100000_0_1 (sitofp .f32 (maxsi (broadcastInDim S64x1 ![0] bcast_S64_S64x1_0 (Host.reduce IntOp.addi (extui 32 v18 natLt_1_32) (constantI S_ 32 0#32) reducesTo_S64x100000_S64_d1 h_S_)) (broadcastInDim S64x1 ![] bcast_S_S64x1 (constantI S_ 32 1#32)))))

/-- The logarithms of the mixed probabilities. -/
def logpOf (ep : Vec F S_ .f32) (v59 : Vec F S64x100000 .f32) (v68 : Vec F S64x100000 .f32) : Vec F S64x100000 .f32 :=
  Host.log (addf (addf (mulf (broadcastInDim S64x100000 ![] bcast_S_S64x100000 (subf (constant S_ .f32 0x3F800000#32) ep)) v59) (mulf (broadcastInDim S64x100000 ![] bcast_S_S64x100000 ep) v68)) (broadcastInDim S64x100000 ![] bcast_S_S64x100000 (constant S_ .f32 0x2B8CBCCC#32)))

/-- The column of the largest score. -/
def pickOf (gm : Vec F S64x100000 .f32) (v77 : Vec F S64x100000 .f32) : Vec F S64 .i32 :=
  fun j => (Host.argReduce reducer_argmax_f32_i32 (addf v77 gm) (iotaInDim S64x100000 32 1) (constant S_ .f32 0xFF800000#32) (constantI S_ 32 0#32) reducesTo_S64x100000_S64_d1 h_S_ j).2

/-- The log-probability at the chosen column. -/
def takeOf (v77 : Vec F S64x100000 .f32) (v79 : Vec F S64 .i32) : Vec F S64 .f32 :=
  shapeCast S64 (select (Host.reduce IntOp.andi (andi (cmpi .sge (shapeCast S64x1x1 (select (cmpi .slt (broadcastInDim S64x1 ![0] bcast_S64_S64x1_0 v79) (broadcastInDim S64x1 ![] bcast_S_S64x1 (constantI S_ 32 0#32))) (addi (broadcastInDim S64x1 ![0] bcast_S64_S64x1_0 v79) (broadcastInDim S64x1 ![] bcast_S_S64x1 (constantI S_ 32 100000#32))) (broadcastInDim S64x1 ![0] bcast_S64_S64x1_0 v79)) shapeCasts_S64x1_S64x1x1) (broadcastInDim S64x1x1 ![] bcast_S_S64x1x1 (constantI S_ 32 0#32))) (cmpi .sle (shapeCast S64x1x1 (select (cmpi .slt (broadcastInDim S64x1 ![0] bcast_S64_S64x1_0 v79) (broadcastInDim S64x1 ![] bcast_S_S64x1 (constantI S_ 32 0#32))) (addi (broadcastInDim S64x1 ![0] bcast_S64_S64x1_0 v79) (broadcastInDim S64x1 ![] bcast_S_S64x1 (constantI S_ 32 100000#32))) (broadcastInDim S64x1 ![0] bcast_S64_S64x1_0 v79)) shapeCasts_S64x1_S64x1x1) (broadcastInDim S64x1x1 ![0, 1, 2] bcast_S1x1x1_S64x1x1_0_1_2 (broadcastInDim S1x1x1 ![2] bcast_S1_S1x1x1_2 (constantI S1 32 99999#32))))) (constantI S_ 1 1#1) reducesTo_S64x1x1_S64x1_d2 h_S_) (Host.gather gather_S64x100000_S64x1x1_S64x1_n_1_0_0_1_2_11 v77 (shapeCast S64x1x1 (select (cmpi .slt (broadcastInDim S64x1 ![0] bcast_S64_S64x1_0 v79) (broadcastInDim S64x1 ![] bcast_S_S64x1 (constantI S_ 32 0#32))) (addi (broadcastInDim S64x1 ![0] bcast_S64_S64x1_0 v79) (broadcastInDim S64x1 ![] bcast_S_S64x1 (constantI S_ 32 100000#32))) (broadcastInDim S64x1 ![0] bcast_S64_S64x1_0 v79)) shapeCasts_S64x1_S64x1x1)) (broadcastInDim S64x1 ![] bcast_S_S64x1 (constant S_ .f32 0x7FC00000#32))) shapeCasts_S64x1_S64

end Cert.ReferenceIdeal.Hand

end
-- ==== Proof.Math.lean ====
/-
  The mixed probability in its two spellings: a softmax of logits weighted by shares of inverse squared distances, and a
  product of the exponential with a factor linear in the weight.
-/
module

public import proofs.«01_k».proof.Proof.Rows

@[expose] public section

noncomputable section

namespace Cert.Spec

open Idealize.ShloMosaic
open scoped Classical

/-! ## Extended reals that are reals -/

/-- A sum of reals is the sum of them as extended reals. -/
theorem coe_range_sum (s : Finset ℕ) (f : ℕ → ℝ) : ((∑ n ∈ s, f n : ℝ) : EReal) = ∑ n ∈ s, (f n : EReal) := by
  induction s using Finset.induction_on with
  | empty => simp
  | insert a s ha ih => rw [Finset.sum_insert ha, Finset.sum_insert ha, EReal.coe_add, ih]

/-- A quotient of reals, the divisor not zero, is their real quotient. -/
theorem div_real (x y : ℝ) (h : y ≠ 0) : Ideal.div (x : EReal) (y : EReal) = ((x / y : ℝ) : EReal) := by
  rw [Ideal.div_coe h, ← EReal.coe_mul, mul_one_div]

/-- The logarithm of a positive real is its real logarithm. -/
theorem log_real (x : ℝ) (h : 0 < x) : Ideal.log (x : EReal) = ((Real.log x : ℝ) : EReal) := by
  rw [Ideal.log_coe, if_neg (not_le.mpr h)]

/-- The small constant's value. -/
def tau : ℝ := 9223372 * 2 ^ (-63 : ℤ)

/-- The small constant is positive. -/
theorem tau_pos : 0 < tau := by unfold tau; positivity
/-- The small constant's word is that real. -/
theorem tiny_eq : tiny = (tau : EReal) := by
  unfold tau
  simp [Ideal.ofBits, Ideal.ieee, -EReal.coe_mul]
/-- The cap's word is 14. -/
theorem cap_eq : cap = ((14 : ℝ) : EReal) := by
  simp [Ideal.ofBits, Ideal.ieee, -EReal.coe_mul]
  try norm_num

/-- A square root vanishes with its argument. -/
theorem sqrt_zero_iff {x : EReal} (h : 0 ≤ x) : Ideal.sqrt x = 0 ↔ x = 0 := by
  induction x using EReal.rec with
  | bot => exact absurd h (by simp)
  | top => simp
  | coe r =>
    have hr : 0 ≤ r := EReal.coe_nonneg.mp h
    rw [Ideal.sqrt_coe, if_neg (not_lt.mpr hr)]
    rw [← EReal.coe_zero, EReal.coe_eq_coe_iff, EReal.coe_eq_coe_iff, Real.sqrt_eq_zero hr]

/-- A square root times itself is its argument. -/
theorem sqrt_sq {x : EReal} (h : 0 ≤ x) : Ideal.sqrt x * Ideal.sqrt x = x := by
  induction x using EReal.rec with
  | bot => exact absurd h (by simp)
  | top => simp
  | coe r =>
    have hr : 0 ≤ r := EReal.coe_nonneg.mp h
    rw [Ideal.sqrt_coe, if_neg (not_lt.mpr hr), ← EReal.coe_mul, Real.mul_self_sqrt hr]

/-- A square is not negative. -/
theorem sq_nonneg' (x : EReal) : 0 ≤ x * x := by
  induction x using EReal.rec with
  | bot => simp
  | top => simp
  | coe r => rw [← EReal.coe_mul]; exact EReal.coe_nonneg.mpr (mul_self_nonneg r)

namespace Row

variable (R : Row)

/-- A squared distance is not negative. -/
theorem d2_nonneg (n : ℕ) : 0 ≤ R.d2 n :=
  add_nonneg (add_nonneg (sq_nonneg' _) (sq_nonneg' _)) (sq_nonneg' _)

/-- The reciprocal of a nonnegative squared distance that is not zero is a nonnegative real. -/
theorem recip_real {x : EReal} (h : 0 ≤ x) (h0 : x ≠ 0) : ∃ r : ℝ, 0 ≤ r ∧ Ideal.div 1 x = (r : EReal) := by
  induction x using EReal.rec with
  | bot => exact absurd h (by simp)
  | top => exact ⟨0, le_rfl, by rw [Ideal.div, if_neg h0, EReal.inv_top, mul_zero, EReal.coe_zero]⟩
  | coe r =>
    have hr : 0 ≤ r := EReal.coe_nonneg.mp h
    have hr0 : r ≠ 0 := fun e => h0 (by rw [e, EReal.coe_zero])
    exact ⟨1 / r, by positivity, by rw [← EReal.coe_one]; exact div_real 1 r hr0⟩

/-- The weight is a nonnegative real. -/
theorem w_real (n : ℕ) : ∃ r : ℝ, 0 ≤ r ∧ R.w n = (r : EReal) := by
  unfold w
  split_ifs with h
  · exact recip_real (R.d2_nonneg n) h.2
  · exact ⟨0, le_rfl, rfl⟩

/-- The weight as a real. -/
def wr (n : ℕ) : ℝ := (R.w_real n).choose
/-- The weight's real is not negative. -/
theorem wr_nonneg (n : ℕ) : 0 ≤ R.wr n := (R.w_real n).choose_spec.1
/-- The weight is its real. -/
theorem w_eq (n : ℕ) : R.w n = (R.wr n : EReal) := (R.w_real n).choose_spec.2

/-- The square of a difference with itself is zero, or infinite at an infinity. -/
theorem sub_self_sq (x : EReal) : (x - x) * (x - x) = 0 ∨ (x - x) * (x - x) = ⊤ := by
  induction x using EReal.rec with
  | bot => right; simp
  | top => right; simp
  | coe r => left; rw [← EReal.coe_sub, sub_self]; simp

/-- The squared distance to itself is zero, or infinite where a coordinate is. -/
theorem d2_self : R.d2 R.pb = 0 ∨ R.d2 R.pb = ⊤ := by
  unfold d2 dd
  rcases sub_self_sq (R.ct 0 R.pb) with h0 | h0 <;> rcases sub_self_sq (R.ct 1 R.pb) with h1 | h1 <;>
    rcases sub_self_sq (R.ct 2 R.pb) with h2 | h2 <;> rw [h0, h1, h2] <;> simp

/-- The previous object has no weight. -/
theorem w_pb : R.w R.pb = 0 := by
  unfold w
  split_ifs with h
  · rcases R.d2_self with h' | h'
    · exact absurd h' h.2
    · rw [h', Ideal.div, if_neg (by simp), EReal.inv_top, mul_zero]
  · rfl

/-- The column may be chosen. -/
def ok (n : ℕ) : Prop := R.on n ∧ n ≠ R.pb

/-- A column that may not be chosen has weight zero. -/
theorem w_off {n : ℕ} (h : ¬ R.ok n) : R.w n = 0 := by
  by_cases hp : n = R.pb
  · rw [hp]; exact R.w_pb
  · unfold w; rw [if_neg fun q => h ⟨q.1, hp⟩]
/-- A column that may not be chosen has weight zero, as a real. -/
theorem wr_off {n : ℕ} (h : ¬ R.ok n) : R.wr n = 0 := by
  have := R.w_off h
  rw [R.w_eq, ← EReal.coe_zero, EReal.coe_eq_coe_iff] at this
  exact this

/-- The reference's weight at a distance. -/
theorem w_ref (n : ℕ) : (if R.ok n ∧ Ideal.sqrt (R.d2 n) ≠ 0 then
      Ideal.div 1 ((if Ideal.sqrt (R.d2 n) = 0 then 1 else Ideal.sqrt (R.d2 n)) * (if Ideal.sqrt (R.d2 n) = 0 then 1 else Ideal.sqrt (R.d2 n)))
    else 0) = R.w n := by
  have hz := sqrt_zero_iff (R.d2_nonneg n)
  by_cases hk : R.ok n
  · by_cases h0 : R.d2 n = 0
    · rw [if_neg fun q => q.2 (hz.mpr h0)]
      unfold w; rw [if_neg fun q => q.2 h0]
    · have h0' : Ideal.sqrt (R.d2 n) ≠ 0 := fun q => h0 (hz.mp q)
      rw [if_pos ⟨hk, h0'⟩, if_neg h0', sqrt_sq (R.d2_nonneg n)]
      unfold w; rw [if_pos ⟨hk.1, h0⟩]
  · rw [if_neg fun q => hk q.1, R.w_off hk]

/-! ## The softmax spelling -/

/-- The weights, ones where all of them vanish. -/
def fill (n : ℕ) : EReal := if (∑ k ∈ Finset.range 100000, R.w k) = 0 then 1 else R.w n
/-- The weights' shares. -/
def share (n : ℕ) : EReal := Ideal.div (R.fill n) (∑ k ∈ Finset.range 100000, R.fill k)
/-- The weighted logits. -/
def msk (n : ℕ) : EReal := if R.ok n then R.lg n + Ideal.log (R.share n + tiny) else ⊥
/-- The exponentials below `M`. -/
def ex (M : EReal) (n : ℕ) : EReal := Ideal.exp (R.msk n - M)
/-- The softmax. -/
def soft (M : EReal) (n : ℕ) : EReal := Ideal.div (R.ex M n) (∑ k ∈ Finset.range 100000, R.ex M k)
/-- The uniform distribution over what may be chosen. -/
def unif (n : ℕ) : EReal := Ideal.div (if R.ok n then 1 else 0) ((max ((((Finset.range 100000).filter R.ok).card : ℕ) : ℝ) 1 : ℝ) : EReal)
/-- The reference's log-probability. -/
def lpRef (M : EReal) (n : ℕ) : EReal := Ideal.log (((1 - R.ep) * R.soft M n + R.ep * R.unif n) + tiny)

/-- What the two spellings ask of a row: no column past the last object is on, the logits are reals, the previous object is
    one, and some column may be chosen. -/
structure Fine : Prop where
  off : ∀ n, 100000 ≤ n → ¬ R.on n
  lg : ∃ l : ℕ → ℝ, ∀ n, R.lg n = (l n : EReal)
  pb : R.pb < 100000
  some : ∃ n, R.ok n

variable {R}

/-- A total whose terms vanish past the last object. -/
theorem tot_real (f : ℕ → EReal) (g : ℕ → ℝ) (h : ∀ n < 100000, f n = (g n : EReal)) (h0 : ∀ n, 100000 ≤ n → f n = 0) :
    tot f = ((∑ n ∈ Finset.range 100000, g n : ℝ) : EReal) := by
  rw [tot_eq, coe_range_sum]
  rw [← Finset.sum_subset (Finset.range_subset_range.mpr (by norm_num : 100000 ≤ 100352))
    (fun n _ hn => h0 n (by simpa using hn))]
  exact Finset.sum_congr rfl fun n hn => h n (Finset.mem_range.mp hn)

/-- The sum over the switched-on columns without the previous object's term is the sum over what may be chosen. -/
theorem sum_ok (f : ℕ → ℝ) (hpb : R.pb < 100000) :
    (∑ n ∈ Finset.range 100000, if R.on n then f n else 0) - (if R.on R.pb then f R.pb else 0) = ∑ n ∈ Finset.range 100000, if R.ok n then f n else 0 := by
  have : (∑ n ∈ Finset.range 100000, if R.on n then f n else 0)
      = ∑ n ∈ Finset.range 100000, ((if R.ok n then f n else 0) + if n = R.pb then (if R.on R.pb then f R.pb else 0) else 0) := by
    refine Finset.sum_congr rfl fun n _ => ?_
    by_cases hn : n = R.pb
    · subst hn
      rw [if_neg (fun q : R.ok R.pb => q.2 rfl), if_pos rfl, zero_add]
    · rw [if_neg hn, add_zero]
      by_cases ho : R.on n
      · rw [if_pos ho, if_pos (show R.ok n from ⟨ho, hn⟩)]
      · rw [if_neg ho, if_neg (fun q : R.ok n => ho q.1)]
  rw [this, Finset.sum_add_distrib, Finset.sum_ite_eq', if_pos (Finset.mem_range.mpr hpb), add_sub_cancel_right]

/-- A choice of reals is the choice of them as extended reals. -/
theorem coe_ite (p : Prop) (a b : ℝ) : ((if p then a else b : ℝ) : EReal) = if p then (a : EReal) else (b : EReal) := by
  split_ifs <;> rfl

section Fine

variable (h : R.Fine) (l : ℕ → ℝ) (hl : ∀ n, R.lg n = (l n : EReal)) (e : ℝ) (he : R.ep = (e : EReal))

include hl in
/-- A column's exponential is the real exponential of its logit. -/
theorem t_eq (n : ℕ) : R.t n = ((Real.exp (l n) : ℝ) : EReal) := by
  unfold t; rw [hl, Ideal.exp_coe]

include h in
/-- The lanes' total of the weights is their real sum over the objects. -/
theorem tot_w : tot R.w = ((∑ n ∈ Finset.range 100000, R.wr n : ℝ) : EReal) :=
  tot_real _ _ (fun n _ => R.w_eq n) fun n hn => R.w_off fun q => h.off n hn q.1

include h hl in
/-- The lanes' total of weight times exponential is its real sum over the objects. -/
theorem tot_wt : tot R.wt = ((∑ n ∈ Finset.range 100000, R.wr n * Real.exp (l n) : ℝ) : EReal) := by
  have hw : ∀ n, R.wt n = R.t n * R.w n := fun n => by
    unfold wt w
    split_ifs
    · rfl
    · rw [mul_zero]
  refine tot_real _ _ (fun n _ => ?_) fun n hn => ?_
  · rw [hw, t_eq l hl, R.w_eq, ← EReal.coe_mul, mul_comm]
  · rw [hw, R.w_off fun q => h.off n hn q.1, mul_zero]

include h hl in
/-- The exponentials' total without the previous object is the real sum over what may be chosen. -/
theorem t2_real : R.t2 = ((∑ n ∈ Finset.range 100000, if R.ok n then Real.exp (l n) else 0 : ℝ) : EReal) := by
  rw [← sum_ok _ h.pb, EReal.coe_sub]
  have h1 : tot R.mt = ((∑ n ∈ Finset.range 100000, if R.on n then Real.exp (l n) else 0 : ℝ) : EReal) := by
    refine tot_real _ _ (fun n _ => ?_) fun n hn => ?_
    · unfold mt; rw [t_eq l hl, coe_ite, EReal.coe_zero]
    · unfold mt; rw [if_neg (h.off n hn)]
  have h2 : tot R.pt = ((Real.exp (l R.pb) : ℝ) : EReal) := by
    rw [tot_real R.pt (fun n => if n = R.pb then Real.exp (l R.pb) else 0) (fun n _ => ?_) fun n hn => ?_]
    · rw [Finset.sum_ite_eq', if_pos (Finset.mem_range.mpr h.pb)]
    · unfold pt
      split_ifs with q
      · rw [q, t_eq l hl]
      · rfl
    · unfold pt; rw [if_neg]; have := h.pb; omega
  unfold t2
  rw [h1, h2, coe_ite, EReal.coe_zero]

include h in
/-- The count without the previous object is the number of objects that may be chosen. -/
theorem nv_real : R.nv = (((((Finset.range 100000).filter R.ok).card : ℕ) : ℝ) : EReal) := by
  have h1 : tot R.cn = ((∑ n ∈ Finset.range 100000, if R.on n then (1 : ℝ) else 0 : ℝ) : EReal) := by
    refine tot_real _ _ (fun n _ => ?_) fun n hn => ?_
    · unfold cn; rw [coe_ite, EReal.coe_zero, EReal.coe_one]
    · unfold cn; rw [if_neg (h.off n hn)]
  unfold nv
  rw [h1, ← EReal.coe_one, ← EReal.coe_zero, ← coe_ite, ← EReal.coe_sub, sum_ok (fun _ => 1) h.pb, Finset.sum_boole]

/-- The shares as reals. -/
def sr (R : Row) (n : ℕ) : ℝ := if (∑ k ∈ Finset.range 100000, R.wr k) = 0 then 1 / 100000 else R.wr n / ∑ k ∈ Finset.range 100000, R.wr k

/-- The share is its real. -/
theorem share_eq (n : ℕ) : R.share n = ((sr R n : ℝ) : EReal) := by
  have hs : (∑ k ∈ Finset.range 100000, R.w k) = ((∑ k ∈ Finset.range 100000, R.wr k : ℝ) : EReal) := by
    rw [coe_range_sum]; exact Finset.sum_congr rfl fun k _ => R.w_eq k
  unfold share sr
  by_cases h0 : (∑ k ∈ Finset.range 100000, R.wr k) = 0
  · have hf : ∀ k, R.fill k = ((1 : ℝ) : EReal) := fun k => by
      unfold fill; rw [hs, h0, if_pos (by rw [EReal.coe_zero]), EReal.coe_one]
    rw [if_pos h0, Finset.sum_congr rfl fun k _ => hf k, ← coe_range_sum, hf, div_real]
    · simp
    · simp
  · have hf : ∀ k, R.fill k = ((R.wr k : ℝ) : EReal) := fun k => by
      unfold fill; rw [hs, if_neg (by rw [← EReal.coe_zero, EReal.coe_eq_coe_iff]; exact h0), R.w_eq]
    rw [if_neg h0, Finset.sum_congr rfl fun k _ => hf k, ← coe_range_sum, hf, div_real _ _ h0]

/-- A share is not negative. -/
theorem sr_nonneg (n : ℕ) : 0 ≤ sr R n := by
  unfold sr
  split_ifs
  · norm_num
  · exact div_nonneg (R.wr_nonneg n) (Finset.sum_nonneg fun k _ => R.wr_nonneg k)

/-- The exponential's term. -/
def er (R : Row) (l : ℕ → ℝ) (n : ℕ) : ℝ := if R.ok n then Real.exp (l n) * (sr R n + tau) else 0

/-- The exponential's term is not negative. -/
theorem er_nonneg (n : ℕ) : 0 ≤ er R l n := by
  unfold er
  split_ifs
  · exact mul_nonneg (Real.exp_pos _).le (add_nonneg (sr_nonneg n) tau_pos.le)
  · exact le_rfl

include hl in
/-- The weighted logit of a column that may be chosen, as a real. -/
theorem msk_eq (n : ℕ) (hn : R.ok n) : R.msk n = ((l n + Real.log (sr R n + tau) : ℝ) : EReal) := by
  unfold msk
  rw [if_pos hn, hl, share_eq, tiny_eq, ← EReal.coe_add, log_real _ (add_pos_of_nonneg_of_pos (sr_nonneg n) tau_pos), ← EReal.coe_add]

include hl in
/-- The exponential below a real is its term scaled by one factor. -/
theorem ex_eq (μ : ℝ) (n : ℕ) : R.ex (μ : EReal) n = ((er R l n * Real.exp (-μ) : ℝ) : EReal) := by
  unfold ex
  by_cases hn : R.ok n
  · have hp : 0 < sr R n + tau := add_pos_of_nonneg_of_pos (sr_nonneg n) tau_pos
    rw [msk_eq l hl n hn, ← EReal.coe_sub, Ideal.exp_coe, sub_eq_add_neg, Real.exp_add, Real.exp_add, Real.exp_log hp]
    unfold er; rw [if_pos hn]
  · unfold msk er
    rw [if_neg hn, if_neg hn, zero_mul, EReal.coe_zero, EReal.bot_sub, Ideal.exp_bot]

include h in
/-- The exponentials' terms have a positive sum. -/
theorem er_pos : 0 < ∑ k ∈ Finset.range 100000, er R l k := by
  obtain ⟨n, hn⟩ := h.some
  have hlt : n < 100000 := by
    by_contra q
    exact h.off n (by omega) hn.1
  refine Finset.sum_pos' (fun k _ => er_nonneg l k) ⟨n, Finset.mem_range.mpr hlt, ?_⟩
  unfold er; rw [if_pos hn]
  exact mul_pos (Real.exp_pos _) (add_pos_of_nonneg_of_pos (sr_nonneg n) tau_pos)

include h in
/-- The exponentials of what may be chosen have a positive sum. -/
theorem t2_pos : 0 < ∑ n ∈ Finset.range 100000, if R.ok n then Real.exp (l n) else 0 := by
  obtain ⟨n, hn⟩ := h.some
  have hlt : n < 100000 := by
    by_contra q
    exact h.off n (by omega) hn.1
  refine Finset.sum_pos' (fun k _ => ?_) ⟨n, Finset.mem_range.mpr hlt, ?_⟩
  · split_ifs
    · exact (Real.exp_pos _).le
    · exact le_rfl
  · rw [if_pos hn]; exact Real.exp_pos _

include h hl in
/-- The softmax is the share of the exponentials' terms, whatever real they are taken below. -/
theorem soft_eq (μ : ℝ) (n : ℕ) : R.soft (μ : EReal) n = ((er R l n / ∑ k ∈ Finset.range 100000, er R l k : ℝ) : EReal) := by
  unfold soft
  have hp := er_pos h l
  have hm := Real.exp_pos (-μ)
  rw [Finset.sum_congr rfl fun k _ => ex_eq l hl μ k, ← coe_range_sum, ex_eq l hl, ← Finset.sum_mul, div_real _ _ (mul_pos hp hm).ne',
    mul_div_mul_right _ _ hm.ne']

include h hl in
/-- The kernel's mixed probability is the reference's, as reals. -/
theorem mix_eq (n : ℕ) : R.pe n = (((1 - e) * (er R l n / ∑ k ∈ Finset.range 100000, er R l k)
    + e * ((if R.ok n then 1 else 0) / max ((((Finset.range 100000).filter R.ok).card : ℕ) : ℝ) 1) : ℝ) : EReal) ∨ R.ep ≠ (e : EReal) := by
  by_cases he : R.ep = (e : EReal)
  swap
  · exact .inr he
  left
  set S : ℝ := ∑ k ∈ Finset.range 100000, R.wr k with hS
  set T2 : ℝ := ∑ n ∈ Finset.range 100000, if R.ok n then Real.exp (l n) else 0 with hT2
  set T1 : ℝ := ∑ n ∈ Finset.range 100000, R.wr n * Real.exp (l n) with hT1
  set C : ℝ := ((((Finset.range 100000).filter R.ok).card : ℕ) : ℝ) with hC
  set D : ℝ := ∑ k ∈ Finset.range 100000, er R l k with hD
  have hDp : 0 < D := er_pos h l
  have hT2p : 0 < T2 := t2_pos h l
  have hM : 0 < max C 1 := lt_max_of_lt_right one_pos
  by_cases hn : R.ok n
  swap
  · unfold pe er
    rw [if_neg (show ¬ (R.on n ∧ n ≠ R.pb) from hn), if_neg hn, if_neg hn]
    simp
  have hga : R.ga = ((e / max C 1 : ℝ) : EReal) := by
    unfold ga
    have hm : max (C : EReal) ((1 : ℝ) : EReal) = ((max C 1 : ℝ) : EReal) := EReal.coe_strictMono.monotone.map_max.symm
    rw [he, nv_real h, ← EReal.coe_one, hm, div_real _ _ hM.ne']
  have hS0 : 0 ≤ S := Finset.sum_nonneg fun k _ => R.wr_nonneg k
  unfold pe
  rw [if_pos (show R.on n ∧ n ≠ R.pb from hn), if_pos hn, hga, t_eq l hl, R.w_eq]
  unfold al be zn
  rw [tot_w h, tot_wt h l hl, t2_real h l hl, he, tiny_eq, ← hS, ← hT1, ← hT2]
  by_cases hz : S = 0
  · have hDe : D = (1 / 100000 + tau) * T2 := by
      rw [hD, hT2, Finset.mul_sum]
      refine Finset.sum_congr rfl fun k _ => ?_
      unfold er sr
      rw [if_pos hz]
      split_ifs
      · ring
      · ring
    have hq : (0 : ℝ) < 1 / 100000 + tau := add_pos (by norm_num) tau_pos
    rw [if_neg (by rw [hz, EReal.coe_zero]; exact lt_irrefl _), if_neg (by rw [hz, EReal.coe_zero]; exact lt_irrefl _)]
    rw [← EReal.coe_one, ← EReal.coe_sub, div_real _ _ hT2p.ne', zero_mul, zero_add, ← EReal.coe_mul, ← EReal.coe_add, EReal.coe_eq_coe_iff]
    unfold er sr
    rw [if_pos hn, if_pos hz, hDe]
    generalize (1 / 100000 + tau : ℝ) = q at hq
    field_simp
  · have hSp : 0 < S := lt_of_le_of_ne hS0 (Ne.symm hz)
    have hDe : D = T1 / S + tau * T2 := by
      rw [hD, hT1, hT2, Finset.mul_sum, Finset.sum_div, ← Finset.sum_add_distrib]
      refine Finset.sum_congr rfl fun k _ => ?_
      unfold er sr
      rw [if_neg hz]
      split_ifs with hk
      · ring
      · rw [R.wr_off hk]; ring
    rw [if_pos (EReal.coe_pos.mpr hSp), if_pos (EReal.coe_pos.mpr hSp)]
    rw [div_real _ _ hz, ← EReal.coe_mul, ← EReal.coe_add, ← hDe, ← EReal.coe_mul, ← EReal.coe_one, ← EReal.coe_sub,
      div_real _ _ (mul_pos hDp hSp).ne', ← EReal.coe_mul (1 - e) tau, div_real _ _ hDp.ne', ← EReal.coe_mul, ← EReal.coe_add, ← EReal.coe_mul, ← EReal.coe_add,
      EReal.coe_eq_coe_iff]
    unfold er sr
    rw [if_pos hn, if_neg hz, ← hS]
    field_simp

end Fine

/-! ### An infinite mixing weight -/

/-- An infinity times a positive real is that infinity. -/
theorem inf_mul {x : EReal} (hx : x = ⊤ ∨ x = ⊥) {r : ℝ} (hr : 0 < r) : x * (r : EReal) = x := by
  rcases hx with rfl | rfl
  · exact EReal.top_mul_coe_of_pos hr
  · exact EReal.bot_mul_coe_of_pos hr
/-- An infinity divided by a positive real is that infinity. -/
theorem inf_div {x : EReal} (hx : x = ⊤ ∨ x = ⊥) {r : ℝ} (hr : 0 < r) : Ideal.div x (r : EReal) = x := by
  unfold Ideal.div
  rw [if_neg (by rw [← EReal.coe_zero, EReal.coe_eq_coe_iff]; exact hr.ne'), ← EReal.coe_inv, inf_mul hx (inv_pos.mpr hr)]
/-- An infinity added to itself is that infinity. -/
theorem inf_add {x : EReal} (hx : x = ⊤ ∨ x = ⊥) : x + x = x := by
  rcases hx with rfl | rfl <;> rfl
/-- One minus an infinity is an infinity. -/
theorem inf_sub {x : EReal} (hx : x = ⊤ ∨ x = ⊥) : 1 - x = ⊤ ∨ 1 - x = ⊥ := by
  rcases hx with rfl | rfl
  · exact .inr rfl
  · exact .inl rfl
/-- One minus an infinity, plus that infinity, is minus infinity. -/
theorem inf_meet {x : EReal} (hx : x = ⊤ ∨ x = ⊥) : 1 - x + x = ⊥ := by
  rcases hx with rfl | rfl <;> rfl

section Inf

variable (h : R.Fine) (l : ℕ → ℝ) (hl : ∀ n, R.lg n = (l n : EReal)) (hx : R.ep = ⊤ ∨ R.ep = ⊥)

include h hl hx in
/-- An allowed column's mixed probability is junk where the weight is infinite, in the kernel's spelling. -/
theorem pe_inf (n : ℕ) (hn : R.ok n) : R.pe n = ⊥ := by
  set S : ℝ := ∑ k ∈ Finset.range 100000, R.wr k with hS
  set T2 : ℝ := ∑ n ∈ Finset.range 100000, if R.ok n then Real.exp (l n) else 0 with hT2
  set T1 : ℝ := ∑ n ∈ Finset.range 100000, R.wr n * Real.exp (l n) with hT1
  set C : ℝ := ((((Finset.range 100000).filter R.ok).card : ℕ) : ℝ) with hC
  have hT2p : 0 < T2 := t2_pos h l
  have hM : 0 < max C 1 := lt_max_of_lt_right one_pos
  have hm : max (C : EReal) ((1 : ℝ) : EReal) = ((max C 1 : ℝ) : EReal) := EReal.coe_strictMono.monotone.map_max.symm
  have hy := inf_sub hx
  have hga : R.ga = R.ep := by
    unfold ga
    rw [nv_real h, ← EReal.coe_one, hm, inf_div hx hM]
  have hS0 : 0 ≤ S := Finset.sum_nonneg fun k _ => R.wr_nonneg k
  have hmid : R.al * R.w n + R.be = 1 - R.ep := by
    unfold al be zn
    rw [tot_w h, tot_wt h l hl, t2_real h l hl, tiny_eq, ← hS, ← hT1, ← hT2]
    by_cases hz : S = 0
    · rw [if_neg (by rw [hz, EReal.coe_zero]; exact lt_irrefl _), if_neg (by rw [hz, EReal.coe_zero]; exact lt_irrefl _), zero_mul, zero_add, inf_div hy hT2p]
    · have hSp : 0 < S := lt_of_le_of_ne hS0 (Ne.symm hz)
      have hT1p : 0 ≤ T1 := Finset.sum_nonneg fun k _ => mul_nonneg (R.wr_nonneg k) (Real.exp_pos _).le
      have hD : 0 < T1 / S + tau * T2 := add_pos_of_nonneg_of_pos (div_nonneg hT1p hS0) (mul_pos tau_pos hT2p)
      rw [if_pos (EReal.coe_pos.mpr hSp), if_pos (EReal.coe_pos.mpr hSp), div_real _ _ hz, ← EReal.coe_mul, ← EReal.coe_add, ← EReal.coe_mul,
        inf_div hy (mul_pos hD hSp), inf_mul hy tau_pos, inf_div hy hD, R.w_eq]
      rcases (R.wr_nonneg n).eq_or_lt with q | q
      · rw [← q, EReal.coe_zero, mul_zero, zero_add]
      · rw [inf_mul hy q, inf_add hy]
  unfold pe
  rw [if_pos (show R.on n ∧ n ≠ R.pb from hn), hmid, hga, t_eq l hl, mul_comm, inf_mul hy (Real.exp_pos _), inf_meet hx]

include h hl hx in
/-- And in the reference's. -/
theorem mix_inf (μ : ℝ) (n : ℕ) (hn : R.ok n) : (1 - R.ep) * R.soft (μ : EReal) n + R.ep * R.unif n = ⊥ := by
  have hM : (0 : ℝ) < max ((((Finset.range 100000).filter R.ok).card : ℕ) : ℝ) 1 := lt_max_of_lt_right one_pos
  have he : 0 < er R l n := by
    unfold er; rw [if_pos hn]
    exact mul_pos (Real.exp_pos _) (add_pos_of_nonneg_of_pos (sr_nonneg n) tau_pos)
  rw [soft_eq h l hl, inf_mul (inf_sub hx) (div_pos he (er_pos h l))]
  unfold unif
  rw [if_pos hn, ← EReal.coe_one, div_real _ _ hM.ne', inf_mul hx (div_pos one_pos hM), EReal.coe_one, inf_meet hx]

include h hl in
/-- A column that is not allowed has no mixed probability, whatever the weight. -/
theorem mix_off (μ : ℝ) (n : ℕ) (hn : ¬ R.ok n) : (1 - R.ep) * R.soft (μ : EReal) n + R.ep * R.unif n = 0 := by
  have hM : (0 : ℝ) < max ((((Finset.range 100000).filter R.ok).card : ℕ) : ℝ) 1 := lt_max_of_lt_right one_pos
  rw [soft_eq h l hl]
  unfold unif er
  rw [if_neg hn, if_neg hn, zero_div, EReal.coe_zero, mul_zero, zero_add, ← EReal.coe_zero, div_real _ _ hM.ne', zero_div, EReal.coe_zero, mul_zero]

end Inf

/-- The two spellings of the log-probability agree, whatever real the exponentials are taken below. -/
theorem lpRef_eq (h : R.Fine) (μ : ℝ) (n : ℕ) : R.lpRef (μ : EReal) n = R.lp n := by
  obtain ⟨l, hl⟩ := h.lg
  by_cases hn : R.ok n
  swap
  · unfold lpRef lp pe
    rw [mix_off h l hl μ n hn, if_neg (show ¬ (R.on n ∧ n ≠ R.pb) from hn)]
  by_cases hx : R.ep = ⊤ ∨ R.ep = ⊥
  · unfold lpRef lp
    rw [mix_inf h l hl hx μ n hn, pe_inf h l hl hx n hn]
  obtain ⟨e, he⟩ : ∃ e : ℝ, R.ep = (e : EReal) := ⟨_, (EReal.coe_toReal (fun q => hx (.inl q)) (fun q => hx (.inr q))).symm⟩
  have hM : (0 : ℝ) < max ((((Finset.range 100000).filter R.ok).card : ℕ) : ℝ) 1 := lt_max_of_lt_right one_pos
  unfold lpRef lp
  rw [(mix_eq h l hl e n).resolve_right (not_not.mpr he), soft_eq h l hl, he]
  unfold unif
  rw [← EReal.coe_one, ← EReal.coe_zero, ← coe_ite, div_real _ _ hM.ne', ← EReal.coe_sub, ← EReal.coe_mul, ← EReal.coe_mul, ← EReal.coe_add]

end Row

end Cert.Spec

end
-- ==== Proof.RefRead.lean ====
/-
  The reference's steps read at an index.
-/
module

public import proofs.«01_k».proof.Proof.RefFun
public import proofs.«01_k».proof.Proof.Math
public import Idealize.ShloMosaic.Lib.Pointwise
public import Idealize.ShloMosaic.Lib.Routing.OpsSet
public import Idealize.ShloMosaic.Lib.Routing.OpsPair
public import Idealize.ShloMosaic.Lib.Routing.OpsOne
public import Idealize.ShloMosaic.Lib.Routing.Ops
public import Idealize.ShloMosaic.Lib.StableHlo.Predicate

@[expose] public section

set_option maxRecDepth 16384

noncomputable section

namespace Cert.ReferenceIdeal.Hand

open Cert.ReferenceIdeal Cert.ReferenceIdeal.Gen Cert.Spec Idealize.ShloMosaic Idealize.ShloMosaic.TcCoe Idealize.SL.Sem
open Idealize.ShloMosaic.Routing

/-- A select on a conjunction with a negated bit. -/
theorem sel_and {α : Type} (a b : BitVec 1) (x y : α) : Scalar.select (IntOp.andi a (~~~b)) x y = if a = 1#1 ∧ ¬ b = 1#1 then x else y := by
  rcases BitVec.eq_zero_or_eq_one a with rfl | rfl <;> rcases BitVec.eq_zero_or_eq_one b with rfl | rfl <;> rfl
/-- A select on a bit. -/
theorem sel_bit {α : Type} (a : BitVec 1) (x y : α) : Scalar.select a x y = if a = 1#1 then x else y := by
  rcases BitVec.eq_zero_or_eq_one a with rfl | rfl <;> rfl
/-- The pattern of zero. -/
theorem bits_zero : Ideal.ofBits .f32 0x00000000#32 = 0 := by
  simp [Ideal.ofBits, Ideal.ieee]
/-- The pattern of one. -/
theorem bits_one : Ideal.ofBits .f32 0x3F800000#32 = 1 := by
  simp [Ideal.ofBits, Ideal.ieee, -EReal.coe_mul]
  try norm_num
/-- The pattern of minus infinity. -/
theorem bits_bot : Ideal.ofBits .f32 0xFF800000#32 = ⊥ := by
  simp [Ideal.ofBits, Ideal.ieee]

/-- A maximum over the columns, at any sizes. -/
theorem max_at {A B : ℕ} (v : FVec Ideal (⟨2, ![A, B]⟩ : Shape) .f32) (c : FVec Ideal S_ .f32) (h : (⟨2, ![A, B]⟩ : Shape).ReducesTo [1] ⟨1, ![A]⟩)
    (hu : 0 < S_.numel) (b : Fin A) :
    Host.reduce FloatOps.maximumf v c h hu (ix1 b) = Finset.univ.fold max (c (Shape.Idx.first hu)) fun k : Fin B => v (ix2 b k) := by
  pointwise

/-- The distances. -/
theorem norm_at (v : FVec Ideal S64x100000x3 .f32) (b : Fin 64) (n : Fin 100000) :
    normOf (F := Ideal) v (ix2 b n) = Ideal.sqrt (∑ k : Fin 3, v (ix3 b n k) * v (ix3 b n k)) := by
  unfold normOf
  pointwise

/-- Which distances are zero. -/
theorem zero_at (v : FVec Ideal S64x100000 .f32) (b : Fin 64) (n : Fin 100000) :
    zeroOf (F := Ideal) v (ix2 b n) = 1#1 ↔ v (ix2 b n) = 0 := by
  have : zeroOf (F := Ideal) v (ix2 b n) = BitVec.ofBool (decide (v (ix2 b n) = 0)) := by
    unfold zeroOf
    pointwise
  rw [this, StableHlo.Predicate.ofBool_eq_one_iff, decide_eq_true_eq]

/-- The distances with ones at the zeros. -/
theorem safe_at (v : FVec Ideal S64x100000 .f32) (b : Fin 64) (n : Fin 100000) :
    safeOf (F := Ideal) v (ix2 b n) = if v (ix2 b n) = 0 then 1 else v (ix2 b n) := by
  have : ∀ z : IVec S64x100000 1, ∀ w : FVec Ideal S_ .f32, (select z (broadcastInDim S64x100000 ![] bcast_S_S64x100000 w) v : FVec Ideal S64x100000 .f32) (ix2 b n)
      = if z (ix2 b n) = 1#1 then w ix0 else v (ix2 b n) := fun z w => by
    rw [← sel_bit]
    pointwise
  unfold safeOf
  rw [this, id_eq, show (constant (F := Ideal) S_ .f32 0x3F800000#32 : FVec Ideal S_ .f32) ix0 = 1 from bits_one]
  by_cases hz : v (ix2 b n) = 0
  · rw [if_pos ((zero_at v b n).mpr hz), if_pos hz]
  · rw [if_neg fun q => hz ((zero_at v b n).mp q), if_neg hz]

/-- The weights. -/
theorem weight_at (m z : IVec S64x100000 1) (v : FVec Ideal S64x100000 .f32) (b : Fin 64) (n : Fin 100000) :
    weightOf (F := Ideal) m z v (ix2 b n) = if m (ix2 b n) = 1#1 ∧ ¬ z (ix2 b n) = 1#1 then Ideal.div 1 (v (ix2 b n) * v (ix2 b n)) else 0 := by
  have e0 : (constant (F := Ideal) S_ .f32 0x00000000#32 : FVec Ideal S_ .f32) ix0 = 0 := bits_zero
  unfold weightOf
  pointwise
  rw [id_eq, sel_and, e0]

/-- The weights, ones where all of them vanish. -/
theorem filled_at (v : FVec Ideal S64x100000 .f32) (b : Fin 64) (n : Fin 100000) :
    filledOf (F := Ideal) v (ix2 b n) = if (∑ k : Fin 100000, v (ix2 b k)) = 0 then 1 else v (ix2 b n) := by
  have e0 : (constant (F := Ideal) S_ .f32 0x3F800000#32 : FVec Ideal S_ .f32) ix0 = 1 := bits_one
  unfold filledOf
  pointwise
  rw [id_eq, e0]

/-- The shares. -/
theorem share_at (v : FVec Ideal S64x100000 .f32) (b : Fin 64) (n : Fin 100000) :
    shareOf (F := Ideal) v (ix2 b n) = Ideal.div (v (ix2 b n)) (∑ k : Fin 100000, v (ix2 b k)) := by
  unfold shareOf
  pointwise

/-- The weighted logits. -/
theorem masked_at (lg : FVec Ideal S64x100000 .f32) (m : IVec S64x100000 1) (s t : FVec Ideal S64x100000 .f32) (b : Fin 64) (n : Fin 100000) :
    maskedOf (F := Ideal) lg m s t (ix2 b n) = if m (ix2 b n) = 1#1 then lg (ix2 b n) + Ideal.log (s (ix2 b n) + t (ix2 b n)) else ⊥ := by
  have e0 : (constant (F := Ideal) S_ .f32 0xFF800000#32 : FVec Ideal S_ .f32) ix0 = ⊥ := bits_bot
  unfold maskedOf
  pointwise
  rw [id_eq, sel_bit, e0]

/-- The exponentials, below a row's maximum. -/
theorem exp_at (v : FVec Ideal S64x100000 .f32) (b : Fin 64) (n : Fin 100000) :
    expOf (F := Ideal) v (ix2 b n) = Ideal.exp (v (ix2 b n) - Finset.univ.fold max ⊥ fun k : Fin 100000 => v (ix2 b k)) := by
  have lay : ∀ M : FVec Ideal S64 .f32, (Host.exp (subf v (broadcastInDim S64x100000 ![0, 1] bcast_S64x1_S64x100000_0_1 (broadcastInDim S64x1 ![0] bcast_S64_S64x1_0
      (maximumf (broadcastInDim S64 ![] bcast_S_S64 (constant S_ .f32 0xFF800000#32)) M)))) : FVec Ideal S64x100000 .f32) (ix2 b n)
      = Ideal.exp (v (ix2 b n) - max (Ideal.ofBits .f32 0xFF800000#32) (M (ix1 b))) := fun M => by
    pointwise
  unfold expOf
  rw [lay, max_at, bits_bot, max_eq_right bot_le]
  rw [show (constant (F := Ideal) S_ .f32 0xFF800000#32 : FVec Ideal S_ .f32) (Shape.Idx.first h_S_) = ⊥ from bits_bot]

/-- The softmax. -/
theorem soft_at (v : FVec Ideal S64x100000 .f32) (b : Fin 64) (n : Fin 100000) :
    softOf (F := Ideal) v (ix2 b n) = Ideal.div (v (ix2 b n)) (∑ k : Fin 100000, v (ix2 b k)) := by
  unfold softOf
  pointwise

/-- A bit as a float. -/
theorem bit_real (a : BitVec 1) : ((a.toNat : ℝ) : EReal) = if a = 1#1 then 1 else 0 := by
  rcases BitVec.eq_zero_or_eq_one a with rfl | rfl <;> simp

/-- A count raised to at least one, as a float. -/
theorem count_real (w : BitVec 32) (k : ℕ) (h : w.toNat = k) (hk : k < 2 ^ 31) : (((IntOp.maxsi w 1#32).toInt : ℝ) : EReal) = ((max (k : ℝ) 1 : ℝ) : EReal) := by
  have hi : w.toInt = k := by rw [StableHlo.Predicate.toInt_eq_toNat_of_lt (by omega), h]
  have h1 : (1#32 : BitVec 32).toInt = 1 := rfl
  have : (IntOp.maxsi w 1#32).toInt = max (k : ℤ) 1 := by
    unfold IntOp.maxsi
    split_ifs with q
    · simp only [BitVec.slt, hi, h1, decide_eq_true_eq] at q
      rw [hi]; omega
    · simp only [BitVec.slt, hi, h1, decide_eq_true_eq] at q
      rw [h1]; omega
  rw [this]
  norm_cast

/-- The uniform distribution. -/
theorem unif_at (m : IVec S64x100000 1) (b : Fin 64) (n : Fin 100000) :
    unifOf (F := Ideal) m (ix2 b n) = Ideal.div (if m (ix2 b n) = 1#1 then 1 else 0)
      ((max (((Finset.univ.filter fun k : Fin 100000 => m (ix2 b k) = 1#1).card : ℕ) : ℝ) 1 : ℝ) : EReal) := by
  have lay : ∀ w : IVec S64 32, (Host.divf (uitofp .f32 m) (broadcastInDim S64x100000 ![0, 1] bcast_S64x1_S64x100000_0_1 (sitofp .f32 (maxsi
      (broadcastInDim S64x1 ![0] bcast_S64_S64x1_0 w) (broadcastInDim S64x1 ![] bcast_S_S64x1 (constantI S_ 32 1#32))))) : FVec Ideal S64x100000 .f32) (ix2 b n)
      = Ideal.div (((m (ix2 b n)).toNat : ℝ) : EReal) (((IntOp.maxsi (w (ix1 b)) 1#32).toInt : ℝ) : EReal) := fun w => by
    pointwise
    try rfl
  unfold unifOf
  rw [lay, bit_real, count_real _ _ ((StableHlo.Predicate.toNat_reduce_count_cols (by norm_num) m natLt_1_32 reducesTo_S64x100000_S64_d1 h_S_ (ix1 b)).trans ?_) ?_]
  · refine congrArg Finset.card (Finset.filter_congr fun k _ => ?_)
    have e : (StableHlo.Predicate.ij (ix1 b 0) k : S64x100000.Idx) = ix2 b k := by funext a; fin_cases a <;> rfl
    exact Iff.of_eq (congrArg (fun i : S64x100000.Idx => m i = 1#1) e)
  · exact lt_of_le_of_lt (Finset.card_le_univ _) (by simp)

/-- The mixed log-probabilities. -/
theorem logp_at (ep : FVec Ideal S_ .f32) (s u : FVec Ideal S64x100000 .f32) (b : Fin 64) (n : Fin 100000) :
    logpOf (F := Ideal) ep s u (ix2 b n) = Ideal.log (((1 - ep ix0) * s (ix2 b n) + ep ix0 * u (ix2 b n)) + tiny) := by
  unfold logpOf
  pointwise

/-- A word below the bound stays when negative words are shifted. -/
theorem wrap_at (x : BitVec 32) (h : x.toNat < 100000) : Scalar.select (IntOp.cmpi .slt x 0#32) (IntOp.addi x 100000#32) x = x :=
  wrap_of_lt x _ (by omega)

/-- The previous objects' column, negative words shifted. -/
def prevCol (pv : IVec S64 32) : IVec S64x1 32 :=
  broadcastInDim S64x1 ![0] bcast_S64_S64x1_0 (select (cmpi .slt pv (broadcastInDim S64 ![] bcast_S_S64 (constantI S_ 32 0#32))) (addi pv (broadcastInDim S64 ![] bcast_S_S64 (constantI S_ 32 100000#32))) pv)
/-- A previous object in range is its own index. -/
theorem prevCol_at (pv : IVec S64 32) (b : Fin 64) (h : (pv (ix1 b)).toNat < 100000) : prevCol pv (ix2 b 0) = pv (ix1 b) := by
  refine Eq.trans ?_ (wrap_at _ h)
  unfold prevCol
  pointwise

/-- The test that an index is in range, which holds of one below the bound. -/
theorem inRange (x : BitVec 32) (h : x.toNat < 100000) : IntOp.andi (IntOp.cmpi .sge x 0#32) (IntOp.cmpi .sle x 99999#32) = 1#1 := by
  rw [(StableHlo.Predicate.sge_iff_toNat (by omega) (by decide)).mpr (by simp), (StableHlo.Predicate.sle_iff_toNat (by omega) (by decide)).mpr (by simp; omega)]
  rfl

/-- The offsets. -/
theorem diff_at (ce : FVec Ideal S100000x3 .f32) (pv : IVec S64 32) (b : Fin 64) (hpv : (pv (ix1 b)).toNat < 100000) (n : Fin 100000) (k : Fin 3) :
    diffOf (F := Ideal) ce pv (ix3 b n k) = ce (ix2 n k) - ce (ix2 ⟨(pv (ix1 b)).toNat, hpv⟩ k) := by
  have lay : ∀ (p : IVec S64x1 32) (g : FVec Ideal S64x3 .f32), (subf (broadcastInDim S64x100000x3 ![0, 1, 2] bcast_S1x100000x3_S64x100000x3_0_1_2 (broadcastInDim S1x100000x3 ![1, 2] bcast_S100000x3_S1x100000x3_1_2 ce)) (broadcastInDim S64x100000x3 ![0, 1, 2] bcast_S64x1x3_S64x100000x3_0_1_2 (broadcastInDim S64x1x3 ![0, 2] bcast_S64x3_S64x1x3_0_2 (select (broadcastInDim S64x3 ![0] bcast_S64_S64x3_0 (Host.reduce IntOp.andi (andi (cmpi .sge p (broadcastInDim S64x1 ![] bcast_S_S64x1 (constantI S_ 32 0#32))) (cmpi .sle p (broadcastInDim S64x1 ![0, 1] bcast_S1x1_S64x1_0_1 (broadcastInDim S1x1 ![1] bcast_S1_S1x1_1 (constantI S1 32 99999#32))))) (constantI S_ 1 1#1) reducesTo_S64x1_S64_d1 h_S_)) g (broadcastInDim S64x3 ![] bcast_S_S64x3 (constant S_ .f32 0x7FC00000#32))))) : FVec Ideal S64x100000x3 .f32) (ix3 b n k)
      = ce (ix2 n k) - Scalar.select (IntOp.andi (IntOp.andi (IntOp.cmpi .sge (p (ix2 b 0)) 0#32) (IntOp.cmpi .sle (p (ix2 b 0)) 99999#32)) 1#1) (g (ix2 b k)) (Ideal.ofBits .f32 0x7FC00000#32) := fun p g => by
    pointwise
    try rfl
  refine (lay (prevCol pv) (Host.gather gather_S100000x3_S64x1_S64x3_1_0_n_n_0_1_13 ce (prevCol pv))).trans ?_
  rw [prevCol_at pv b hpv, inRange _ hpv]
  refine congrArg (fun x => ce (ix2 n k) - x) ?_
  refine Eq.trans (show _ = Host.gather gather_S100000x3_S64x1_S64x3_1_0_n_n_0_1_13 ce (prevCol pv) (ix2 b k) from rfl) ?_
  exact gather_row gather_S100000x3_S64x1_S64x3_1_0_n_n_0_1_13 rfl rfl rfl rfl rfl ce (prevCol pv) b k ⟨(pv (ix1 b)).toNat, hpv⟩
    ((prevCol_at pv b hpv).trans (by rw [BitVec.ofNat_toNat, BitVec.setWidth_eq])) (by norm_num)

/-- The rows' numbers beside the previous objects. -/
def maskIdx (pv : IVec S64 32) : IVec S64x2 32 :=
  indexPair (F := Ideal) (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0))) (prevCol pv)

/-- The mask's index pair begins with the row's number. -/
theorem maskIdx_0 (pv : IVec S64 32) (b : Fin 64) : maskIdx pv (ix2 b 0) = BitVec.ofNat 32 b.val := by
  have h := b.isLt
  refine Eq.trans ?_ (wrap_of_lt (BitVec.ofNat 32 b.val) (IntOp.addi (BitVec.ofNat 32 b.val) 64#32) (by rw [BitVec.toNat_ofNat]; omega))
  unfold maskIdx indexPair
  pointwise
/-- And ends with the row's previous object, where that is in range. -/
theorem maskIdx_1 (pv : IVec S64 32) (b : Fin 64) (hpv : (pv (ix1 b)).toNat < 100000) : maskIdx pv (ix2 b 1) = pv (ix1 b) := by
  refine Eq.trans ?_ (prevCol_at pv b hpv)
  unfold maskIdx indexPair
  pointwise

/-- Where the mask's cleared entries land. -/
theorem lands (pv : IVec S64 32) (hpv : ∀ b, (pv (ix1 b)).toNat < 100000) (b r : Fin 64) (c : Fin 100000) :
    scatter_S64x100000_S64x2_S64_n_01_01_1.resultIdx? (ix1 b) (maskIdx pv) = some (ix2 r c) ↔ b = r ∧ (pv (ix1 b)).toNat = c.val := by
  have hb := b.isLt
  have hp := hpv b
  have s0 : scatter_S64x100000_S64x2_S64_n_01_01_1.start (ix1 b) (maskIdx pv) 0 = ((maskIdx pv (ix2 b 0)).toInt) := by
    refine congrArg (fun i => (maskIdx pv i).toInt) ?_
    funext a; fin_cases a <;> rfl
  have s1 : scatter_S64x100000_S64x2_S64_n_01_01_1.start (ix1 b) (maskIdx pv) 1 = ((maskIdx pv (ix2 b 1)).toInt) := by
    refine congrArg (fun i => (maskIdx pv i).toInt) ?_
    funext a; fin_cases a <;> rfl
  have w0 : scatter_S64x100000_S64x2_S64_n_01_01_1.window (ix1 b) 0 = 0 := rfl
  have w1 : scatter_S64x100000_S64x2_S64_n_01_01_1.window (ix1 b) 1 = 0 := rfl
  rw [maskIdx_0, StableHlo.Predicate.toInt_ofNat_small _ (by omega)] at s0
  rw [maskIdx_1 pv b hp, StableHlo.Predicate.toInt_eq_toNat_of_lt (by omega)] at s1
  refine (resultIdx?_ix2 scatter_S64x100000_S64x2_S64_n_01_01_1 (ix1 b) (maskIdx pv) r c).trans ?_
  rw [s0, s1, w0, w1]
  constructor
  · rintro ⟨h0, h1⟩; exact ⟨Fin.ext (by omega), by omega⟩
  · rintro ⟨rfl, h1⟩; exact ⟨by omega, by omega⟩

/-- The mask: switched on, and not the row's previous object. -/
theorem mask_at (mf : FVec Ideal S100000 .f32) (pv : IVec S64 32) (hpv : ∀ b, (pv (ix1 b)).toNat < 100000) (b : Fin 64) (n : Fin 100000) :
    maskOf (F := Ideal) mf pv (ix2 b n) = 1#1 ↔ thr < mf (ix1 n) ∧ n.val ≠ (pv (ix1 b)).toNat := by
  by_cases hn : n.val = (pv (ix1 b)).toNat
  · have : maskOf (F := Ideal) mf pv (ix2 b n) = 0#1 := by
      refine scatter_set_hit scatter_S64x100000_S64x2_S64_n_01_01_1 _ (maskIdx pv) _ (ix2 b n) 0#1 (fun k _ => ?_) (ix1 b) ((lands pv hpv b b n).mpr ⟨rfl, hn.symm⟩)
      pointwise
    rw [this]
    exact ⟨fun q => absurd q (by decide), fun q => absurd hn q.2⟩
  · have e1 : maskOf (F := Ideal) mf pv (ix2 b n) = (broadcastInDim S64x100000 ![1] bcast_S100000_S64x100000_1 (cmpf (F := Ideal) .ogt mf (broadcastInDim S100000 ![] bcast_S_S100000 (constant S_ .f32 0x3D4CCCCD#32))) : IVec S64x100000 1) (ix2 b n) := by
      refine scatter_set_miss scatter_S64x100000_S64x2_S64_n_01_01_1 _ (maskIdx pv) _ (ix2 b n) (fun k hk => ?_)
      obtain ⟨b', rfl⟩ : ∃ b' : Fin 64, k = ix1 b' := ⟨k 0, by funext a; fin_cases a; rfl⟩
      obtain ⟨rfl, h⟩ := (lands pv hpv b' b n).mp hk
      exact hn h.symm
    have e2 : (broadcastInDim S64x100000 ![1] bcast_S100000_S64x100000_1 (cmpf (F := Ideal) .ogt mf (broadcastInDim S100000 ![] bcast_S_S100000 (constant S_ .f32 0x3D4CCCCD#32))) : IVec S64x100000 1) (ix2 b n)
        = BitVec.ofBool (decide (thr < mf (ix1 n))) := by
      pointwise
    rw [e1, e2, StableHlo.Predicate.ofBool_eq_one_iff, decide_eq_true_eq]
    exact ⟨fun q => ⟨q, hn⟩, fun q => q.1⟩

end Cert.ReferenceIdeal.Hand

end
-- ==== Proof.RefRow.lean ====
/-
  The reference's row: its masked logits, softmax and log-probabilities are those of the row's mathematics, so its
  log-probabilities are the ones the kernel computes.
-/
module

public import proofs.«01_k».proof.Proof.RefRead
public import proofs.«01_k».proof.Proof.Math
public import proofs.«01_k».proof.Proof.Rows

@[expose] public section

set_option maxRecDepth 16384

noncomputable section

namespace Cert.ReferenceIdeal.Hand

open Cert.ReferenceIdeal Cert.ReferenceIdeal.Gen Cert.Spec Idealize.ShloMosaic Idealize.ShloMosaic.TcCoe Idealize.SL.Sem
open Idealize.ShloMosaic.Routing
open scoped Classical

variable (lg : FVec Ideal S64x100000 .f32) (ce : FVec Ideal S100000x3 .f32) (mf : FVec Ideal S100000 .f32) (ep : FVec Ideal S_ .f32) (pv : IVec S64 32)

/-- Row `b` of the inputs. -/
def rowAt (b : Fin 64) : Row := rowOf (fun n => lg (ix2 b n)) (fun k n => ce (ix2 n k)) (fun n => mf (ix1 n)) (ep ix0) (pv (ix1 b))

/-- The reference's weights, from the inputs. -/
def weights : FVec Ideal S64x100000 .f32 := weightOf (F := Ideal) (maskOf (F := Ideal) mf pv) (zeroOf (F := Ideal) (normOf (F := Ideal) (diffOf (F := Ideal) ce pv))) (safeOf (F := Ideal) (normOf (F := Ideal) (diffOf (F := Ideal) ce pv)))
/-- The reference's masked logits, from the inputs. -/
def masked : FVec Ideal S64x100000 .f32 := maskedOf (F := Ideal) lg (maskOf (F := Ideal) mf pv) (shareOf (F := Ideal) (filledOf (F := Ideal) (weights ce mf pv))) (tinyOf (F := Ideal))
/-- The reference's log-probabilities, from the inputs. -/
def logps : FVec Ideal S64x100000 .f32 := logpOf (F := Ideal) ep (softOf (F := Ideal) (expOf (F := Ideal) (masked lg ce mf pv))) (unifOf (F := Ideal) (maskOf (F := Ideal) mf pv))

/-- The largest masked logit of a row. -/
def topAt (b : Fin 64) : EReal := Finset.univ.fold max ⊥ fun k : Fin 100000 => masked lg ce mf pv (ix2 b k)

variable (hpv : ∀ b, (pv (ix1 b)).toNat < 100000) (b : Fin 64)

/-- The small constant stands everywhere. -/
theorem tiny_at (n : Fin 100000) : tinyOf (F := Ideal) (ix2 b n) = tiny := by
  unfold tinyOf
  pointwise

include hpv

/-- The mask is on at the allowed columns. -/
theorem ok_row (n : Fin 100000) : maskOf (F := Ideal) mf pv (ix2 b n) = 1#1 ↔ (rowAt lg ce mf ep pv b).ok n.val := by
  rw [mask_at mf pv hpv]
  unfold Row.ok Row.on rowAt rowOf
  simp only [pad_fin]

/-- The distances are the roots of the squared distances. -/
theorem norm_row (n : Fin 100000) : normOf (F := Ideal) (diffOf (F := Ideal) ce pv) (ix2 b n) = Ideal.sqrt ((rowAt lg ce mf ep pv b).d2 n.val) := by
  rw [norm_at, Fin.sum_univ_three]
  simp only [diff_at ce pv b (hpv b)]
  unfold Row.d2 Row.dd rowAt rowOf
  simp only [pad_fin, pad_lt _ _ (hpv b)]

/-- The weights. -/
theorem weight_row (n : Fin 100000) : weights ce mf pv (ix2 b n) = (rowAt lg ce mf ep pv b).w n.val := by
  unfold weights
  rw [weight_at, safe_at, norm_row lg ce mf ep pv hpv b n, ← (rowAt lg ce mf ep pv b).w_ref n.val]
  refine if_congr (and_congr (ok_row lg ce mf ep pv hpv b n) (not_congr ?_)) rfl rfl
  rw [zero_at, norm_row lg ce mf ep pv hpv b n]

/-- A row's shares. -/
theorem share_row (n : Fin 100000) : shareOf (F := Ideal) (filledOf (F := Ideal) (weights ce mf pv)) (ix2 b n) = (rowAt lg ce mf ep pv b).share n.val := by
  have hf : ∀ k : Fin 100000, filledOf (F := Ideal) (weights ce mf pv) (ix2 b k) = (rowAt lg ce mf ep pv b).fill k.val := fun k => by
    rw [filled_at]
    simp only [weight_row lg ce mf ep pv hpv b]
    unfold Row.fill
    rw [Finset.sum_range]
  rw [share_at]
  simp only [hf]
  unfold Row.share
  rw [Finset.sum_range]

/-- A row's masked logits. -/
theorem masked_row (n : Fin 100000) : masked lg ce mf pv (ix2 b n) = (rowAt lg ce mf ep pv b).msk n.val := by
  unfold masked
  rw [masked_at, share_row lg ce mf ep pv hpv b n, tiny_at]
  unfold Row.msk
  refine if_congr (ok_row lg ce mf ep pv hpv b n) ?_ rfl
  rw [show (rowAt lg ce mf ep pv b).lg n.val = lg (ix2 b n) from pad_fin (fun n => lg (ix2 b n)) n]

/-- A row's softmax. -/
theorem soft_row (n : Fin 100000) : softOf (F := Ideal) (expOf (F := Ideal) (masked lg ce mf pv)) (ix2 b n) = (rowAt lg ce mf ep pv b).soft (topAt lg ce mf pv b) n.val := by
  have he : ∀ k : Fin 100000, expOf (F := Ideal) (masked lg ce mf pv) (ix2 b k) = (rowAt lg ce mf ep pv b).ex (topAt lg ce mf pv b) k.val := fun k => by
    rw [exp_at, masked_row lg ce mf ep pv hpv b k]
    rfl
  rw [soft_at]
  simp only [he]
  unfold Row.soft
  rw [Finset.sum_range]

/-- A row's uniform distribution. -/
theorem unif_row (n : Fin 100000) : unifOf (F := Ideal) (maskOf (F := Ideal) mf pv) (ix2 b n) = (rowAt lg ce mf ep pv b).unif n.val := by
  rw [unif_at]
  unfold Row.unif
  have hc : (Finset.univ.filter fun k : Fin 100000 => maskOf (F := Ideal) mf pv (ix2 b k) = 1#1).card = ((Finset.range 100000).filter (rowAt lg ce mf ep pv b).ok).card := by
    rw [Finset.card_filter, Finset.card_filter, Finset.sum_range]
    exact Finset.sum_congr rfl fun k _ => if_congr (ok_row lg ce mf ep pv hpv b k) rfl rfl
  rw [hc]
  have hi : (if maskOf (F := Ideal) mf pv (ix2 b n) = 1#1 then (1 : EReal) else 0) = if (rowAt lg ce mf ep pv b).ok n.val then 1 else 0 :=
    if_congr (ok_row lg ce mf ep pv hpv b n) rfl rfl
  rw [hi]

/-- A row's log-probabilities, over its own largest masked logit. -/
theorem logp_row (n : Fin 100000) : logps lg ce mf ep pv (ix2 b n) = (rowAt lg ce mf ep pv b).lpRef (topAt lg ce mf pv b) n.val := by
  unfold logps
  rw [logp_at, soft_row lg ce mf ep pv hpv b n, unif_row lg ce mf ep pv hpv b n]
  rfl

/-- In a row of real logits with an allowed column the largest masked logit is real. -/
theorem top_real (h : (rowAt lg ce mf ep pv b).Fine) : ∃ μ : ℝ, topAt lg ce mf pv b = (μ : EReal) := by
  obtain ⟨l, hl⟩ := h.lg
  obtain ⟨c, hc⟩ := h.some
  have hlt : c < 100000 := not_le.mp fun q => h.off c q hc.1
  have h1 : topAt lg ce mf pv b ≠ ⊤ := by
    refine ne_of_lt ?_
    unfold topAt
    rw [Finset.fold_max_lt]
    refine ⟨bot_lt_top, fun k _ => ?_⟩
    rw [masked_row lg ce mf ep pv hpv b k]
    by_cases hk : (rowAt lg ce mf ep pv b).ok k.val
    · rw [Row.msk_eq l hl _ hk]; exact EReal.coe_lt_top _
    · unfold Row.msk; rw [if_neg hk]; exact bot_lt_top
  have h2 : topAt lg ce mf pv b ≠ ⊥ := by
    refine (lt_of_lt_of_le (?_ : (⊥ : EReal) < (rowAt lg ce mf ep pv b).msk c) ?_).ne'
    · rw [Row.msk_eq l hl _ hc]; exact EReal.bot_lt_coe _
    · unfold topAt
      rw [Finset.le_fold_max]
      exact .inr ⟨⟨c, hlt⟩, Finset.mem_univ _, (masked_row lg ce mf ep pv hpv b ⟨c, hlt⟩).ge⟩
  exact ⟨_, (EReal.coe_toReal h1 h2).symm⟩

/-- The reference's log-probabilities are the kernel's. -/
theorem logp_eq (h : (rowAt lg ce mf ep pv b).Fine) (n : Fin 100000) : logps lg ce mf ep pv (ix2 b n) = (rowAt lg ce mf ep pv b).lp n.val := by
  obtain ⟨μ, hμ⟩ := top_real lg ce mf ep pv hpv b h
  rw [logp_row lg ce mf ep pv hpv b n, hμ, Row.lpRef_eq h]

end Cert.ReferenceIdeal.Hand

end
-- ==== Proof.PreRead.lean ====
/-
  The precondition's side conditions, and the precondition read: what it says of the inputs, in the reference's own terms.
-/
module

public import proofs.«01_k».proof.Pre_playable
public import proofs.«01_k».proof.Proof.RefRow
public import Idealize.ShloMosaic.Lib.ReduceAll
public import Idealize.ShloMosaic.Lib.Routing.OpsOrder

@[expose] public section

set_option maxRecDepth 16384

noncomputable section

namespace Cert.Pre_playable.Hand

open Cert.Spec Idealize.ShloMosaic
open Cert.ReferenceIdeal Cert.ReferenceIdeal.Gen Cert.ReferenceIdeal.Hand

/-- The precondition's side conditions. -/
theorem facts : Cert.Pre_playable.Facts where
  bcast_S_S64x100000 := by decide
  reducesTo_S64x100000_S_d0_1 := by decide
  h_S_ := by decide
  bcast_S_S64 := by decide
  reducesTo_S64_S_d0 := by decide
  bcast_S_S100000 := by decide
  bcast_S100000_S64x100000_1 := by decide
  bcast_S64_S64x1_0 := by decide
  concatenates_S64x1_S64x1_S64x2_d1 := by decide
  reducesTo_S64x100000_S64_d1 := by decide
  bcast_S_S64x1 := by decide
  bcast_S1_S1x1_1 := by decide
  bcast_S1x1_S64x1_0_1 := by decide
  reducesTo_S64x1_S64_d1 := by decide
  bcast_S64_S64x3_0 := by decide
  bcast_S_S64x3 := by decide
  bcast_S100000x3_S1x100000x3_1_2 := by decide
  bcast_S64x3_S64x1x3_0_2 := by decide
  bcast_S1x100000x3_S64x100000x3_0_1_2 := by decide
  bcast_S64x1x3_S64x100000x3_0_1_2 := by decide
  reducesTo_S64x100000x3_S64x100000_d2 := by decide
  bcast_S64x1_S64x100000_0_1 := by decide
  natLt_1_32 := by decide
  scatter_S64x100000_S64x2_S64_n_01_01_1_wf := by decide
  gather_S100000x3_S64x1_S64x3_1_0_n_n_0_1_13_wf := by decide

attribute [local instance] facts

section Generic

variable {F : FTy → Type} [FloatOps F]

/-- Every logit is finite. -/
def finiteOf (lg : FVec F S64x100000 .f32) : IVec S_ 1 :=
  Host.reduce IntOp.andi (cmpf .olt (Host.absf lg) (broadcastInDim S64x100000 ![] bcast_S_S64x100000 (constant S_ .f32 0x7F800000#32))) (constantI S_ 1 1#1) facts.reducesTo_S64x100000_S_d0_1 h_S_
/-- Every previous object is one of the objects. -/
def rangeOf (pv : IVec S64 32) : IVec S_ 1 :=
  andi (Host.reduce IntOp.andi (cmpi .sge pv (broadcastInDim S64 ![] bcast_S_S64 (constantI S_ 32 0#32))) (constantI S_ 1 1#1) facts.reducesTo_S64_S_d0 h_S_)
    (Host.reduce IntOp.andi (cmpi .slt pv (broadcastInDim S64 ![] bcast_S_S64 (constantI S_ 32 100000#32))) (constantI S_ 1 1#1) facts.reducesTo_S64_S_d0 h_S_)
/-- Every draw is at most the largest a draw can be. -/
def drawsOf (gm : FVec F S64x100000 .f32) : IVec S_ 1 :=
  Host.reduce IntOp.andi (cmpf .ole gm (broadcastInDim S64x100000 ![] bcast_S_S64x100000 (constant S_ .f32 0x41600000#32))) (constantI S_ 1 1#1) facts.reducesTo_S64x100000_S_d0_1 h_S_
/-- Every row has an allowed object. -/
def someOf (mk : IVec S64x100000 1) : IVec S_ 1 :=
  Host.reduce IntOp.andi (Host.reduce IntOp.ori mk (constantI S_ 1 0#1) reducesTo_S64x100000_S64_d1 h_S_) (constantI S_ 1 1#1) facts.reducesTo_S64_S_d0 h_S_
/-- In every row the largest score is at least what an object that is not allowed can reach. -/
def reachOf (gm lp : FVec F S64x100000 .f32) : IVec S_ 1 :=
  Host.reduce IntOp.andi (cmpf .oge (Host.reduce FloatOps.maximumf (addf lp gm) (constant S_ .f32 0xFF800000#32) reducesTo_S64x100000_S64_d1 h_S_)
    (broadcastInDim S64 ![] bcast_S_S64 (addf (Host.log (constant S_ .f32 0x2B8CBCCC#32)) (constant S_ .f32 0x41600000#32)))) (constantI S_ 1 1#1) facts.reducesTo_S64_S_d0 h_S_

/-- The log-probabilities, over any floats. -/
def logpsOf (lg : FVec F S64x100000 .f32) (ce : FVec F S100000x3 .f32) (mf : FVec F S100000 .f32) (ep : FVec F S_ .f32) (pv : IVec S64 32) : FVec F S64x100000 .f32 :=
  logpOf ep (softOf (expOf (maskedOf lg (maskOf mf pv) (shareOf (filledOf (weightOf (maskOf mf pv) (zeroOf (normOf (diffOf ce pv))) (safeOf (normOf (diffOf ce pv)))))) tinyOf))) (unifOf (maskOf mf pv))

/-- The precondition is the five together. -/
theorem fn_eq (lg : FVec F S64x100000 .f32) (ce : FVec F S100000x3 .f32) (mf : FVec F S100000 .f32) (gm : FVec F S64x100000 .f32) (ep : FVec F S_ .f32) (pv : IVec S64 32) :
    Cert.Pre_playable.fn lg ce mf gm ep pv
      = andi (andi (andi (andi (finiteOf lg) (rangeOf pv)) (drawsOf gm)) (someOf (maskOf mf pv))) (reachOf gm (logpsOf lg ce mf ep pv)) := rfl

end Generic

open Cert.ReferenceIdeal.Hand (max_at sel_bit)

/-- An "any" over the columns, at any sizes. -/
theorem any_at {A B : ℕ} (v : IVec (⟨2, ![A, B]⟩ : Shape) 1) (c : IVec S_ 1) (h : (⟨2, ![A, B]⟩ : Shape).ReducesTo [1] ⟨1, ![A]⟩) (hu : 0 < S_.numel) (b : Fin A) :
    Host.reduce IntOp.ori v c h hu (ix1 b) = Finset.univ.fold IntOp.ori (c (Shape.Idx.first hu)) fun k : Fin B => v (ix2 b k) := by
  pointwise

/-- A number whose size is below infinity is real. -/
theorem real_of_abs {x : EReal} (h : BitVec.ofBool (decide (max x (-x) < Ideal.ofBits .f32 0x7F800000#32)) = 1#1) : ∃ r : ℝ, x = (r : EReal) := by
  rw [StableHlo.Predicate.ofBool_eq_one_iff, decide_eq_true_eq, show Ideal.ofBits .f32 0x7F800000#32 = ⊤ by simp [Ideal.ofBits, Ideal.ieee]] at h
  induction x using EReal.rec with
  | bot => exact absurd h (by simp)
  | coe r => exact ⟨r, rfl⟩
  | top => exact absurd h (by simp)

/-- The precondition's logits are real. -/
theorem finite_logit {lg : FVec Ideal S64x100000 .f32} (h : finiteOf (F := Ideal) lg ix0 = 1#1) (b : Fin 64) (n : Fin 100000) :
    ∃ r : ℝ, lg (ix2 b n) = (r : EReal) :=
  real_of_abs (Host.reduce_andi_all _ _ _ _ _ h (ix2 b n))

/-- Its previous objects are in range. -/
theorem range_read {pv : IVec S64 32} (h : rangeOf pv ix0 = 1#1) (b : Fin 64) : (pv (ix1 b)).toNat < 100000 := by
  have h1 : IntOp.cmpi .sge (pv (ix1 b)) 0#32 = 1#1 := Host.reduce_andi_all _ _ _ _ _ (IntOp.andi_eq_one.1 h).1 (ix1 b)
  have h2 : IntOp.cmpi .slt (pv (ix1 b)) 100000#32 = 1#1 := Host.reduce_andi_all _ _ _ _ _ (IntOp.andi_eq_one.1 h).2 (ix1 b)
  rw [IntOp.cmpi_sge] at h1
  rw [IntOp.cmpi_slt] at h2
  have e0 : (0#32 : BitVec 32).toInt = 0 := rfl
  have e1 : (100000#32 : BitVec 32).toInt = 100000 := rfl
  have := (pv (ix1 b)).isLt
  rw [e0] at h1; rw [e1] at h2
  rw [BitVec.toInt_eq_toNat_cond] at h1 h2
  split_ifs at h1 h2 <;> omega

/-- Its draws are at most the cap. -/
theorem draws_read {gm : FVec Ideal S64x100000 .f32} (h : drawsOf (F := Ideal) gm ix0 = 1#1) (b : Fin 64) (n : Fin 100000) : gm (ix2 b n) ≤ cap := by
  have h1 : BitVec.ofBool (decide (gm (ix2 b n) ≤ cap)) = 1#1 := Host.reduce_andi_all _ _ _ _ _ h (ix2 b n)
  rwa [StableHlo.Predicate.ofBool_eq_one_iff, decide_eq_true_eq] at h1

/-- Every row has an allowed object. -/
theorem some_read {mk : IVec S64x100000 1} (h : someOf mk ix0 = 1#1) (b : Fin 64) : ∃ n : Fin 100000, mk (ix2 b n) = 1#1 := by
  have h1 : Host.reduce IntOp.ori mk (constantI S_ 1 0#1) reducesTo_S64x100000_S64_d1 h_S_ (ix1 b) = 1#1 := Host.reduce_andi_all _ _ _ _ _ h (ix1 b)
  have h2 : Finset.univ.fold IntOp.ori 0#1 (fun k : Fin 100000 => mk (ix2 b k)) = 1#1 :=
    (any_at (A := 64) (B := 100000) mk (constantI S_ 1 0#1) reducesTo_S64x100000_S64_d1 h_S_ b).symm.trans h1
  obtain ⟨n, -, hn⟩ := (Idealize.ShloMosaic.Routing.fold_ori _ _).1 h2
  exact ⟨n, hn⟩

/-- Every row has a score that reaches what a column past the last object can. -/
theorem reach_read {gm lp : FVec Ideal S64x100000 .f32} (h : reachOf (F := Ideal) gm lp ix0 = 1#1) (b : Fin 64) :
    ∃ n : Fin 100000, Ideal.log tiny + cap ≤ lp (ix2 b n) + gm (ix2 b n) := by
  have h1 : BitVec.ofBool (decide (Ideal.log tiny + cap ≤ Host.reduce FloatOps.maximumf (addf (F := Ideal) lp gm) (constant (F := Ideal) S_ .f32 0xFF800000#32) reducesTo_S64x100000_S64_d1 h_S_ (ix1 b))) = 1#1 :=
    Host.reduce_andi_all _ _ _ _ _ h (ix1 b)
  have h0 : (constant (F := Ideal) S_ .f32 0xFF800000#32) (Shape.Idx.first h_S_) = ⊥ := bits_bot
  rw [StableHlo.Predicate.ofBool_eq_one_iff, decide_eq_true_eq] at h1
  have h2 := h1.trans_eq (max_at (A := 64) (B := 100000) (addf (F := Ideal) lp gm) (constant (F := Ideal) S_ .f32 0xFF800000#32) reducesTo_S64x100000_S64_d1 h_S_ b)
  rw [h0, Finset.le_fold_max] at h2
  rcases h2 with h2 | ⟨n, -, h2⟩
  · exfalso
    rw [tiny_eq, cap_eq, log_real _ tau_pos, ← EReal.coe_add, le_bot_iff] at h2
    exact EReal.coe_ne_bot _ h2
  · exact ⟨n, h2⟩

variable (lg : FVec Ideal S64x100000 .f32) (ce : FVec Ideal S100000x3 .f32) (mf : FVec Ideal S100000 .f32) (gm : FVec Ideal S64x100000 .f32) (ep : FVec Ideal S_ .f32) (pv : IVec S64 32)

/-- What the precondition says of the inputs. -/
theorem read (h : Cert.Pre_playable.fn (F := Ideal) lg ce mf gm ep pv = fun _ => 1#1) :
    (∀ b, (pv (ix1 b)).toNat < 100000) ∧ (∀ b, (rowAt lg ce mf ep pv b).Fine) ∧ (∀ b n, gm (ix2 b n) ≤ cap)
      ∧ ∀ b, ∃ n : Fin 100000, Ideal.log tiny + cap ≤ logps lg ce mf ep pv (ix2 b n) + gm (ix2 b n) := by
  rw [fn_eq] at h
  have h0 := congrFun h ix0
  obtain ⟨h1, hreach⟩ := IntOp.andi_eq_one.1 h0
  obtain ⟨h2, hsome⟩ := IntOp.andi_eq_one.1 h1
  obtain ⟨h3, hdraws⟩ := IntOp.andi_eq_one.1 h2
  obtain ⟨hfin, hrange⟩ := IntOp.andi_eq_one.1 h3
  have hpv := range_read hrange
  refine ⟨hpv, fun b => ⟨?_, ?_, ?_, ?_⟩, draws_read hdraws, reach_read hreach⟩
  · exact rowOf_off _ _ _ _ _
  · choose l hl using finite_logit hfin b
    refine ⟨fun n => if hn : n < 100000 then l ⟨n, hn⟩ else 0, fun n => ?_⟩
    show pad (fun n => lg (ix2 b n)) n = _
    by_cases hn : n < 100000 <;> dsimp only
    · rw [pad_lt _ _ hn, dif_pos hn, hl]
    · rw [pad_ge _ _ (not_lt.mp hn), dif_neg hn]; rfl
  · exact hpv b
  · obtain ⟨n, hn⟩ := some_read hsome b
    exact ⟨n.val, (ok_row lg ce mf ep pv hpv b n).1 hn⟩

end Cert.Pre_playable.Hand

end
-- ==== Proof.RefPick.lean ====
/-
  The reference's choice read: the column of the largest score, first of its equals, and the log-probability there.
-/
module

public import proofs.«01_k».proof.Proof.RefRead

@[expose] public section

set_option maxRecDepth 16384

noncomputable section

namespace Cert.ReferenceIdeal.Hand

open Cert.ReferenceIdeal Cert.ReferenceIdeal.Gen Cert.Spec Idealize.ShloMosaic Idealize.ShloMosaic.TcCoe Idealize.SL.Sem
open Idealize.ShloMosaic.Routing

/-- The pair the choice's body keeps. -/
theorem reducer_eq (a b : EReal × BitVec 32) :
    reducer_argmax_f32_i32 (F := Ideal) a b = if b.1 < a.1 ∨ (a.1 = b.1 ∧ a.2.slt b.2 = true) then a else b := by
  have e : reducer_argmax_f32_i32 (F := Ideal) a b
      = (Scalar.select (IntOp.ori (BitVec.ofBool (decide (b.1 < a.1))) (BitVec.ofBool (decide (a.1 ≠ a.1)))) a.1 b.1,
        Scalar.select (IntOp.ori (IntOp.ori (BitVec.ofBool (decide (b.1 < a.1))) (BitVec.ofBool (decide (a.1 ≠ a.1))))
          (IntOp.andi (BitVec.ofBool (decide (a.1 = b.1))) (BitVec.ofBool (a.2.slt b.2)))) a.2 b.2) := rfl
  rw [e]
  by_cases h1 : b.1 < a.1
  · rw [if_pos (.inl h1)]
    have hb : ∀ x : BitVec 1, 1#1 ||| x = 1#1 := by decide
    simp [h1, IntOp.ori, Scalar.select, hb]
  · by_cases h2 : a.1 = b.1
    · cases h3 : a.2.slt b.2
      · rw [if_neg (by rintro (q | q); exacts [h1 q, absurd q.2 (by simp)])]
        refine Prod.ext ?_ ?_ <;> simp [h1, h2, IntOp.ori, IntOp.andi, Scalar.select]
      · rw [if_pos (.inr ⟨h2, rfl⟩)]
        refine Prod.ext ?_ ?_ <;> simp [h1, h2, IntOp.ori, IntOp.andi, Scalar.select]
    · rw [if_neg (by rintro (q | q); exacts [h1 q, h2 q.1])]
      refine Prod.ext ?_ ?_ <;> simp [h1, h2, IntOp.ori, IntOp.andi, Scalar.select]

/-- A pair that the best one beats. -/
def Beaten (m p : EReal × BitVec 32) : Prop := p.1 < m.1 ∨ (p.1 = m.1 ∧ m.2.slt p.2 = true)

/-- Of two words at most one is below the other. -/
theorem slt_asymm {a b : BitVec 32} (h : a.slt b = true) : b.slt a = false := by
  simp only [BitVec.slt, decide_eq_true_eq] at h
  simp only [BitVec.slt, decide_eq_false_iff_not]
  omega

/-- The body keeps a pair over one that it beats, on the left. -/
theorem keep_left {m p : EReal × BitVec 32} (h : Beaten m p) : reducer_argmax_f32_i32 (F := Ideal) m p = m := by
  rw [reducer_eq]
  rcases h with h | h
  · rw [if_pos (.inl h)]
  · rw [if_pos (.inr ⟨h.1.symm, h.2⟩)]
/-- The body keeps a pair over one that it beats, on the right. -/
theorem keep_right {m p : EReal × BitVec 32} (h : Beaten m p) : reducer_argmax_f32_i32 (F := Ideal) p m = m := by
  rw [reducer_eq, if_neg]
  rintro (q | q)
  · rcases h with h | h
    · exact lt_asymm q h
    · exact absurd q (by rw [h.1]; exact lt_irrefl _)
  · rcases h with h | h
    · exact absurd h (by rw [q.1]; exact lt_irrefl _)
    · rw [slt_asymm h.2] at q; exact absurd q.2 (by simp)
/-- Of two beaten pairs the body keeps a beaten one. -/
theorem keep_beaten {m p q : EReal × BitVec 32} (hp : Beaten m p) (hq : Beaten m q) : Beaten m (reducer_argmax_f32_i32 (F := Ideal) p q) := by
  rw [reducer_eq]; split_ifs <;> assumption
/-- The body keeps a pair over itself. -/
theorem keep_same (m : EReal × BitVec 32) : reducer_argmax_f32_i32 (F := Ideal) m m = m := by
  rw [reducer_eq]; split_ifs <;> rfl

/-- The fold of the body finds the pair that beats all others. -/
theorem foldl_best (m : EReal × BitVec 32) : ∀ (L : List (EReal × BitVec 32)) (i : EReal × BitVec 32), (∀ p ∈ L, p = m ∨ Beaten m p) →
    (i = m ∨ (Beaten m i ∧ m ∈ L)) → L.foldl (reducer_argmax_f32_i32 (F := Ideal)) i = m
  | [], i, _, h => by
    rcases h with h | h
    · exact h
    · exact absurd h.2 (by simp)
  | p :: L, i, hL, h => by
    rw [List.foldl_cons]
    refine foldl_best m L _ (fun q hq => hL q (List.mem_cons_of_mem _ hq)) ?_
    rcases hL p (List.mem_cons_self ..) with rfl | hp
    · left
      rcases h with rfl | h
      · exact keep_same _
      · exact keep_right h.1
    · rcases h with rfl | h
      · left; exact keep_left hp
      · right
        refine ⟨keep_beaten h.1 hp, ?_⟩
        rcases List.mem_cons.mp h.2 with e | e
        · subst e
          exfalso
          rcases hp with q | q
          · exact lt_irrefl _ q
          · have := slt_asymm q.2
            rw [this] at q; exact absurd q.2 (by simp)
        · exact e

/-- The choice at any sizes. -/
theorem argmax_at {A B : ℕ} (hB : B < 2 ^ 31) (x : FVec Ideal (⟨2, ![A, B]⟩ : Shape) .f32) (c0 : FVec Ideal S_ .f32) (i0 : IVec S_ 32) (h : (⟨2, ![A, B]⟩ : Shape).ReducesTo [1] ⟨1, ![A]⟩)
    (hu : 0 < S_.numel) (b : Fin A) (c : Fin B) (hc0 : c0 (Shape.Idx.first hu) = ⊥) (hle : ∀ k, x (ix2 b k) ≤ x (ix2 b c)) (hlt : ∀ k < c, x (ix2 b k) < x (ix2 b c))
    (hne : x (ix2 b c) ≠ ⊥) :
    (Host.argReduce (reducer_argmax_f32_i32 (F := Ideal)) x (iotaInDim (⟨2, ![A, B]⟩ : Shape) 32 1) c0 i0 h hu (ix1 b)).2 = BitVec.ofNat 32 c.val := by
  have hdrop : ∀ i : (⟨2, ![A, B]⟩ : Shape).Idx, h.drop i = ix1 b ↔ i 0 = b := by
    intro i
    have hv : (h.drop i 0 : Nat) = i 0 := Shape.ReducesTo.drop_apply_val h i 0
    constructor
    · intro e; rw [e] at hv; exact Fin.ext hv.symm
    · intro e
      funext a; have ha : a = 0 := Subsingleton.elim _ _; subst ha
      exact Fin.ext (by rw [hv, e]; rfl)
  rw [Ideal.argReduce_eq_reduce2, Host.reduce2_eq_foldl_fiber]
  refine congrArg Prod.snd (foldl_best (x (ix2 b c), BitVec.ofNat 32 c.val) _ _ ?_ (.inr ⟨?_, ?_⟩))
  · intro p hp
    unfold Host.argReduceFiber at hp
    rw [List.mem_map] at hp
    obtain ⟨n, hn, rfl⟩ := hp
    rw [List.mem_filter] at hn
    have hi := (hdrop _).mp (of_decide_eq_true hn.2)
    generalize (⟨2, ![A, B]⟩ : Shape).rowMajor.symm n = i at hi
    obtain ⟨k, rfl⟩ : ∃ k : Fin B, i = ix2 b k := ⟨i 1, by rw [eq_ix2 i, hi]; rfl⟩
    have ey : iotaInDim (⟨2, ![A, B]⟩ : Shape) 32 1 (ix2 b k) = BitVec.ofNat 32 k.val := rfl
    rw [ey]
    by_cases hk : k = c
    · left; rw [hk]
    · right
      have hkb := k.isLt
      have hcb := c.isLt
      rcases lt_or_gt_of_ne hk with q | q
      · exact .inl (hlt k q)
      · rcases lt_or_eq_of_le (hle k) with q' | q'
        · exact .inl q'
        · refine .inr ⟨q', ?_⟩
          simp only [BitVec.slt, StableHlo.Predicate.toInt_ofNat_small _ (lt_trans hkb hB), StableHlo.Predicate.toInt_ofNat_small _ (lt_trans hcb hB), decide_eq_true_eq]
          have : c.val < k.val := q
          omega
  · left
    show c0 _ < _
    rw [hc0]
    exact bot_lt_iff_ne_bot.mpr hne
  · unfold Host.argReduceFiber
    rw [List.mem_map]
    refine ⟨(⟨2, ![A, B]⟩ : Shape).rowMajor (ix2 b c), ?_, ?_⟩
    · rw [List.mem_filter]
      exact ⟨List.mem_finRange _, decide_eq_true ((hdrop _).mpr (by rw [Equiv.symm_apply_apply]; rfl))⟩
    · rw [Equiv.symm_apply_apply]; rfl

/-- The choice's body over any floats and sizes. -/
def pickGen {F : FTy → Type} [FloatOps F] {A B : ℕ} (x : FVec F (⟨2, ![A, B]⟩ : Shape) .f32) (c0 : FVec F S_ .f32) (i0 : IVec S_ 32) (h : (⟨2, ![A, B]⟩ : Shape).ReducesTo [1] ⟨1, ![A]⟩) (hu : 0 < S_.numel) :
    IVec (⟨1, ![A]⟩ : Shape) 32 :=
  fun j => (Host.argReduce reducer_argmax_f32_i32 x (iotaInDim (⟨2, ![A, B]⟩ : Shape) 32 1) c0 i0 h hu j).2

/-- The reference's choice is that body at its sizes. -/
theorem pickOf_eq {F : FTy → Type} [FloatOps F] (gm v : FVec F S64x100000 .f32) :
    pickOf gm v = pickGen (A := 64) (B := 100000) (addf v gm) (constant S_ .f32 0xFF800000#32) (constantI S_ 32 0#32) reducesTo_S64x100000_S64_d1 h_S_ := rfl

/-- At any sizes, the choice is the first column with the largest value, where that is not minus infinity. -/
theorem pickGen_at {A B : ℕ} (hB : B < 2 ^ 31) (x : FVec Ideal (⟨2, ![A, B]⟩ : Shape) .f32) (c0 : FVec Ideal S_ .f32) (i0 : IVec S_ 32) (h : (⟨2, ![A, B]⟩ : Shape).ReducesTo [1] ⟨1, ![A]⟩)
    (hu : 0 < S_.numel) (b : Fin A) (c : Fin B) (hc0 : c0 (Shape.Idx.first hu) = ⊥) (hle : ∀ k, x (ix2 b k) ≤ x (ix2 b c)) (hlt : ∀ k < c, x (ix2 b k) < x (ix2 b c))
    (hne : x (ix2 b c) ≠ ⊥) : pickGen x c0 i0 h hu (ix1 b) = BitVec.ofNat 32 c.val :=
  argmax_at hB x c0 i0 h hu b c hc0 hle hlt hne

/-- The reference's choice. -/
theorem pick_at (gm v : FVec Ideal S64x100000 .f32) (b : Fin 64) (c : Fin 100000) (hle : ∀ k, v (ix2 b k) + gm (ix2 b k) ≤ v (ix2 b c) + gm (ix2 b c))
    (hlt : ∀ k < c, v (ix2 b k) + gm (ix2 b k) < v (ix2 b c) + gm (ix2 b c)) (hne : v (ix2 b c) + gm (ix2 b c) ≠ ⊥) :
    pickOf (F := Ideal) gm v (ix1 b) = BitVec.ofNat 32 c.val := by
  rw [pickOf_eq]
  have hB : 100000 < 2 ^ 31 := by norm_num
  have h0 : (constant (F := Ideal) S_ .f32 0xFF800000#32) (Shape.Idx.first h_S_) = ⊥ := bits_bot
  generalize constant (F := Ideal) S_ .f32 0xFF800000#32 = c0 at h0 ⊢
  have hx : ∀ k, addf (F := Ideal) v gm (ix2 b k) = v (ix2 b k) + gm (ix2 b k) := fun k => rfl
  generalize addf (F := Ideal) v gm = x at hx ⊢
  simp only [← hx] at hle hlt hne
  exact pickGen_at hB x c0 _ _ _ b c h0 hle hlt hne

/-- The chosen columns, as a column of indices. -/
def pickCol (p : IVec S64 32) : IVec S64x1x1 32 :=
  shapeCast S64x1x1 (select (cmpi .slt (broadcastInDim S64x1 ![0] bcast_S64_S64x1_0 p) (broadcastInDim S64x1 ![] bcast_S_S64x1 (constantI S_ 32 0#32))) (addi (broadcastInDim S64x1 ![0] bcast_S64_S64x1_0 p) (broadcastInDim S64x1 ![] bcast_S_S64x1 (constantI S_ 32 100000#32))) (broadcastInDim S64x1 ![0] bcast_S64_S64x1_0 p)) shapeCasts_S64x1_S64x1x1
/-- A chosen column in range is its own index. -/
theorem pickCol_at (p : IVec S64 32) (b : Fin 64) (h : (p (ix1 b)).toNat < 100000) : pickCol p (ix3 b 0 0) = p (ix1 b) := by
  refine Eq.trans ?_ (wrap_at _ h)
  unfold pickCol
  pointwise

/-- The log-probability at the chosen column. -/
theorem take_at (v : FVec Ideal S64x100000 .f32) (p : IVec S64 32) (b : Fin 64) (h : (p (ix1 b)).toNat < 100000) :
    takeOf (F := Ideal) v p (ix1 b) = v (ix2 b ⟨(p (ix1 b)).toNat, h⟩) := by
  have lay : ∀ (q : IVec S64x1x1 32) (g : FVec Ideal S64x1 .f32), (shapeCast S64 (select (Host.reduce IntOp.andi (andi (cmpi .sge q (broadcastInDim S64x1x1 ![] bcast_S_S64x1x1 (constantI S_ 32 0#32))) (cmpi .sle q (broadcastInDim S64x1x1 ![0, 1, 2] bcast_S1x1x1_S64x1x1_0_1_2 (broadcastInDim S1x1x1 ![2] bcast_S1_S1x1x1_2 (constantI S1 32 99999#32))))) (constantI S_ 1 1#1) reducesTo_S64x1x1_S64x1_d2 h_S_) g (broadcastInDim S64x1 ![] bcast_S_S64x1 (constant S_ .f32 0x7FC00000#32))) shapeCasts_S64x1_S64 : FVec Ideal S64 .f32) (ix1 b)
      = Scalar.select (IntOp.andi (IntOp.andi (IntOp.cmpi .sge (q (ix3 b 0 0)) 0#32) (IntOp.cmpi .sle (q (ix3 b 0 0)) 99999#32)) 1#1) (g (ix2 b 0)) (Ideal.ofBits .f32 0x7FC00000#32) := fun q g => by
    pointwise
    try rfl
  refine (lay (pickCol p) (Host.gather gather_S64x100000_S64x1x1_S64x1_n_1_0_0_1_2_11 v (pickCol p))).trans ?_
  rw [pickCol_at p b h, inRange _ h]
  refine Eq.trans (show _ = Host.gather gather_S64x100000_S64x1x1_S64x1_n_1_0_0_1_2_11 v (pickCol p) (ix2 b 0) from rfl) ?_
  unfold Host.gather
  refine congrArg v (funext fun a => Fin.ext ?_)
  have s1 : gather_S64x100000_S64x1x1_S64x1_n_1_0_0_1_2_11.start (ix2 b 0) (pickCol p) 1 = min ((pickCol p (ix3 b 0 0)).toInt.toNat) 99999 := by
    refine congrArg (fun i => min ((pickCol p i).toInt.toNat) 99999) ?_
    funext k; fin_cases k <;> rfl
  rw [pickCol_at p b h, StableHlo.Predicate.toInt_eq_toNat_of_lt (by omega)] at s1
  match a with
  | ⟨0, _⟩ =>
    show gather_S64x100000_S64x1x1_S64x1_n_1_0_0_1_2_11.start (ix2 b 0) (pickCol p) 0 + gather_S64x100000_S64x1x1_S64x1_n_1_0_0_1_2_11.batchCoord (ix2 b 0) 0 + gather_S64x100000_S64x1x1_S64x1_n_1_0_0_1_2_11.offCoord (ix2 b 0) 0 = b.val
    rw [show gather_S64x100000_S64x1x1_S64x1_n_1_0_0_1_2_11.start (ix2 b 0) (pickCol p) 0 = 0 from rfl, show gather_S64x100000_S64x1x1_S64x1_n_1_0_0_1_2_11.batchCoord (ix2 b 0) 0 = b.val from rfl, show gather_S64x100000_S64x1x1_S64x1_n_1_0_0_1_2_11.offCoord (ix2 b 0) 0 = 0 from rfl]
    omega
  | ⟨1, _⟩ =>
    show gather_S64x100000_S64x1x1_S64x1_n_1_0_0_1_2_11.start (ix2 b 0) (pickCol p) 1 + gather_S64x100000_S64x1x1_S64x1_n_1_0_0_1_2_11.batchCoord (ix2 b 0) 1 + gather_S64x100000_S64x1x1_S64x1_n_1_0_0_1_2_11.offCoord (ix2 b 0) 1 = (p (ix1 b)).toNat
    rw [s1, show gather_S64x100000_S64x1x1_S64x1_n_1_0_0_1_2_11.batchCoord (ix2 b 0) 1 = 0 from rfl, show gather_S64x100000_S64x1x1_S64x1_n_1_0_0_1_2_11.offCoord (ix2 b 0) 1 = 0 from rfl]
    omega

end Cert.ReferenceIdeal.Hand

end
-- ==== Proof.RefRun.lean ====
/-
  The reference's run, read back: `main` is a list of host operations, cut into short segments; what a segment leaves in
  its last buffers is a function of what it found in the buffers it reads; composed, the segments give the two results
  as functions of the arguments.
-/
module

public import proofs.«01_k».proof.Proof.RefFun
public import Idealize.ShloMosaic.Lib.StableHlo.Run
public import Idealize.ShloMosaic.Lib.Pipeline.Frame

@[expose] public section

set_option Elab.async false
set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations of segment 1. -/
abbrev s1 : List (HloOp τ sig (Elt F)) :=
  [ nullary main_cst (constant S_ .f32 0x3D4CCCCD#32),
    unary main_cst main_v0 (broadcastInDim S100000 ![] bcast_S_S100000 : (⟨S_, .f32⟩ : BufTy).Contents (Elt F) → (⟨S100000, .f32⟩ : BufTy).Contents (Elt F)),
    binary main_arg2 main_v0 main_v1 (cmpf .ogt : (⟨S100000, .f32⟩ : BufTy).Contents (Elt F) → (⟨S100000, .f32⟩ : BufTy).Contents (Elt F) → (⟨S100000, .i1⟩ : BufTy).Contents (Elt F)),
    unary main_v1 main_v2 (broadcastInDim S64x100000 ![1] bcast_S100000_S64x100000_1 : (⟨S100000, .i1⟩ : BufTy).Contents (Elt F) → (⟨S64x100000, .i1⟩ : BufTy).Contents (Elt F)),
    nullary main_v3 (iotaInDim S64 32 0),
    nullary main_c (constantI S_ 32 0#32),
    unary main_c main_v4 (broadcastInDim S64 ![] bcast_S_S64 : (⟨S_, .i32⟩ : BufTy).Contents (Elt F) → (⟨S64, .i32⟩ : BufTy).Contents (Elt F)),
    binary main_v3 main_v4 main_v5 (cmpi .slt : (⟨S64, .i32⟩ : BufTy).Contents (Elt F) → (⟨S64, .i32⟩ : BufTy).Contents (Elt F) → (⟨S64, .i1⟩ : BufTy).Contents (Elt F)),
    nullary main_c_0 (constantI S_ 32 64#32),
    unary main_c_0 main_v6 (broadcastInDim S64 ![] bcast_S_S64 : (⟨S_, .i32⟩ : BufTy).Contents (Elt F) → (⟨S64, .i32⟩ : BufTy).Contents (Elt F)),
    binary main_v3 main_v6 main_v7 (addi : (⟨S64, .i32⟩ : BufTy).Contents (Elt F) → (⟨S64, .i32⟩ : BufTy).Contents (Elt F) → (⟨S64, .i32⟩ : BufTy).Contents (Elt F)),
    ternary main_v5 main_v7 main_v3 main_v8 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    nullary main_c_1 (constantI S_ 32 0#32),
    unary main_c_1 main_v9 (broadcastInDim S64 ![] bcast_S_S64 : (⟨S_, .i32⟩ : BufTy).Contents (Elt F) → (⟨S64, .i32⟩ : BufTy).Contents (Elt F)),
    binary main_arg5 main_v9 main_v10 (cmpi .slt : (⟨S64, .i32⟩ : BufTy).Contents (Elt F) → (⟨S64, .i32⟩ : BufTy).Contents (Elt F) → (⟨S64, .i1⟩ : BufTy).Contents (Elt F)),
    nullary main_c_2 (constantI S_ 32 100000#32),
    unary main_c_2 main_v11 (broadcastInDim S64 ![] bcast_S_S64 : (⟨S_, .i32⟩ : BufTy).Contents (Elt F) → (⟨S64, .i32⟩ : BufTy).Contents (Elt F)),
    binary main_arg5 main_v11 main_v12 (addi : (⟨S64, .i32⟩ : BufTy).Contents (Elt F) → (⟨S64, .i32⟩ : BufTy).Contents (Elt F) → (⟨S64, .i32⟩ : BufTy).Contents (Elt F)),
    ternary main_v10 main_v12 main_arg5 main_v13 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v8 main_v14 (broadcastInDim S64x1 ![0] bcast_S64_S64x1_0 : (⟨S64, .i32⟩ : BufTy).Contents (Elt F) → (⟨S64x1, .i32⟩ : BufTy).Contents (Elt F)),
    unary main_v13 main_v15 (broadcastInDim S64x1 ![0] bcast_S64_S64x1_0 : (⟨S64, .i32⟩ : BufTy).Contents (Elt F) → (⟨S64x1, .i32⟩ : BufTy).Contents (Elt F)),
    binary main_v14 main_v15 main_v16 (indexPair (F := F)),
    nullary main_c_3 (constantI S_ 1 0#1),
    unary main_c_3 main_v17 (broadcastInDim S64 ![] bcast_S_S64 : (⟨S_, .i1⟩ : BufTy).Contents (Elt F) → (⟨S64, .i1⟩ : BufTy).Contents (Elt F)),
    ternary main_v2 main_v16 main_v17 main_v18 ((fun x i u => Host.scatter scatter_S64x100000_S64x2_S64_n_01_01_1 (fun _ b => b) x i u) : (⟨S64x100000, .i1⟩ : BufTy).Contents (Elt F) → (⟨S64x2, .i32⟩ : BufTy).Contents (Elt F) → (⟨S64, .i1⟩ : BufTy).Contents (Elt F) → (⟨S64x100000, .i1⟩ : BufTy).Contents (Elt F)) ]

/-- The buffers segment 1 writes. -/
abbrev s1W : List (Ref sig .tc) := [main_cst, main_v0, main_v1, main_v2, main_v3, main_c, main_v4, main_v5, main_c_0, main_v6, main_v7, main_v8, main_c_1, main_v9, main_v10, main_c_2, main_v11, main_v12, main_v13, main_v14, main_v15, main_v16, main_c_3, main_v17, main_v18]

/-- Segment 1 touches host buffers only. -/
theorem s1_sub : (s1 : List (HloOp τ sig (Elt F))).Forall fun op => op.bufs ⊆ tcRefs τ sig :=
  ⟨nullary_bufs_sub .., unary_bufs_sub .., binary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub ..⟩
/-- Segment 1 takes no fresh buffers. -/
theorem s1_fresh : (s1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
/-- Segment 1 writes the listed buffers only. -/
theorem s1_writes : (s1 : List (HloOp τ sig (Elt F))).Forall fun op => op.writes ⊆ (s1W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 1 does not write keeps its contents. -/
theorem s1_keep (V : Valuation τ sig (Elt F)) (r : Ref sig .tc) (h : r ∉ s1W) : after s1 V (Proc.devRef .tc r) = V (Proc.devRef .tc r) :=
  after_of_writes_sub s1 V s1_writes h

set_option maxHeartbeats 4000000 in
/-- Segment 1 leaves the objects each row may choose. -/
theorem s1_v18 (V : Valuation τ sig (Elt F)) :
    after s1 V (Proc.devRef .tc main_v18) = maskOf (V (Proc.devRef .tc main_arg2)) (V (Proc.devRef .tc main_arg5)) := by
  simp only [s1, TRef.nullary, TRef.unary, TRef.binary, TRef.ternary, TRef.quaternary, TRef.reshape, TRef.toBuf, TRef.ofBuf, cast_eq]
  after_results_simp
  all_goals rfl

/-- Operations of segment 2. -/
abbrev s2 : List (HloOp τ sig (Elt F)) :=
  [ TRef.nullary (.of (T := ⟨S_, .i32⟩) main_call0_c) (constantI S_ 32 0#32),
    TRef.unary (.of (T := ⟨S_, .i32⟩) main_call0_c) (.of (T := ⟨S64, .i32⟩) main_call0_v0) (broadcastInDim S64 ![] bcast_S_S64),
    TRef.binary (.of (T := ⟨S64, .i32⟩) main_arg5) (.of (T := ⟨S64, .i32⟩) main_call0_v0) (.of (T := ⟨S64, .i1⟩) main_call0_v1) (cmpi .slt),
    TRef.nullary (.of (T := ⟨S_, .i32⟩) main_call0_c_0) (constantI S_ 32 100000#32),
    TRef.unary (.of (T := ⟨S_, .i32⟩) main_call0_c_0) (.of (T := ⟨S64, .i32⟩) main_call0_v2) (broadcastInDim S64 ![] bcast_S_S64),
    TRef.binary (.of (T := ⟨S64, .i32⟩) main_arg5) (.of (T := ⟨S64, .i32⟩) main_call0_v2) (.of (T := ⟨S64, .i32⟩) main_call0_v3) addi,
    TRef.ternary (.of (T := ⟨S64, .i1⟩) main_call0_v1) (.of (T := ⟨S64, .i32⟩) main_call0_v3) (.of (T := ⟨S64, .i32⟩) main_arg5) (.of (T := ⟨S64, .i32⟩) main_call0_v4) select,
    TRef.unary (.of (T := ⟨S64, .i32⟩) main_call0_v4) (.of (T := ⟨S64x1, .i32⟩) main_call0_v5) (broadcastInDim S64x1 ![0] bcast_S64_S64x1_0),
    TRef.nullary (.of (T := ⟨S1, .i32⟩) main_call0_c_1) (constantI S1 32 99999#32),
    TRef.nullary (.of (T := ⟨S_, .i32⟩) main_call0_c_2) (constantI S_ 32 0#32),
    TRef.unary (.of (T := ⟨S_, .i32⟩) main_call0_c_2) (.of (T := ⟨S64x1, .i32⟩) main_call0_v6) (broadcastInDim S64x1 ![] bcast_S_S64x1),
    TRef.binary (.of (T := ⟨S64x1, .i32⟩) main_call0_v5) (.of (T := ⟨S64x1, .i32⟩) main_call0_v6) (.of (T := ⟨S64x1, .i1⟩) main_call0_v7) (cmpi .sge),
    TRef.unary (.of (T := ⟨S1, .i32⟩) main_call0_c_1) (.of (T := ⟨S1x1, .i32⟩) main_call0_v8) (broadcastInDim S1x1 ![1] bcast_S1_S1x1_1),
    TRef.unary (.of (T := ⟨S1x1, .i32⟩) main_call0_v8) (.of (T := ⟨S64x1, .i32⟩) main_call0_v9) (broadcastInDim S64x1 ![0, 1] bcast_S1x1_S64x1_0_1),
    TRef.binary (.of (T := ⟨S64x1, .i32⟩) main_call0_v5) (.of (T := ⟨S64x1, .i32⟩) main_call0_v9) (.of (T := ⟨S64x1, .i1⟩) main_call0_v10) (cmpi .sle),
    TRef.binary (.of (T := ⟨S64x1, .i1⟩) main_call0_v7) (.of (T := ⟨S64x1, .i1⟩) main_call0_v10) (.of (T := ⟨S64x1, .i1⟩) main_call0_v11) andi,
    TRef.nullary (.of (T := ⟨S_, .i1⟩) main_call0_c_3) (constantI S_ 1 1#1),
    TRef.binary (.of (T := ⟨S64x1, .i1⟩) main_call0_v11) (.of (T := ⟨S_, .i1⟩) main_call0_c_3) (.of (T := ⟨S64, .i1⟩) main_call0_v12) (fun x v => Host.reduce IntOp.andi x v reducesTo_S64x1_S64_d1 h_S_),
    TRef.binary (.of (T := ⟨S100000x3, .f32⟩) main_arg1) (.of (T := ⟨S64x1, .i32⟩) main_call0_v5) (.of (T := ⟨S64x3, .f32⟩) main_call0_v13) (fun x i => Host.gather gather_S100000x3_S64x1_S64x3_1_0_n_n_0_1_13 x i),
    TRef.unary (.of (T := ⟨S64, .i1⟩) main_call0_v12) (.of (T := ⟨S64x3, .i1⟩) main_call0_v14) (broadcastInDim S64x3 ![0] bcast_S64_S64x3_0),
    TRef.nullary (.of (T := ⟨S_, .f32⟩) main_call0_cst) (constant S_ .f32 0x7FC00000#32),
    TRef.unary (.of (T := ⟨S_, .f32⟩) main_call0_cst) (.of (T := ⟨S64x3, .f32⟩) main_call0_v15) (broadcastInDim S64x3 ![] bcast_S_S64x3),
    TRef.ternary (.of (T := ⟨S64x3, .i1⟩) main_call0_v14) (.of (T := ⟨S64x3, .f32⟩) main_call0_v13) (.of (T := ⟨S64x3, .f32⟩) main_call0_v15) (.of (T := ⟨S64x3, .f32⟩) main_v19) select,
    unary main_arg1 main_v20 (broadcastInDim S1x100000x3 ![1, 2] bcast_S100000x3_S1x100000x3_1_2 : (⟨S100000x3, .f32⟩ : BufTy).Contents (Elt F) → (⟨S1x100000x3, .f32⟩ : BufTy).Contents (Elt F)),
    unary main_v19 main_v21 (broadcastInDim S64x1x3 ![0, 2] bcast_S64x3_S64x1x3_0_2 : (⟨S64x3, .f32⟩ : BufTy).Contents (Elt F) → (⟨S64x1x3, .f32⟩ : BufTy).Contents (Elt F)),
    unary main_v20 main_v22 (broadcastInDim S64x100000x3 ![0, 1, 2] bcast_S1x100000x3_S64x100000x3_0_1_2 : (⟨S1x100000x3, .f32⟩ : BufTy).Contents (Elt F) → (⟨S64x100000x3, .f32⟩ : BufTy).Contents (Elt F)),
    unary main_v21 main_v23 (broadcastInDim S64x100000x3 ![0, 1, 2] bcast_S64x1x3_S64x100000x3_0_1_2 : (⟨S64x1x3, .f32⟩ : BufTy).Contents (Elt F) → (⟨S64x100000x3, .f32⟩ : BufTy).Contents (Elt F)),
    binary main_v22 main_v23 main_v24 (subf : (⟨S64x100000x3, .f32⟩ : BufTy).Contents (Elt F) → (⟨S64x100000x3, .f32⟩ : BufTy).Contents (Elt F) → (⟨S64x100000x3, .f32⟩ : BufTy).Contents (Elt F)) ]

/-- The buffers segment 2 writes. -/
abbrev s2W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v19, main_v20, main_v21, main_v22, main_v23, main_v24]

/-- Segment 2 touches host buffers only. -/
theorem s2_sub : (s2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., unary_bufs_sub .., binary_bufs_sub ..⟩
/-- Segment 2 takes no fresh buffers. -/
theorem s2_fresh : (s2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
/-- Segment 2 writes the listed buffers only. -/
theorem s2_writes : (s2 : List (HloOp τ sig (Elt F))).Forall fun op => op.writes ⊆ (s2W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 2 does not write keeps its contents. -/
theorem s2_keep (V : Valuation τ sig (Elt F)) (r : Ref sig .tc) (h : r ∉ s2W) : after s2 V (Proc.devRef .tc r) = V (Proc.devRef .tc r) :=
  after_of_writes_sub s2 V s2_writes h

set_option maxHeartbeats 4000000 in
/-- Segment 2 leaves the offset of every object from the row’s previous one. -/
theorem s2_v24 (V : Valuation τ sig (Elt F)) :
    after s2 V (Proc.devRef .tc main_v24) = diffOf (V (Proc.devRef .tc main_arg1)) (V (Proc.devRef .tc main_arg5)) := by
  simp only [s2, TRef.nullary, TRef.unary, TRef.binary, TRef.ternary, TRef.quaternary, TRef.reshape, TRef.toBuf, TRef.ofBuf, cast_eq]
  after_results_simp
  all_goals rfl

/-- Operations of segment 3. -/
abbrev s3 : List (HloOp τ sig (Elt F)) :=
  [ TRef.binary (.of (T := ⟨S64x100000x3, .f32⟩) main_v24) (.of (T := ⟨S64x100000x3, .f32⟩) main_v24) (.of (T := ⟨S64x100000x3, .f32⟩) main_call1_v0) mulf,
    TRef.nullary (.of (T := ⟨S_, .f32⟩) main_call1_cst) (constant S_ .f32 0x00000000#32),
    TRef.binary (.of (T := ⟨S64x100000x3, .f32⟩) main_call1_v0) (.of (T := ⟨S_, .f32⟩) main_call1_cst) (.of (T := ⟨S64x100000, .f32⟩) main_call1_v1) (fun x v => Host.reduceAdd x v reducesTo_S64x100000x3_S64x100000_d2 h_S_),
    TRef.unary (.of (T := ⟨S64x100000, .f32⟩) main_call1_v1) (.of (T := ⟨S64x100000, .f32⟩) main_v25) Host.sqrt ]

/-- The buffers segment 3 writes. -/
abbrev s3W : List (Ref sig .tc) := [main_call1_v0, main_call1_cst, main_call1_v1, main_v25]

/-- Segment 3 touches host buffers only. -/
theorem s3_sub : (s3 : List (HloOp τ sig (Elt F))).Forall fun op => op.bufs ⊆ tcRefs τ sig :=
  ⟨binary_bufs_sub .., nullary_bufs_sub .., binary_bufs_sub .., unary_bufs_sub ..⟩
/-- Segment 3 takes no fresh buffers. -/
theorem s3_fresh : (s3 : List (HloOp τ sig (Elt F))).Forall fun op => op.fresh = ∅ :=
  ⟨rfl, rfl, rfl, rfl⟩
/-- Segment 3 writes the listed buffers only. -/
theorem s3_writes : (s3 : List (HloOp τ sig (Elt F))).Forall fun op => op.writes ⊆ (s3W.map (Proc.devRef (τ := τ) .tc)).toFinset := by
  simp only [List.Forall]
  refine ⟨?_, ?_, ?_, ?_⟩ <;>
    (simp only [nullary_writes, unary_writes, binary_writes, ternary_writes, quaternary_writes, reshape_writes, Finset.singleton_subset_iff, List.mem_toFinset]
     exact List.mem_map_of_mem (by decide))

/-- A buffer segment 3 does not write keeps its contents. -/
theorem s3_keep (V : Valuation τ sig (Elt F)) (r : Ref sig .tc) (h : r ∉ s3W) : after s3 V (Proc.devRef .tc r) = V (Proc.devRef .tc r) :=
  after_of_writes_sub s3 V s3_writes h

set_option maxHeartbeats 4000000 in
/-- Segment 3 leaves the distances. -/
theorem s3_v25 (V : Valuation τ sig (Elt F)) :
    after s3 V (Proc.devRef .tc main_v25) = normOf (V (Proc.devRef .tc main_v24)) := by
  simp only [s3, TRef.nullary, TRef.unary, TRef.binary, TRef.ternary, TRef.quaternary, TRef.reshape, TRef.toBuf, TRef.ofBuf, cast_eq]
  after_results_simp
  all_goals rfl

/-- Operations of segment 4. -/
abbrev s4 : List (HloOp τ sig (Elt F)) :=
  [ nullary main_cst_4 (constant S_ .f32 0x00000000#32),
    unary main_cst_4 main_v26 (broadcastInDim S64x100000 ![] bcast_S_S64x100000 : (⟨S_, .f32⟩ : BufTy).Contents (Elt F) → (⟨S64x100000, .f32⟩ : BufTy).Contents (Elt F)),
    binary main_v25 main_v26 main_v27 (cmpf .oeq : (⟨S64x100000, .f32⟩ : BufTy).Contents (Elt F) → (⟨S64x100000, .f32⟩ : BufTy).Contents (Elt F) → (⟨S64x100000, .i1⟩ : BufTy).Contents (Elt F)),
    nullary main_cst_5 (constant S_ .f32 0x3F800000#32),
    TRef.unary (.of (T := ⟨S_, .f32⟩) main_cst_5) (.of (T := ⟨S_, .f32⟩) main_call2_v0) id,
    TRef.unary (.of (T := ⟨S_, .f32⟩) main_call2_v0) (.of (T := ⟨S64x100000, .f32⟩) main_call2_v1) (broadcastInDim S64x100000 ![] bcast_S_S64x100000),
    TRef.ternary (.of (T := ⟨S64x100000, .i1⟩) main_v27) (.of (T := ⟨S64x100000, .f32⟩) main_call2_v1) (.of (T := ⟨S64x100000, .f32⟩) main_v25) (.of (T := ⟨S64x100000, .f32⟩) main_v28) select ]

/-- The buffers segment 4 writes. -/
abbrev s4W : List (Ref sig .tc) := [main_cst_4, main_v26, main_v27, main_cst_5, main_call2_v0, main_call2_v1, main_v28]

/-- Segment 4 touches host buffers only. -/
theorem s4_sub : (s4 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub ..⟩
/-- Segment 4 takes no fresh buffers. -/
theorem s4_fresh : (s4 : List (HloOp τ sig (Elt F))).Forall fun op => op.fresh = ∅ :=
  ⟨rfl, rfl, rfl, rfl, rfl, rfl, rfl⟩
/-- Segment 4 writes the listed buffers only. -/
theorem s4_writes : (s4 : List (HloOp τ sig (Elt F))).Forall fun op => op.writes ⊆ (s4W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 4 does not write keeps its contents. -/
theorem s4_keep (V : Valuation τ sig (Elt F)) (r : Ref sig .tc) (h : r ∉ s4W) : after s4 V (Proc.devRef .tc r) = V (Proc.devRef .tc r) :=
  after_of_writes_sub s4 V s4_writes h

set_option maxHeartbeats 4000000 in
/-- Segment 4 leaves which distances are zero. -/
theorem s4_v27 (V : Valuation τ sig (Elt F)) :
    after s4 V (Proc.devRef .tc main_v27) = zeroOf (V (Proc.devRef .tc main_v25)) := by
  simp only [s4, TRef.nullary, TRef.unary, TRef.binary, TRef.ternary, TRef.quaternary, TRef.reshape, TRef.toBuf, TRef.ofBuf, cast_eq]
  after_results_simp
  all_goals rfl

set_option maxHeartbeats 4000000 in
/-- Segment 4 leaves the distances, with ones at the zeros. -/
theorem s4_v28 (V : Valuation τ sig (Elt F)) :
    after s4 V (Proc.devRef .tc main_v28) = safeOf (V (Proc.devRef .tc main_v25)) := by
  simp only [s4, TRef.nullary, TRef.unary, TRef.binary, TRef.ternary, TRef.quaternary, TRef.reshape, TRef.toBuf, TRef.ofBuf, cast_eq]
  after_results_simp
  all_goals rfl

/-- Operations of segment 5. -/
abbrev s5 : List (HloOp τ sig (Elt F)) :=
  [ binary main_v28 main_v28 main_v29 (mulf : (⟨S64x100000, .f32⟩ : BufTy).Contents (Elt F) → (⟨S64x100000, .f32⟩ : BufTy).Contents (Elt F) → (⟨S64x100000, .f32⟩ : BufTy).Contents (Elt F)),
    nullary main_cst_6 (constant S_ .f32 0x3F800000#32),
    unary main_cst_6 main_v30 (broadcastInDim S64x100000 ![] bcast_S_S64x100000 : (⟨S_, .f32⟩ : BufTy).Contents (Elt F) → (⟨S64x100000, .f32⟩ : BufTy).Contents (Elt F)),
    binary main_v30 main_v29 main_v31 (Host.divf : (⟨S64x100000, .f32⟩ : BufTy).Contents (Elt F) → (⟨S64x100000, .f32⟩ : BufTy).Contents (Elt F) → (⟨S64x100000, .f32⟩ : BufTy).Contents (Elt F)),
    unary main_v27 main_v32 (noti : (⟨S64x100000, .i1⟩ : BufTy).Contents (Elt F) → (⟨S64x100000, .i1⟩ : BufTy).Contents (Elt F)),
    binary main_v18 main_v32 main_v33 (andi : (⟨S64x100000, .i1⟩ : BufTy).Contents (Elt F) → (⟨S64x100000, .i1⟩ : BufTy).Contents (Elt F) → (⟨S64x100000, .i1⟩ : BufTy).Contents (Elt F)),
    nullary main_cst_7 (constant S_ .f32 0x00000000#32),
    TRef.unary (.of (T := ⟨S_, .f32⟩) main_cst_7) (.of (T := ⟨S_, .f32⟩) main_call3_v0) id,
    TRef.unary (.of (T := ⟨S_, .f32⟩) main_call3_v0) (.of (T := ⟨S64x100000, .f32⟩) main_call3_v1) (broadcastInDim S64x100000 ![] bcast_S_S64x100000),
    TRef.ternary (.of (T := ⟨S64x100000, .i1⟩) main_v33) (.of (T := ⟨S64x100000, .f32⟩) main_v31) (.of (T := ⟨S64x100000, .f32⟩) main_call3_v1) (.of (T := ⟨S64x100000, .f32⟩) main_v34) select ]

/-- The buffers segment 5 writes. -/
abbrev s5W : List (Ref sig .tc) := [main_v29, main_cst_6, main_v30, main_v31, main_v32, main_v33, main_cst_7, main_call3_v0, main_call3_v1, main_v34]

/-- Segment 5 touches host buffers only. -/
theorem s5_sub : (s5 : List (HloOp τ sig (Elt F))).Forall fun op => op.bufs ⊆ tcRefs τ sig :=
  ⟨binary_bufs_sub .., nullary_bufs_sub .., unary_bufs_sub .., binary_bufs_sub .., unary_bufs_sub .., binary_bufs_sub .., nullary_bufs_sub .., unary_bufs_sub .., unary_bufs_sub .., ternary_bufs_sub ..⟩
/-- Segment 5 takes no fresh buffers. -/
theorem s5_fresh : (s5 : List (HloOp τ sig (Elt F))).Forall fun op => op.fresh = ∅ :=
  ⟨rfl, rfl, rfl, rfl, rfl, rfl, rfl, rfl, rfl, rfl⟩
/-- Segment 5 writes the listed buffers only. -/
theorem s5_writes : (s5 : List (HloOp τ sig (Elt F))).Forall fun op => op.writes ⊆ (s5W.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 5 does not write keeps its contents. -/
theorem s5_keep (V : Valuation τ sig (Elt F)) (r : Ref sig .tc) (h : r ∉ s5W) : after s5 V (Proc.devRef .tc r) = V (Proc.devRef .tc r) :=
  after_of_writes_sub s5 V s5_writes h

set_option maxHeartbeats 4000000 in
/-- Segment 5 leaves the inverse squared distances of the allowed objects. -/
theorem s5_v34 (V : Valuation τ sig (Elt F)) :
    after s5 V (Proc.devRef .tc main_v34) = weightOf (V (Proc.devRef .tc main_v18)) (V (Proc.devRef .tc main_v27)) (V (Proc.devRef .tc main_v28)) := by
  simp only [s5, TRef.nullary, TRef.unary, TRef.binary, TRef.ternary, TRef.quaternary, TRef.reshape, TRef.toBuf, TRef.ofBuf, cast_eq]
  after_results_simp
  all_goals rfl

/-- Operations of segment 6. -/
abbrev s6 : List (HloOp τ sig (Elt F)) :=
  [ nullary main_cst_8 (constant S_ .f32 0x00000000#32),
    binary main_v34 main_cst_8 main_v35 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v35 main_v36 (broadcastInDim S64x1 ![0] bcast_S64_S64x1_0 : (⟨S64, .f32⟩ : BufTy).Contents (Elt F) → (⟨S64x1, .f32⟩ : BufTy).Contents (Elt F)),
    nullary main_cst_9 (constant S_ .f32 0x00000000#32),
    unary main_cst_9 main_v37 (broadcastInDim S64x1 ![] bcast_S_S64x1 : (⟨S_, .f32⟩ : BufTy).Contents (Elt F) → (⟨S64x1, .f32⟩ : BufTy).Contents (Elt F)),
    binary main_v36 main_v37 main_v38 (cmpf .oeq : (⟨S64x1, .f32⟩ : BufTy).Contents (Elt F) → (⟨S64x1, .f32⟩ : BufTy).Contents (Elt F) → (⟨S64x1, .i1⟩ : BufTy).Contents (Elt F)),
    nullary main_cst_10 (constant S_ .f32 0x3F800000#32),
    TRef.unary (.of (T := ⟨S_, .f32⟩) main_cst_10) (.of (T := ⟨S_, .f32⟩) main_call4_v0) id,
    TRef.unary (.of (T := ⟨S64x1, .i1⟩) main_v38) (.of (T := ⟨S64x100000, .i1⟩) main_call4_v1) (broadcastInDim S64x100000 ![0, 1] bcast_S64x1_S64x100000_0_1),
    TRef.unary (.of (T := ⟨S_, .f32⟩) main_call4_v0) (.of (T := ⟨S64x100000, .f32⟩) main_call4_v2) (broadcastInDim S64x100000 ![] bcast_S_S64x100000),
    TRef.ternary (.of (T := ⟨S64x100000, .i1⟩) main_call4_v1) (.of (T := ⟨S64x100000, .f32⟩) main_call4_v2) (.of (T := ⟨S64x100000, .f32⟩) main_v34) (.of (T := ⟨S64x100000, .f32⟩) main_v39) select ]

/-- The buffers segment 6 writes. -/
abbrev s6W : List (Ref sig .tc) := [main_cst_8, main_v35, main_v36, main_cst_9, main_v37, main_v38, main_cst_10, main_call4_v0, main_call4_v1, main_call4_v2, main_v39]

/-- Segment 6 touches host buffers only. -/
theorem s6_sub : (s6 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., unary_bufs_sub .., unary_bufs_sub .., unary_bufs_sub .., ternary_bufs_sub ..⟩
/-- Segment 6 takes no fresh buffers. -/
theorem s6_fresh : (s6 : List (HloOp τ sig (Elt F))).Forall fun op => op.fresh = ∅ :=
  ⟨rfl, rfl, rfl, rfl, rfl, rfl, rfl, rfl, rfl, rfl, rfl⟩
/-- Segment 6 writes the listed buffers only. -/
theorem s6_writes : (s6 : List (HloOp τ sig (Elt F))).Forall fun op => op.writes ⊆ (s6W.map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 6 does not write keeps its contents. -/
theorem s6_keep (V : Valuation τ sig (Elt F)) (r : Ref sig .tc) (h : r ∉ s6W) : after s6 V (Proc.devRef .tc r) = V (Proc.devRef .tc r) :=
  after_of_writes_sub s6 V s6_writes h

set_option maxHeartbeats 4000000 in
/-- Segment 6 leaves the weights, ones in a row where all of them vanish. -/
theorem s6_v39 (V : Valuation τ sig (Elt F)) :
    after s6 V (Proc.devRef .tc main_v39) = filledOf (V (Proc.devRef .tc main_v34)) := by
  simp only [s6, TRef.nullary, TRef.unary, TRef.binary, TRef.ternary, TRef.quaternary, TRef.reshape, TRef.toBuf, TRef.ofBuf, cast_eq]
  after_results_simp
  all_goals rfl

/-- Operations of segment 7. -/
abbrev s7 : List (HloOp τ sig (Elt F)) :=
  [ nullary main_cst_11 (constant S_ .f32 0x00000000#32),
    binary main_v39 main_cst_11 main_v40 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v40 main_v41 (broadcastInDim S64x1 ![0] bcast_S64_S64x1_0 : (⟨S64, .f32⟩ : BufTy).Contents (Elt F) → (⟨S64x1, .f32⟩ : BufTy).Contents (Elt F)),
    unary main_v41 main_v42 (broadcastInDim S64x100000 ![0, 1] bcast_S64x1_S64x100000_0_1 : (⟨S64x1, .f32⟩ : BufTy).Contents (Elt F) → (⟨S64x100000, .f32⟩ : BufTy).Contents (Elt F)),
    binary main_v39 main_v42 main_v43 (Host.divf : (⟨S64x100000, .f32⟩ : BufTy).Contents (Elt F) → (⟨S64x100000, .f32⟩ : BufTy).Contents (Elt F) → (⟨S64x100000, .f32⟩ : BufTy).Contents (Elt F)) ]

/-- The buffers segment 7 writes. -/
abbrev s7W : List (Ref sig .tc) := [main_cst_11, main_v40, main_v41, main_v42, main_v43]

/-- Segment 7 touches host buffers only. -/
theorem s7_sub : (s7 : List (HloOp τ sig (Elt F))).Forall fun op => op.bufs ⊆ tcRefs τ sig :=
  ⟨nullary_bufs_sub .., binary_bufs_sub .., unary_bufs_sub .., unary_bufs_sub .., binary_bufs_sub ..⟩
/-- Segment 7 takes no fresh buffers. -/
theorem s7_fresh : (s7 : List (HloOp τ sig (Elt F))).Forall fun op => op.fresh = ∅ :=
  ⟨rfl, rfl, rfl, rfl, rfl⟩
/-- Segment 7 writes the listed buffers only. -/
theorem s7_writes : (s7 : List (HloOp τ sig (Elt F))).Forall fun op => op.writes ⊆ (s7W.map (Proc.devRef (τ := τ) .tc)).toFinset := by
  simp only [List.Forall]
  refine ⟨?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 7 does not write keeps its contents. -/
theorem s7_keep (V : Valuation τ sig (Elt F)) (r : Ref sig .tc) (h : r ∉ s7W) : after s7 V (Proc.devRef .tc r) = V (Proc.devRef .tc r) :=
  after_of_writes_sub s7 V s7_writes h

set_option maxHeartbeats 4000000 in
/-- Segment 7 leaves the weights as shares of their row’s sum. -/
theorem s7_v43 (V : Valuation τ sig (Elt F)) :
    after s7 V (Proc.devRef .tc main_v43) = shareOf (V (Proc.devRef .tc main_v39)) := by
  simp only [s7, TRef.nullary, TRef.unary, TRef.binary, TRef.ternary, TRef.quaternary, TRef.reshape, TRef.toBuf, TRef.ofBuf, cast_eq]
  after_results_simp
  all_goals rfl

/-- Operations of segment 8. -/
abbrev s8 : List (HloOp τ sig (Elt F)) :=
  [ nullary main_cst_12 (constant S_ .f32 0x2B8CBCCC#32),
    unary main_cst_12 main_v44 (broadcastInDim S64x100000 ![] bcast_S_S64x100000 : (⟨S_, .f32⟩ : BufTy).Contents (Elt F) → (⟨S64x100000, .f32⟩ : BufTy).Contents (Elt F)) ]

/-- The buffers segment 8 writes. -/
abbrev s8W : List (Ref sig .tc) := [main_cst_12, main_v44]

/-- Segment 8 touches host buffers only. -/
theorem s8_sub : (s8 : List (HloOp τ sig (Elt F))).Forall fun op => op.bufs ⊆ tcRefs τ sig :=
  ⟨nullary_bufs_sub .., unary_bufs_sub ..⟩
/-- Segment 8 takes no fresh buffers. -/
theorem s8_fresh : (s8 : List (HloOp τ sig (Elt F))).Forall fun op => op.fresh = ∅ :=
  ⟨rfl, rfl⟩
/-- Segment 8 writes the listed buffers only. -/
theorem s8_writes : (s8 : List (HloOp τ sig (Elt F))).Forall fun op => op.writes ⊆ (s8W.map (Proc.devRef (τ := τ) .tc)).toFinset := by
  simp only [List.Forall]
  refine ⟨?_, ?_⟩ <;>
    (simp only [nullary_writes, unary_writes, binary_writes, ternary_writes, quaternary_writes, reshape_writes, Finset.singleton_subset_iff, List.mem_toFinset]
     exact List.mem_map_of_mem (by decide))

/-- A buffer segment 8 does not write keeps its contents. -/
theorem s8_keep (V : Valuation τ sig (Elt F)) (r : Ref sig .tc) (h : r ∉ s8W) : after s8 V (Proc.devRef .tc r) = V (Proc.devRef .tc r) :=
  after_of_writes_sub s8 V s8_writes h

set_option maxHeartbeats 4000000 in
/-- Segment 8 leaves the small constant everywhere. -/
theorem s8_v44 (V : Valuation τ sig (Elt F)) :
    after s8 V (Proc.devRef .tc main_v44) = tinyOf := by
  simp only [s8, TRef.nullary, TRef.unary, TRef.binary, TRef.ternary, TRef.quaternary, TRef.reshape, TRef.toBuf, TRef.ofBuf, cast_eq]
  after_results_simp
  all_goals rfl

/-- Operations of segment 9. -/
abbrev s9 : List (HloOp τ sig (Elt F)) :=
  [ binary main_v43 main_v44 main_v45 (addf : (⟨S64x100000, .f32⟩ : BufTy).Contents (Elt F) → (⟨S64x100000, .f32⟩ : BufTy).Contents (Elt F) → (⟨S64x100000, .f32⟩ : BufTy).Contents (Elt F)),
    unary main_v45 main_v46 (Host.log : (⟨S64x100000, .f32⟩ : BufTy).Contents (Elt F) → (⟨S64x100000, .f32⟩ : BufTy).Contents (Elt F)),
    binary main_arg0 main_v46 main_v47 (addf : (⟨S64x100000, .f32⟩ : BufTy).Contents (Elt F) → (⟨S64x100000, .f32⟩ : BufTy).Contents (Elt F) → (⟨S64x100000, .f32⟩ : BufTy).Contents (Elt F)),
    nullary main_cst_13 (constant S_ .f32 0xFF800000#32),
    TRef.unary (.of (T := ⟨S_, .f32⟩) main_cst_13) (.of (T := ⟨S_, .f32⟩) main_call5_v0) id,
    TRef.unary (.of (T := ⟨S_, .f32⟩) main_call5_v0) (.of (T := ⟨S64x100000, .f32⟩) main_call5_v1) (broadcastInDim S64x100000 ![] bcast_S_S64x100000),
    TRef.ternary (.of (T := ⟨S64x100000, .i1⟩) main_v18) (.of (T := ⟨S64x100000, .f32⟩) main_v47) (.of (T := ⟨S64x100000, .f32⟩) main_call5_v1) (.of (T := ⟨S64x100000, .f32⟩) main_v48) select ]

/-- The buffers segment 9 writes. -/
abbrev s9W : List (Ref sig .tc) := [main_v45, main_v46, main_v47, main_cst_13, main_call5_v0, main_call5_v1, main_v48]

/-- Segment 9 touches host buffers only. -/
theorem s9_sub : (s9 : List (HloOp τ sig (Elt F))).Forall fun op => op.bufs ⊆ tcRefs τ sig :=
  ⟨binary_bufs_sub .., unary_bufs_sub .., binary_bufs_sub .., nullary_bufs_sub .., unary_bufs_sub .., unary_bufs_sub .., ternary_bufs_sub ..⟩
/-- Segment 9 takes no fresh buffers. -/
theorem s9_fresh : (s9 : List (HloOp τ sig (Elt F))).Forall fun op => op.fresh = ∅ :=
  ⟨rfl, rfl, rfl, rfl, rfl, rfl, rfl⟩
/-- Segment 9 writes the listed buffers only. -/
theorem s9_writes : (s9 : List (HloOp τ sig (Elt F))).Forall fun op => op.writes ⊆ (s9W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 9 does not write keeps its contents. -/
theorem s9_keep (V : Valuation τ sig (Elt F)) (r : Ref sig .tc) (h : r ∉ s9W) : after s9 V (Proc.devRef .tc r) = V (Proc.devRef .tc r) :=
  after_of_writes_sub s9 V s9_writes h

set_option maxHeartbeats 4000000 in
/-- Segment 9 leaves the weighted logits, minus infinity where masked. -/
theorem s9_v48 (V : Valuation τ sig (Elt F)) :
    after s9 V (Proc.devRef .tc main_v48) = maskedOf (V (Proc.devRef .tc main_arg0)) (V (Proc.devRef .tc main_v18)) (V (Proc.devRef .tc main_v43)) (V (Proc.devRef .tc main_v44)) := by
  simp only [s9, TRef.nullary, TRef.unary, TRef.binary, TRef.ternary, TRef.quaternary, TRef.reshape, TRef.toBuf, TRef.ofBuf, cast_eq]
  after_results_simp
  all_goals rfl

/-- Operations of segment 10. -/
abbrev s10 : List (HloOp τ sig (Elt F)) :=
  [ nullary main_cst_14 (constant S_ .f32 0xFF800000#32),
    binary main_v48 main_cst_14 main_v49 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    nullary main_cst_15 (constant S_ .f32 0xFF800000#32),
    unary main_cst_15 main_v50 (broadcastInDim S64 ![] bcast_S_S64 : (⟨S_, .f32⟩ : BufTy).Contents (Elt F) → (⟨S64, .f32⟩ : BufTy).Contents (Elt F)),
    binary main_v50 main_v49 main_v51 (maximumf : (⟨S64, .f32⟩ : BufTy).Contents (Elt F) → (⟨S64, .f32⟩ : BufTy).Contents (Elt F) → (⟨S64, .f32⟩ : BufTy).Contents (Elt F)),
    unary main_v51 main_v52 (broadcastInDim S64x1 ![0] bcast_S64_S64x1_0 : (⟨S64, .f32⟩ : BufTy).Contents (Elt F) → (⟨S64x1, .f32⟩ : BufTy).Contents (Elt F)),
    unary main_v52 main_v53 (broadcastInDim S64x100000 ![0, 1] bcast_S64x1_S64x100000_0_1 : (⟨S64x1, .f32⟩ : BufTy).Contents (Elt F) → (⟨S64x100000, .f32⟩ : BufTy).Contents (Elt F)),
    binary main_v48 main_v53 main_v54 (subf : (⟨S64x100000, .f32⟩ : BufTy).Contents (Elt F) → (⟨S64x100000, .f32⟩ : BufTy).Contents (Elt F) → (⟨S64x100000, .f32⟩ : BufTy).Contents (Elt F)),
    unary main_v54 main_v55 (Host.exp : (⟨S64x100000, .f32⟩ : BufTy).Contents (Elt F) → (⟨S64x100000, .f32⟩ : BufTy).Contents (Elt F)) ]

/-- The buffers segment 10 writes. -/
abbrev s10W : List (Ref sig .tc) := [main_cst_14, main_v49, main_cst_15, main_v50, main_v51, main_v52, main_v53, main_v54, main_v55]

/-- Segment 10 touches host buffers only. -/
theorem s10_sub : (s10 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub ..⟩
/-- Segment 10 takes no fresh buffers. -/
theorem s10_fresh : (s10 : List (HloOp τ sig (Elt F))).Forall fun op => op.fresh = ∅ :=
  ⟨rfl, rfl, rfl, rfl, rfl, rfl, rfl, rfl, rfl⟩
/-- Segment 10 writes the listed buffers only. -/
theorem s10_writes : (s10 : List (HloOp τ sig (Elt F))).Forall fun op => op.writes ⊆ (s10W.map (Proc.devRef (τ := τ) .tc)).toFinset := by
  simp only [List.Forall]
  refine ⟨?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 10 does not write keeps its contents. -/
theorem s10_keep (V : Valuation τ sig (Elt F)) (r : Ref sig .tc) (h : r ∉ s10W) : after s10 V (Proc.devRef .tc r) = V (Proc.devRef .tc r) :=
  after_of_writes_sub s10 V s10_writes h

set_option maxHeartbeats 4000000 in
/-- Segment 10 leaves the exponentials of the logits below their row’s maximum. -/
theorem s10_v55 (V : Valuation τ sig (Elt F)) :
    after s10 V (Proc.devRef .tc main_v55) = expOf (V (Proc.devRef .tc main_v48)) := by
  simp only [s10, TRef.nullary, TRef.unary, TRef.binary, TRef.ternary, TRef.quaternary, TRef.reshape, TRef.toBuf, TRef.ofBuf, cast_eq]
  after_results_simp
  all_goals rfl

/-- Operations of segment 11. -/
abbrev s11 : List (HloOp τ sig (Elt F)) :=
  [ nullary main_cst_16 (constant S_ .f32 0x00000000#32),
    binary main_v55 main_cst_16 main_v56 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v56 main_v57 (broadcastInDim S64x1 ![0] bcast_S64_S64x1_0 : (⟨S64, .f32⟩ : BufTy).Contents (Elt F) → (⟨S64x1, .f32⟩ : BufTy).Contents (Elt F)),
    unary main_v57 main_v58 (broadcastInDim S64x100000 ![0, 1] bcast_S64x1_S64x100000_0_1 : (⟨S64x1, .f32⟩ : BufTy).Contents (Elt F) → (⟨S64x100000, .f32⟩ : BufTy).Contents (Elt F)),
    binary main_v55 main_v58 main_v59 (Host.divf : (⟨S64x100000, .f32⟩ : BufTy).Contents (Elt F) → (⟨S64x100000, .f32⟩ : BufTy).Contents (Elt F) → (⟨S64x100000, .f32⟩ : BufTy).Contents (Elt F)) ]

/-- The buffers segment 11 writes. -/
abbrev s11W : List (Ref sig .tc) := [main_cst_16, main_v56, main_v57, main_v58, main_v59]

/-- Segment 11 touches host buffers only. -/
theorem s11_sub : (s11 : List (HloOp τ sig (Elt F))).Forall fun op => op.bufs ⊆ tcRefs τ sig :=
  ⟨nullary_bufs_sub .., binary_bufs_sub .., unary_bufs_sub .., unary_bufs_sub .., binary_bufs_sub ..⟩
/-- Segment 11 takes no fresh buffers. -/
theorem s11_fresh : (s11 : List (HloOp τ sig (Elt F))).Forall fun op => op.fresh = ∅ :=
  ⟨rfl, rfl, rfl, rfl, rfl⟩
/-- Segment 11 writes the listed buffers only. -/
theorem s11_writes : (s11 : List (HloOp τ sig (Elt F))).Forall fun op => op.writes ⊆ (s11W.map (Proc.devRef (τ := τ) .tc)).toFinset := by
  simp only [List.Forall]
  refine ⟨?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 11 does not write keeps its contents. -/
theorem s11_keep (V : Valuation τ sig (Elt F)) (r : Ref sig .tc) (h : r ∉ s11W) : after s11 V (Proc.devRef .tc r) = V (Proc.devRef .tc r) :=
  after_of_writes_sub s11 V s11_writes h

set_option maxHeartbeats 4000000 in
/-- Segment 11 leaves the softmax. -/
theorem s11_v59 (V : Valuation τ sig (Elt F)) :
    after s11 V (Proc.devRef .tc main_v59) = softOf (V (Proc.devRef .tc main_v55)) := by
  simp only [s11, TRef.nullary, TRef.unary, TRef.binary, TRef.ternary, TRef.quaternary, TRef.reshape, TRef.toBuf, TRef.ofBuf, cast_eq]
  after_results_simp
  all_goals rfl

/-- Operations of segment 12. -/
abbrev s12 : List (HloOp τ sig (Elt F)) :=
  [ unary main_v18 main_v60 ((extui 32 · natLt_1_32) : (⟨S64x100000, .i1⟩ : BufTy).Contents (Elt F) → (⟨S64x100000, .i32⟩ : BufTy).Contents (Elt F)),
    nullary main_c_17 (constantI S_ 32 0#32),
    binary main_v60 main_c_17 main_v61 ((fun x v => Host.reduce IntOp.addi x v reducesTo_S64x100000_S64_d1 h_S_) : (⟨S64x100000, .i32⟩ : BufTy).Contents (Elt F) → (⟨S_, .i32⟩ : BufTy).Contents (Elt F) → (⟨S64, .i32⟩ : BufTy).Contents (Elt F)),
    unary main_v61 main_v62 (broadcastInDim S64x1 ![0] bcast_S64_S64x1_0 : (⟨S64, .i32⟩ : BufTy).Contents (Elt F) → (⟨S64x1, .i32⟩ : BufTy).Contents (Elt F)),
    nullary main_c_18 (constantI S_ 32 1#32),
    unary main_c_18 main_v63 (broadcastInDim S64x1 ![] bcast_S_S64x1 : (⟨S_, .i32⟩ : BufTy).Contents (Elt F) → (⟨S64x1, .i32⟩ : BufTy).Contents (Elt F)),
    binary main_v62 main_v63 main_v64 (maxsi : (⟨S64x1, .i32⟩ : BufTy).Contents (Elt F) → (⟨S64x1, .i32⟩ : BufTy).Contents (Elt F) → (⟨S64x1, .i32⟩ : BufTy).Contents (Elt F)),
    unary main_v18 main_v65 (uitofp .f32 : (⟨S64x100000, .i1⟩ : BufTy).Contents (Elt F) → (⟨S64x100000, .f32⟩ : BufTy).Contents (Elt F)),
    unary main_v64 main_v66 (sitofp .f32 : (⟨S64x1, .i32⟩ : BufTy).Contents (Elt F) → (⟨S64x1, .f32⟩ : BufTy).Contents (Elt F)),
    unary main_v66 main_v67 (broadcastInDim S64x100000 ![0, 1] bcast_S64x1_S64x100000_0_1 : (⟨S64x1, .f32⟩ : BufTy).Contents (Elt F) → (⟨S64x100000, .f32⟩ : BufTy).Contents (Elt F)),
    binary main_v65 main_v67 main_v68 (Host.divf : (⟨S64x100000, .f32⟩ : BufTy).Contents (Elt F) → (⟨S64x100000, .f32⟩ : BufTy).Contents (Elt F) → (⟨S64x100000, .f32⟩ : BufTy).Contents (Elt F)) ]

/-- The buffers segment 12 writes. -/
abbrev s12W : List (Ref sig .tc) := [main_v60, main_c_17, main_v61, main_v62, main_c_18, main_v63, main_v64, main_v65, main_v66, main_v67, main_v68]

/-- Segment 12 touches host buffers only. -/
theorem s12_sub : (s12 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., unary_bufs_sub .., unary_bufs_sub .., unary_bufs_sub .., binary_bufs_sub ..⟩
/-- Segment 12 takes no fresh buffers. -/
theorem s12_fresh : (s12 : List (HloOp τ sig (Elt F))).Forall fun op => op.fresh = ∅ :=
  ⟨rfl, rfl, rfl, rfl, rfl, rfl, rfl, rfl, rfl, rfl, rfl⟩
/-- Segment 12 writes the listed buffers only. -/
theorem s12_writes : (s12 : List (HloOp τ sig (Elt F))).Forall fun op => op.writes ⊆ (s12W.map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 12 does not write keeps its contents. -/
theorem s12_keep (V : Valuation τ sig (Elt F)) (r : Ref sig .tc) (h : r ∉ s12W) : after s12 V (Proc.devRef .tc r) = V (Proc.devRef .tc r) :=
  after_of_writes_sub s12 V s12_writes h

set_option maxHeartbeats 4000000 in
/-- Segment 12 leaves the uniform distribution over the allowed objects. -/
theorem s12_v68 (V : Valuation τ sig (Elt F)) :
    after s12 V (Proc.devRef .tc main_v68) = unifOf (V (Proc.devRef .tc main_v18)) := by
  simp only [s12, TRef.nullary, TRef.unary, TRef.binary, TRef.ternary, TRef.quaternary, TRef.reshape, TRef.toBuf, TRef.ofBuf, cast_eq]
  after_results_simp
  all_goals rfl

/-- Operations of segment 13. -/
abbrev s13 : List (HloOp τ sig (Elt F)) :=
  [ nullary main_cst_19 (constant S_ .f32 0x3F800000#32),
    binary main_cst_19 main_arg4 main_v69 (subf : (⟨S_, .f32⟩ : BufTy).Contents (Elt F) → (⟨S_, .f32⟩ : BufTy).Contents (Elt F) → (⟨S_, .f32⟩ : BufTy).Contents (Elt F)),
    unary main_v69 main_v70 (broadcastInDim S64x100000 ![] bcast_S_S64x100000 : (⟨S_, .f32⟩ : BufTy).Contents (Elt F) → (⟨S64x100000, .f32⟩ : BufTy).Contents (Elt F)),
    binary main_v70 main_v59 main_v71 (mulf : (⟨S64x100000, .f32⟩ : BufTy).Contents (Elt F) → (⟨S64x100000, .f32⟩ : BufTy).Contents (Elt F) → (⟨S64x100000, .f32⟩ : BufTy).Contents (Elt F)),
    unary main_arg4 main_v72 (broadcastInDim S64x100000 ![] bcast_S_S64x100000 : (⟨S_, .f32⟩ : BufTy).Contents (Elt F) → (⟨S64x100000, .f32⟩ : BufTy).Contents (Elt F)),
    binary main_v72 main_v68 main_v73 (mulf : (⟨S64x100000, .f32⟩ : BufTy).Contents (Elt F) → (⟨S64x100000, .f32⟩ : BufTy).Contents (Elt F) → (⟨S64x100000, .f32⟩ : BufTy).Contents (Elt F)),
    binary main_v71 main_v73 main_v74 (addf : (⟨S64x100000, .f32⟩ : BufTy).Contents (Elt F) → (⟨S64x100000, .f32⟩ : BufTy).Contents (Elt F) → (⟨S64x100000, .f32⟩ : BufTy).Contents (Elt F)),
    nullary main_cst_20 (constant S_ .f32 0x2B8CBCCC#32),
    unary main_cst_20 main_v75 (broadcastInDim S64x100000 ![] bcast_S_S64x100000 : (⟨S_, .f32⟩ : BufTy).Contents (Elt F) → (⟨S64x100000, .f32⟩ : BufTy).Contents (Elt F)),
    binary main_v74 main_v75 main_v76 (addf : (⟨S64x100000, .f32⟩ : BufTy).Contents (Elt F) → (⟨S64x100000, .f32⟩ : BufTy).Contents (Elt F) → (⟨S64x100000, .f32⟩ : BufTy).Contents (Elt F)),
    unary main_v76 main_v77 (Host.log : (⟨S64x100000, .f32⟩ : BufTy).Contents (Elt F) → (⟨S64x100000, .f32⟩ : BufTy).Contents (Elt F)) ]

/-- The buffers segment 13 writes. -/
abbrev s13W : List (Ref sig .tc) := [main_cst_19, main_v69, main_v70, main_v71, main_v72, main_v73, main_v74, main_cst_20, main_v75, main_v76, main_v77]

/-- Segment 13 touches host buffers only. -/
theorem s13_sub : (s13 : List (HloOp τ sig (Elt F))).Forall fun op => op.bufs ⊆ tcRefs τ sig :=
  ⟨nullary_bufs_sub .., binary_bufs_sub .., unary_bufs_sub .., binary_bufs_sub .., unary_bufs_sub .., binary_bufs_sub .., binary_bufs_sub .., nullary_bufs_sub .., unary_bufs_sub .., binary_bufs_sub .., unary_bufs_sub ..⟩
/-- Segment 13 takes no fresh buffers. -/
theorem s13_fresh : (s13 : List (HloOp τ sig (Elt F))).Forall fun op => op.fresh = ∅ :=
  ⟨rfl, rfl, rfl, rfl, rfl, rfl, rfl, rfl, rfl, rfl, rfl⟩
/-- Segment 13 writes the listed buffers only. -/
theorem s13_writes : (s13 : List (HloOp τ sig (Elt F))).Forall fun op => op.writes ⊆ (s13W.map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 13 does not write keeps its contents. -/
theorem s13_keep (V : Valuation τ sig (Elt F)) (r : Ref sig .tc) (h : r ∉ s13W) : after s13 V (Proc.devRef .tc r) = V (Proc.devRef .tc r) :=
  after_of_writes_sub s13 V s13_writes h

set_option maxHeartbeats 4000000 in
/-- Segment 13 leaves the logarithms of the mixed probabilities. -/
theorem s13_v77 (V : Valuation τ sig (Elt F)) :
    after s13 V (Proc.devRef .tc main_v77) = logpOf (V (Proc.devRef .tc main_arg4)) (V (Proc.devRef .tc main_v59)) (V (Proc.devRef .tc main_v68)) := by
  simp only [s13, TRef.nullary, TRef.unary, TRef.binary, TRef.ternary, TRef.quaternary, TRef.reshape, TRef.toBuf, TRef.ofBuf, cast_eq]
  after_results_simp
  all_goals rfl

/-- Operations of segment 14. -/
abbrev s14 : List (HloOp τ sig (Elt F)) :=
  [ binary main_v77 main_arg3 main_v78 (addf : (⟨S64x100000, .f32⟩ : BufTy).Contents (Elt F) → (⟨S64x100000, .f32⟩ : BufTy).Contents (Elt F) → (⟨S64x100000, .f32⟩ : BufTy).Contents (Elt F)),
    TRef.nullary (.of (T := ⟨S64x100000, .i32⟩) main_call6_v0) (iotaInDim S64x100000 32 1),
    TRef.nullary (.of (T := ⟨S_, .f32⟩) main_call6_cst) (constant S_ .f32 0xFF800000#32),
    TRef.nullary (.of (T := ⟨S_, .i32⟩) main_call6_c) (constantI S_ 32 0#32),
    TRef.quaternary (.of (T := ⟨S64x100000, .f32⟩) main_v78) (.of (T := ⟨S64x100000, .i32⟩) main_call6_v0) (.of (T := ⟨S_, .f32⟩) main_call6_cst) (.of (T := ⟨S_, .i32⟩) main_call6_c) (.of (T := ⟨S64, .f32⟩) main_call6_v1_0) (fun x y u v j => (Host.argReduce reducer_argmax_f32_i32 x y u v reducesTo_S64x100000_S64_d1 h_S_ j).1),
    TRef.quaternary (.of (T := ⟨S64x100000, .f32⟩) main_v78) (.of (T := ⟨S64x100000, .i32⟩) main_call6_v0) (.of (T := ⟨S_, .f32⟩) main_call6_cst) (.of (T := ⟨S_, .i32⟩) main_call6_c) (.of (T := ⟨S64, .i32⟩) main_v79) (fun x y u v j => (Host.argReduce reducer_argmax_f32_i32 x y u v reducesTo_S64x100000_S64_d1 h_S_ j).2) ]

/-- The buffers segment 14 writes. -/
abbrev s14W : List (Ref sig .tc) := [main_v78, main_call6_v0, main_call6_cst, main_call6_c, main_call6_v1_0, main_v79]

/-- Segment 14 touches host buffers only. -/
theorem s14_sub : (s14 : List (HloOp τ sig (Elt F))).Forall fun op => op.bufs ⊆ tcRefs τ sig :=
  ⟨binary_bufs_sub .., nullary_bufs_sub .., nullary_bufs_sub .., nullary_bufs_sub .., quaternary_bufs_sub .., quaternary_bufs_sub ..⟩
/-- Segment 14 takes no fresh buffers. -/
theorem s14_fresh : (s14 : List (HloOp τ sig (Elt F))).Forall fun op => op.fresh = ∅ :=
  ⟨rfl, rfl, rfl, rfl, rfl, rfl⟩
/-- Segment 14 writes the listed buffers only. -/
theorem s14_writes : (s14 : List (HloOp τ sig (Elt F))).Forall fun op => op.writes ⊆ (s14W.map (Proc.devRef (τ := τ) .tc)).toFinset := by
  simp only [List.Forall]
  refine ⟨?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 14 does not write keeps its contents. -/
theorem s14_keep (V : Valuation τ sig (Elt F)) (r : Ref sig .tc) (h : r ∉ s14W) : after s14 V (Proc.devRef .tc r) = V (Proc.devRef .tc r) :=
  after_of_writes_sub s14 V s14_writes h

set_option maxHeartbeats 4000000 in
/-- Segment 14 leaves the column of the largest score. -/
theorem s14_v79 (V : Valuation τ sig (Elt F)) :
    after s14 V (Proc.devRef .tc main_v79) = pickOf (V (Proc.devRef .tc main_arg3)) (V (Proc.devRef .tc main_v77)) := by
  simp only [s14, TRef.nullary, TRef.unary, TRef.binary, TRef.ternary, TRef.quaternary, TRef.reshape, TRef.toBuf, TRef.ofBuf, cast_eq]
  after_results_simp
  all_goals rfl

/-- Operations of segment 15. -/
abbrev s15 : List (HloOp τ sig (Elt F)) :=
  [ unary main_v79 main_v80 (broadcastInDim S64x1 ![0] bcast_S64_S64x1_0 : (⟨S64, .i32⟩ : BufTy).Contents (Elt F) → (⟨S64x1, .i32⟩ : BufTy).Contents (Elt F)),
    TRef.nullary (.of (T := ⟨S_, .i32⟩) main_call7_c) (constantI S_ 32 0#32),
    TRef.unary (.of (T := ⟨S_, .i32⟩) main_call7_c) (.of (T := ⟨S64x1, .i32⟩) main_call7_v0) (broadcastInDim S64x1 ![] bcast_S_S64x1),
    TRef.binary (.of (T := ⟨S64x1, .i32⟩) main_v80) (.of (T := ⟨S64x1, .i32⟩) main_call7_v0) (.of (T := ⟨S64x1, .i1⟩) main_call7_v1) (cmpi .slt),
    TRef.nullary (.of (T := ⟨S_, .i32⟩) main_call7_c_0) (constantI S_ 32 100000#32),
    TRef.unary (.of (T := ⟨S_, .i32⟩) main_call7_c_0) (.of (T := ⟨S64x1, .i32⟩) main_call7_v2) (broadcastInDim S64x1 ![] bcast_S_S64x1),
    TRef.binary (.of (T := ⟨S64x1, .i32⟩) main_v80) (.of (T := ⟨S64x1, .i32⟩) main_call7_v2) (.of (T := ⟨S64x1, .i32⟩) main_call7_v3) addi,
    TRef.ternary (.of (T := ⟨S64x1, .i1⟩) main_call7_v1) (.of (T := ⟨S64x1, .i32⟩) main_call7_v3) (.of (T := ⟨S64x1, .i32⟩) main_v80) (.of (T := ⟨S64x1, .i32⟩) main_call7_v4) select,
    TRef.reshape (.of (T := ⟨S64x1, .i32⟩) main_call7_v4) (.of (T := ⟨S64x1x1, .i32⟩) main_call7_v5) (rfl : (.i32 : EltTy) = .i32) shapeCasts_S64x1_S64x1x1,
    TRef.nullary (.of (T := ⟨S1, .i32⟩) main_call7_c_1) (constantI S1 32 99999#32),
    TRef.nullary (.of (T := ⟨S_, .i32⟩) main_call7_c_2) (constantI S_ 32 0#32),
    TRef.unary (.of (T := ⟨S_, .i32⟩) main_call7_c_2) (.of (T := ⟨S64x1x1, .i32⟩) main_call7_v6) (broadcastInDim S64x1x1 ![] bcast_S_S64x1x1),
    TRef.binary (.of (T := ⟨S64x1x1, .i32⟩) main_call7_v5) (.of (T := ⟨S64x1x1, .i32⟩) main_call7_v6) (.of (T := ⟨S64x1x1, .i1⟩) main_call7_v7) (cmpi .sge),
    TRef.unary (.of (T := ⟨S1, .i32⟩) main_call7_c_1) (.of (T := ⟨S1x1x1, .i32⟩) main_call7_v8) (broadcastInDim S1x1x1 ![2] bcast_S1_S1x1x1_2),
    TRef.unary (.of (T := ⟨S1x1x1, .i32⟩) main_call7_v8) (.of (T := ⟨S64x1x1, .i32⟩) main_call7_v9) (broadcastInDim S64x1x1 ![0, 1, 2] bcast_S1x1x1_S64x1x1_0_1_2),
    TRef.binary (.of (T := ⟨S64x1x1, .i32⟩) main_call7_v5) (.of (T := ⟨S64x1x1, .i32⟩) main_call7_v9) (.of (T := ⟨S64x1x1, .i1⟩) main_call7_v10) (cmpi .sle),
    TRef.binary (.of (T := ⟨S64x1x1, .i1⟩) main_call7_v7) (.of (T := ⟨S64x1x1, .i1⟩) main_call7_v10) (.of (T := ⟨S64x1x1, .i1⟩) main_call7_v11) andi,
    TRef.nullary (.of (T := ⟨S_, .i1⟩) main_call7_c_3) (constantI S_ 1 1#1),
    TRef.binary (.of (T := ⟨S64x1x1, .i1⟩) main_call7_v11) (.of (T := ⟨S_, .i1⟩) main_call7_c_3) (.of (T := ⟨S64x1, .i1⟩) main_call7_v12) (fun x v => Host.reduce IntOp.andi x v reducesTo_S64x1x1_S64x1_d2 h_S_),
    TRef.binary (.of (T := ⟨S64x100000, .f32⟩) main_v77) (.of (T := ⟨S64x1x1, .i32⟩) main_call7_v5) (.of (T := ⟨S64x1, .f32⟩) main_call7_v13) (fun x i => Host.gather gather_S64x100000_S64x1x1_S64x1_n_1_0_0_1_2_11 x i),
    TRef.nullary (.of (T := ⟨S_, .f32⟩) main_call7_cst) (constant S_ .f32 0x7FC00000#32),
    TRef.unary (.of (T := ⟨S_, .f32⟩) main_call7_cst) (.of (T := ⟨S64x1, .f32⟩) main_call7_v14) (broadcastInDim S64x1 ![] bcast_S_S64x1),
    TRef.ternary (.of (T := ⟨S64x1, .i1⟩) main_call7_v12) (.of (T := ⟨S64x1, .f32⟩) main_call7_v13) (.of (T := ⟨S64x1, .f32⟩) main_call7_v14) (.of (T := ⟨S64x1, .f32⟩) main_v81) select,
    reshape main_v81 main_v82 (rfl : (.f32 : EltTy) = .f32) shapeCasts_S64x1_S64 ]

/-- The buffers segment 15 writes. -/
abbrev s15W : List (Ref sig .tc) := [main_v80, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v81, main_v82]

/-- Segment 15 touches host buffers only. -/
theorem s15_sub : (s15 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩
/-- Segment 15 takes no fresh buffers. -/
theorem s15_fresh : (s15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- Segment 15 writes the listed buffers only. -/
theorem s15_writes : (s15 : List (HloOp τ sig (Elt F))).Forall fun op => op.writes ⊆ (s15W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- A buffer segment 15 does not write keeps its contents. -/
theorem s15_keep (V : Valuation τ sig (Elt F)) (r : Ref sig .tc) (h : r ∉ s15W) : after s15 V (Proc.devRef .tc r) = V (Proc.devRef .tc r) :=
  after_of_writes_sub s15 V s15_writes h

set_option maxHeartbeats 4000000 in
/-- Segment 15 leaves the log-probability at the chosen column. -/
theorem s15_v82 (V : Valuation τ sig (Elt F)) :
    after s15 V (Proc.devRef .tc main_v82) = takeOf (V (Proc.devRef .tc main_v77)) (V (Proc.devRef .tc main_v79)) := by
  simp only [s15, TRef.nullary, TRef.unary, TRef.binary, TRef.ternary, TRef.quaternary, TRef.reshape, TRef.toBuf, TRef.ofBuf, cast_eq]
  after_results_simp
  all_goals rfl

/-- The operations of the first half. -/
def half0 : List (HloOp τ sig (Elt F)) := s1 ++ (s2 ++ (s3 ++ (s4 ++ (s5 ++ (s6 ++ (s7 ++ (s8)))))))
/-- The operations of the second half. -/
def half1 : List (HloOp τ sig (Elt F)) := s9 ++ (s10 ++ (s11 ++ (s12 ++ (s13 ++ (s14 ++ (s15))))))
/-- All of them. -/
abbrev ops : List (HloOp τ sig (Elt F)) := half0 ++ half1

set_option maxHeartbeats 4000000 in
/-- The program's first half is the first half's operations in order. -/
theorem main_part0_eq (c : Dev nD) : main_part0 (F := F) c = seq half0 := rfl
set_option maxHeartbeats 4000000 in
/-- The program's second half is the second half's operations in order. -/
theorem main_part1_eq (c : Dev nD) : main_part1 (F := F) c = seq half1 := rfl
/-- The program is its operations in order. -/
theorem main_eq (c : Dev nD) : main (F := F) c = seq ops := by
  simp only [ops, seq_append, ← main_part0_eq c, ← main_part1_eq c]
  rfl
/-- No buffer is scoped. -/
theorem no_scopedRefs : (Finset.univ.filter fun b : Ref sig .tc => b.isScoped) = ∅ := by decide
/-- No semaphore is scoped. -/
theorem no_scopedSems : (Finset.univ.filter fun sm : SemLoc sig => sm.isScoped .tc) = ∅ := by decide

/-- The operations touch host buffers only. -/
theorem ops_sub : (ops : List (HloOp τ sig (Elt F))).Forall fun op => op.bufs ⊆ tcRefs τ sig :=
  List.forall_iff_forall_mem.mpr fun op h => by
    simp only [ops, half0, half1, List.mem_append, or_assoc] at h
    rcases h with h | h | h | h | h | h | h | h | h | h | h | h | h | h | h
    exacts [List.forall_iff_forall_mem.mp s1_sub op h, List.forall_iff_forall_mem.mp s2_sub op h, List.forall_iff_forall_mem.mp s3_sub op h, List.forall_iff_forall_mem.mp s4_sub op h, List.forall_iff_forall_mem.mp s5_sub op h, List.forall_iff_forall_mem.mp s6_sub op h, List.forall_iff_forall_mem.mp s7_sub op h, List.forall_iff_forall_mem.mp s8_sub op h, List.forall_iff_forall_mem.mp s9_sub op h, List.forall_iff_forall_mem.mp s10_sub op h, List.forall_iff_forall_mem.mp s11_sub op h, List.forall_iff_forall_mem.mp s12_sub op h, List.forall_iff_forall_mem.mp s13_sub op h, List.forall_iff_forall_mem.mp s14_sub op h, List.forall_iff_forall_mem.mp s15_sub op h]
/-- The operations take no fresh buffers. -/
theorem ops_fresh : ∀ op ∈ (ops : List (HloOp τ sig (Elt F))), op.fresh = ∅ := fun op h => by
    simp only [ops, half0, half1, List.mem_append, or_assoc] at h
    rcases h with h | h | h | h | h | h | h | h | h | h | h | h | h | h | h
    exacts [List.forall_iff_forall_mem.mp s1_fresh op h, List.forall_iff_forall_mem.mp s2_fresh op h, List.forall_iff_forall_mem.mp s3_fresh op h, List.forall_iff_forall_mem.mp s4_fresh op h, List.forall_iff_forall_mem.mp s5_fresh op h, List.forall_iff_forall_mem.mp s6_fresh op h, List.forall_iff_forall_mem.mp s7_fresh op h, List.forall_iff_forall_mem.mp s8_fresh op h, List.forall_iff_forall_mem.mp s9_fresh op h, List.forall_iff_forall_mem.mp s10_fresh op h, List.forall_iff_forall_mem.mp s11_fresh op h, List.forall_iff_forall_mem.mp s12_fresh op h, List.forall_iff_forall_mem.mp s13_fresh op h, List.forall_iff_forall_mem.mp s14_fresh op h, List.forall_iff_forall_mem.mp s15_fresh op h]

/-- The reference’s objects each row may choose, from the contents it starts from. -/
def R_v18 (V : Valuation τ sig (Elt F)) : Vec F S64x100000 .i1 := maskOf (V (Proc.devRef .tc main_arg2)) (V (Proc.devRef .tc main_arg5))
/-- The reference’s offset of every object from the row’s previous one, from the contents it starts from. -/
def R_v24 (V : Valuation τ sig (Elt F)) : Vec F S64x100000x3 .f32 := diffOf (V (Proc.devRef .tc main_arg1)) (V (Proc.devRef .tc main_arg5))
/-- The reference’s distances, from the contents it starts from. -/
def R_v25 (V : Valuation τ sig (Elt F)) : Vec F S64x100000 .f32 := normOf (R_v24 V)
/-- The reference’s which distances are zero, from the contents it starts from. -/
def R_v27 (V : Valuation τ sig (Elt F)) : Vec F S64x100000 .i1 := zeroOf (R_v25 V)
/-- The reference’s distances, with ones at the zeros, from the contents it starts from. -/
def R_v28 (V : Valuation τ sig (Elt F)) : Vec F S64x100000 .f32 := safeOf (R_v25 V)
/-- The reference’s inverse squared distances of the allowed objects, from the contents it starts from. -/
def R_v34 (V : Valuation τ sig (Elt F)) : Vec F S64x100000 .f32 := weightOf (R_v18 V) (R_v27 V) (R_v28 V)
/-- The reference’s weights, ones in a row where all of them vanish, from the contents it starts from. -/
def R_v39 (V : Valuation τ sig (Elt F)) : Vec F S64x100000 .f32 := filledOf (R_v34 V)
/-- The reference’s weights as shares of their row’s sum, from the contents it starts from. -/
def R_v43 (V : Valuation τ sig (Elt F)) : Vec F S64x100000 .f32 := shareOf (R_v39 V)
/-- The reference’s small constant everywhere, from the contents it starts from. -/
def R_v44 (V : Valuation τ sig (Elt F)) : Vec F S64x100000 .f32 := tinyOf
/-- The reference’s weighted logits, minus infinity where masked, from the contents it starts from. -/
def R_v48 (V : Valuation τ sig (Elt F)) : Vec F S64x100000 .f32 := maskedOf (V (Proc.devRef .tc main_arg0)) (R_v18 V) (R_v43 V) (R_v44 V)
/-- The reference’s exponentials of the logits below their row’s maximum, from the contents it starts from. -/
def R_v55 (V : Valuation τ sig (Elt F)) : Vec F S64x100000 .f32 := expOf (R_v48 V)
/-- The reference’s softmax, from the contents it starts from. -/
def R_v59 (V : Valuation τ sig (Elt F)) : Vec F S64x100000 .f32 := softOf (R_v55 V)
/-- The reference’s uniform distribution over the allowed objects, from the contents it starts from. -/
def R_v68 (V : Valuation τ sig (Elt F)) : Vec F S64x100000 .f32 := unifOf (R_v18 V)
/-- The reference’s logarithms of the mixed probabilities, from the contents it starts from. -/
def R_v77 (V : Valuation τ sig (Elt F)) : Vec F S64x100000 .f32 := logpOf (V (Proc.devRef .tc main_arg4)) (R_v59 V) (R_v68 V)
/-- The reference’s column of the largest score, from the contents it starts from. -/
def R_v79 (V : Valuation τ sig (Elt F)) : Vec F S64 .i32 := pickOf (V (Proc.devRef .tc main_arg3)) (R_v77 V)
/-- The reference’s log-probability at the chosen column, from the contents it starts from. -/
def R_v82 (V : Valuation τ sig (Elt F)) : Vec F S64 .f32 := takeOf (R_v77 V) (R_v79 V)

/-- The contents before any segment. -/
def st0 (V : Valuation τ sig (Elt F)) : Valuation τ sig (Elt F) := V
/-- The contents after 1 segments. -/
def st1 (V : Valuation τ sig (Elt F)) : Valuation τ sig (Elt F) := after s1 (st0 V)
/-- The contents after 2 segments. -/
def st2 (V : Valuation τ sig (Elt F)) : Valuation τ sig (Elt F) := after s2 (st1 V)
/-- The contents after 3 segments. -/
def st3 (V : Valuation τ sig (Elt F)) : Valuation τ sig (Elt F) := after s3 (st2 V)
/-- The contents after 4 segments. -/
def st4 (V : Valuation τ sig (Elt F)) : Valuation τ sig (Elt F) := after s4 (st3 V)
/-- The contents after 5 segments. -/
def st5 (V : Valuation τ sig (Elt F)) : Valuation τ sig (Elt F) := after s5 (st4 V)
/-- The contents after 6 segments. -/
def st6 (V : Valuation τ sig (Elt F)) : Valuation τ sig (Elt F) := after s6 (st5 V)
/-- The contents after 7 segments. -/
def st7 (V : Valuation τ sig (Elt F)) : Valuation τ sig (Elt F) := after s7 (st6 V)
/-- The contents after 8 segments. -/
def st8 (V : Valuation τ sig (Elt F)) : Valuation τ sig (Elt F) := after s8 (st7 V)
/-- The contents after 9 segments. -/
def st9 (V : Valuation τ sig (Elt F)) : Valuation τ sig (Elt F) := after s9 (st8 V)
/-- The contents after 10 segments. -/
def st10 (V : Valuation τ sig (Elt F)) : Valuation τ sig (Elt F) := after s10 (st9 V)
/-- The contents after 11 segments. -/
def st11 (V : Valuation τ sig (Elt F)) : Valuation τ sig (Elt F) := after s11 (st10 V)
/-- The contents after 12 segments. -/
def st12 (V : Valuation τ sig (Elt F)) : Valuation τ sig (Elt F) := after s12 (st11 V)
/-- The contents after 13 segments. -/
def st13 (V : Valuation τ sig (Elt F)) : Valuation τ sig (Elt F) := after s13 (st12 V)
/-- The contents after 14 segments. -/
def st14 (V : Valuation τ sig (Elt F)) : Valuation τ sig (Elt F) := after s14 (st13 V)
/-- The contents after 15 segments. -/
def st15 (V : Valuation τ sig (Elt F)) : Valuation τ sig (Elt F) := after s15 (st14 V)
/-- After 0 segments the logits are unchanged. -/
theorem st0_lg (V : Valuation τ sig (Elt F)) : st0 V (Proc.devRef .tc main_arg0) = V (Proc.devRef .tc main_arg0) := rfl
/-- After 0 segments the centers are unchanged. -/
theorem st0_ce (V : Valuation τ sig (Elt F)) : st0 V (Proc.devRef .tc main_arg1) = V (Proc.devRef .tc main_arg1) := rfl
/-- After 0 segments the mask is unchanged. -/
theorem st0_mf (V : Valuation τ sig (Elt F)) : st0 V (Proc.devRef .tc main_arg2) = V (Proc.devRef .tc main_arg2) := rfl
/-- After 0 segments the draws are unchanged. -/
theorem st0_gm (V : Valuation τ sig (Elt F)) : st0 V (Proc.devRef .tc main_arg3) = V (Proc.devRef .tc main_arg3) := rfl
/-- After 0 segments the mixing weight is unchanged. -/
theorem st0_ep (V : Valuation τ sig (Elt F)) : st0 V (Proc.devRef .tc main_arg4) = V (Proc.devRef .tc main_arg4) := rfl
/-- After 0 segments the previous objects are unchanged. -/
theorem st0_pv (V : Valuation τ sig (Elt F)) : st0 V (Proc.devRef .tc main_arg5) = V (Proc.devRef .tc main_arg5) := rfl
/-- After 1 segment the logits are unchanged. -/
theorem st1_lg (V : Valuation τ sig (Elt F)) : st1 V (Proc.devRef .tc main_arg0) = V (Proc.devRef .tc main_arg0) :=
  (s1_keep (st0 V) main_arg0 (by decide)).trans (st0_lg V)
/-- After 1 segment the centers are unchanged. -/
theorem st1_ce (V : Valuation τ sig (Elt F)) : st1 V (Proc.devRef .tc main_arg1) = V (Proc.devRef .tc main_arg1) :=
  (s1_keep (st0 V) main_arg1 (by decide)).trans (st0_ce V)
/-- After 1 segment the mask is unchanged. -/
theorem st1_mf (V : Valuation τ sig (Elt F)) : st1 V (Proc.devRef .tc main_arg2) = V (Proc.devRef .tc main_arg2) :=
  (s1_keep (st0 V) main_arg2 (by decide)).trans (st0_mf V)
/-- After 1 segment the draws are unchanged. -/
theorem st1_gm (V : Valuation τ sig (Elt F)) : st1 V (Proc.devRef .tc main_arg3) = V (Proc.devRef .tc main_arg3) :=
  (s1_keep (st0 V) main_arg3 (by decide)).trans (st0_gm V)
/-- After 1 segment the mixing weight is unchanged. -/
theorem st1_ep (V : Valuation τ sig (Elt F)) : st1 V (Proc.devRef .tc main_arg4) = V (Proc.devRef .tc main_arg4) :=
  (s1_keep (st0 V) main_arg4 (by decide)).trans (st0_ep V)
/-- After 1 segment the previous objects are unchanged. -/
theorem st1_pv (V : Valuation τ sig (Elt F)) : st1 V (Proc.devRef .tc main_arg5) = V (Proc.devRef .tc main_arg5) :=
  (s1_keep (st0 V) main_arg5 (by decide)).trans (st0_pv V)
/-- After 1 segment the buffer of `v18` holds `R_v18`: objects each row may choose. -/
theorem st1_v18 (V : Valuation τ sig (Elt F)) : st1 V (Proc.devRef .tc main_v18) = R_v18 V := by
  unfold st1
  rw [s1_v18, st0_mf, st0_pv]
  rfl
/-- After 2 segments the logits are unchanged. -/
theorem st2_lg (V : Valuation τ sig (Elt F)) : st2 V (Proc.devRef .tc main_arg0) = V (Proc.devRef .tc main_arg0) :=
  (s2_keep (st1 V) main_arg0 (by decide)).trans (st1_lg V)
/-- After 2 segments the centers are unchanged. -/
theorem st2_ce (V : Valuation τ sig (Elt F)) : st2 V (Proc.devRef .tc main_arg1) = V (Proc.devRef .tc main_arg1) :=
  (s2_keep (st1 V) main_arg1 (by decide)).trans (st1_ce V)
/-- After 2 segments the mask is unchanged. -/
theorem st2_mf (V : Valuation τ sig (Elt F)) : st2 V (Proc.devRef .tc main_arg2) = V (Proc.devRef .tc main_arg2) :=
  (s2_keep (st1 V) main_arg2 (by decide)).trans (st1_mf V)
/-- After 2 segments the draws are unchanged. -/
theorem st2_gm (V : Valuation τ sig (Elt F)) : st2 V (Proc.devRef .tc main_arg3) = V (Proc.devRef .tc main_arg3) :=
  (s2_keep (st1 V) main_arg3 (by decide)).trans (st1_gm V)
/-- After 2 segments the mixing weight is unchanged. -/
theorem st2_ep (V : Valuation τ sig (Elt F)) : st2 V (Proc.devRef .tc main_arg4) = V (Proc.devRef .tc main_arg4) :=
  (s2_keep (st1 V) main_arg4 (by decide)).trans (st1_ep V)
/-- After 2 segments the previous objects are unchanged. -/
theorem st2_pv (V : Valuation τ sig (Elt F)) : st2 V (Proc.devRef .tc main_arg5) = V (Proc.devRef .tc main_arg5) :=
  (s2_keep (st1 V) main_arg5 (by decide)).trans (st1_pv V)
/-- After 2 segments the buffer of `v18` holds `R_v18`: objects each row may choose. -/
theorem st2_v18 (V : Valuation τ sig (Elt F)) : st2 V (Proc.devRef .tc main_v18) = R_v18 V := by
  exact (s2_keep (st1 V) main_v18 (by decide)).trans (st1_v18 V)
/-- After 2 segments the buffer of `v24` holds `R_v24`: offset of every object from the row’s previous one. -/
theorem st2_v24 (V : Valuation τ sig (Elt F)) : st2 V (Proc.devRef .tc main_v24) = R_v24 V := by
  unfold st2
  rw [s2_v24, st1_ce, st1_pv]
  rfl
/-- After 3 segments the logits are unchanged. -/
theorem st3_lg (V : Valuation τ sig (Elt F)) : st3 V (Proc.devRef .tc main_arg0) = V (Proc.devRef .tc main_arg0) :=
  (s3_keep (st2 V) main_arg0 (by decide)).trans (st2_lg V)
/-- After 3 segments the centers are unchanged. -/
theorem st3_ce (V : Valuation τ sig (Elt F)) : st3 V (Proc.devRef .tc main_arg1) = V (Proc.devRef .tc main_arg1) :=
  (s3_keep (st2 V) main_arg1 (by decide)).trans (st2_ce V)
/-- After 3 segments the mask is unchanged. -/
theorem st3_mf (V : Valuation τ sig (Elt F)) : st3 V (Proc.devRef .tc main_arg2) = V (Proc.devRef .tc main_arg2) :=
  (s3_keep (st2 V) main_arg2 (by decide)).trans (st2_mf V)
/-- After 3 segments the draws are unchanged. -/
theorem st3_gm (V : Valuation τ sig (Elt F)) : st3 V (Proc.devRef .tc main_arg3) = V (Proc.devRef .tc main_arg3) :=
  (s3_keep (st2 V) main_arg3 (by decide)).trans (st2_gm V)
/-- After 3 segments the mixing weight is unchanged. -/
theorem st3_ep (V : Valuation τ sig (Elt F)) : st3 V (Proc.devRef .tc main_arg4) = V (Proc.devRef .tc main_arg4) :=
  (s3_keep (st2 V) main_arg4 (by decide)).trans (st2_ep V)
/-- After 3 segments the previous objects are unchanged. -/
theorem st3_pv (V : Valuation τ sig (Elt F)) : st3 V (Proc.devRef .tc main_arg5) = V (Proc.devRef .tc main_arg5) :=
  (s3_keep (st2 V) main_arg5 (by decide)).trans (st2_pv V)
/-- After 3 segments the buffer of `v18` holds `R_v18`: objects each row may choose. -/
theorem st3_v18 (V : Valuation τ sig (Elt F)) : st3 V (Proc.devRef .tc main_v18) = R_v18 V := by
  exact (s3_keep (st2 V) main_v18 (by decide)).trans (st2_v18 V)
/-- After 3 segments the buffer of `v25` holds `R_v25`: distances. -/
theorem st3_v25 (V : Valuation τ sig (Elt F)) : st3 V (Proc.devRef .tc main_v25) = R_v25 V := by
  unfold st3
  rw [s3_v25, st2_v24]
  rfl
/-- After 4 segments the logits are unchanged. -/
theorem st4_lg (V : Valuation τ sig (Elt F)) : st4 V (Proc.devRef .tc main_arg0) = V (Proc.devRef .tc main_arg0) :=
  (s4_keep (st3 V) main_arg0 (by decide)).trans (st3_lg V)
/-- After 4 segments the centers are unchanged. -/
theorem st4_ce (V : Valuation τ sig (Elt F)) : st4 V (Proc.devRef .tc main_arg1) = V (Proc.devRef .tc main_arg1) :=
  (s4_keep (st3 V) main_arg1 (by decide)).trans (st3_ce V)
/-- After 4 segments the mask is unchanged. -/
theorem st4_mf (V : Valuation τ sig (Elt F)) : st4 V (Proc.devRef .tc main_arg2) = V (Proc.devRef .tc main_arg2) :=
  (s4_keep (st3 V) main_arg2 (by decide)).trans (st3_mf V)
/-- After 4 segments the draws are unchanged. -/
theorem st4_gm (V : Valuation τ sig (Elt F)) : st4 V (Proc.devRef .tc main_arg3) = V (Proc.devRef .tc main_arg3) :=
  (s4_keep (st3 V) main_arg3 (by decide)).trans (st3_gm V)
/-- After 4 segments the mixing weight is unchanged. -/
theorem st4_ep (V : Valuation τ sig (Elt F)) : st4 V (Proc.devRef .tc main_arg4) = V (Proc.devRef .tc main_arg4) :=
  (s4_keep (st3 V) main_arg4 (by decide)).trans (st3_ep V)
/-- After 4 segments the previous objects are unchanged. -/
theorem st4_pv (V : Valuation τ sig (Elt F)) : st4 V (Proc.devRef .tc main_arg5) = V (Proc.devRef .tc main_arg5) :=
  (s4_keep (st3 V) main_arg5 (by decide)).trans (st3_pv V)
/-- After 4 segments the buffer of `v18` holds `R_v18`: objects each row may choose. -/
theorem st4_v18 (V : Valuation τ sig (Elt F)) : st4 V (Proc.devRef .tc main_v18) = R_v18 V := by
  exact (s4_keep (st3 V) main_v18 (by decide)).trans (st3_v18 V)
/-- After 4 segments the buffer of `v27` holds `R_v27`: which distances are zero. -/
theorem st4_v27 (V : Valuation τ sig (Elt F)) : st4 V (Proc.devRef .tc main_v27) = R_v27 V := by
  unfold st4
  rw [s4_v27, st3_v25]
  rfl
/-- After 4 segments the buffer of `v28` holds `R_v28`: distances, with ones at the zeros. -/
theorem st4_v28 (V : Valuation τ sig (Elt F)) : st4 V (Proc.devRef .tc main_v28) = R_v28 V := by
  unfold st4
  rw [s4_v28, st3_v25]
  rfl
/-- After 5 segments the logits are unchanged. -/
theorem st5_lg (V : Valuation τ sig (Elt F)) : st5 V (Proc.devRef .tc main_arg0) = V (Proc.devRef .tc main_arg0) :=
  (s5_keep (st4 V) main_arg0 (by decide)).trans (st4_lg V)
/-- After 5 segments the centers are unchanged. -/
theorem st5_ce (V : Valuation τ sig (Elt F)) : st5 V (Proc.devRef .tc main_arg1) = V (Proc.devRef .tc main_arg1) :=
  (s5_keep (st4 V) main_arg1 (by decide)).trans (st4_ce V)
/-- After 5 segments the mask is unchanged. -/
theorem st5_mf (V : Valuation τ sig (Elt F)) : st5 V (Proc.devRef .tc main_arg2) = V (Proc.devRef .tc main_arg2) :=
  (s5_keep (st4 V) main_arg2 (by decide)).trans (st4_mf V)
/-- After 5 segments the draws are unchanged. -/
theorem st5_gm (V : Valuation τ sig (Elt F)) : st5 V (Proc.devRef .tc main_arg3) = V (Proc.devRef .tc main_arg3) :=
  (s5_keep (st4 V) main_arg3 (by decide)).trans (st4_gm V)
/-- After 5 segments the mixing weight is unchanged. -/
theorem st5_ep (V : Valuation τ sig (Elt F)) : st5 V (Proc.devRef .tc main_arg4) = V (Proc.devRef .tc main_arg4) :=
  (s5_keep (st4 V) main_arg4 (by decide)).trans (st4_ep V)
/-- After 5 segments the previous objects are unchanged. -/
theorem st5_pv (V : Valuation τ sig (Elt F)) : st5 V (Proc.devRef .tc main_arg5) = V (Proc.devRef .tc main_arg5) :=
  (s5_keep (st4 V) main_arg5 (by decide)).trans (st4_pv V)
/-- After 5 segments the buffer of `v18` holds `R_v18`: objects each row may choose. -/
theorem st5_v18 (V : Valuation τ sig (Elt F)) : st5 V (Proc.devRef .tc main_v18) = R_v18 V := by
  exact (s5_keep (st4 V) main_v18 (by decide)).trans (st4_v18 V)
/-- After 5 segments the buffer of `v34` holds `R_v34`: inverse squared distances of the allowed objects. -/
theorem st5_v34 (V : Valuation τ sig (Elt F)) : st5 V (Proc.devRef .tc main_v34) = R_v34 V := by
  unfold st5
  rw [s5_v34, st4_v18, st4_v27, st4_v28]
  rfl
/-- After 6 segments the logits are unchanged. -/
theorem st6_lg (V : Valuation τ sig (Elt F)) : st6 V (Proc.devRef .tc main_arg0) = V (Proc.devRef .tc main_arg0) :=
  (s6_keep (st5 V) main_arg0 (by decide)).trans (st5_lg V)
/-- After 6 segments the centers are unchanged. -/
theorem st6_ce (V : Valuation τ sig (Elt F)) : st6 V (Proc.devRef .tc main_arg1) = V (Proc.devRef .tc main_arg1) :=
  (s6_keep (st5 V) main_arg1 (by decide)).trans (st5_ce V)
/-- After 6 segments the mask is unchanged. -/
theorem st6_mf (V : Valuation τ sig (Elt F)) : st6 V (Proc.devRef .tc main_arg2) = V (Proc.devRef .tc main_arg2) :=
  (s6_keep (st5 V) main_arg2 (by decide)).trans (st5_mf V)
/-- After 6 segments the draws are unchanged. -/
theorem st6_gm (V : Valuation τ sig (Elt F)) : st6 V (Proc.devRef .tc main_arg3) = V (Proc.devRef .tc main_arg3) :=
  (s6_keep (st5 V) main_arg3 (by decide)).trans (st5_gm V)
/-- After 6 segments the mixing weight is unchanged. -/
theorem st6_ep (V : Valuation τ sig (Elt F)) : st6 V (Proc.devRef .tc main_arg4) = V (Proc.devRef .tc main_arg4) :=
  (s6_keep (st5 V) main_arg4 (by decide)).trans (st5_ep V)
/-- After 6 segments the previous objects are unchanged. -/
theorem st6_pv (V : Valuation τ sig (Elt F)) : st6 V (Proc.devRef .tc main_arg5) = V (Proc.devRef .tc main_arg5) :=
  (s6_keep (st5 V) main_arg5 (by decide)).trans (st5_pv V)
/-- After 6 segments the buffer of `v18` holds `R_v18`: objects each row may choose. -/
theorem st6_v18 (V : Valuation τ sig (Elt F)) : st6 V (Proc.devRef .tc main_v18) = R_v18 V := by
  exact (s6_keep (st5 V) main_v18 (by decide)).trans (st5_v18 V)
/-- After 6 segments the buffer of `v39` holds `R_v39`: weights, ones in a row where all of them vanish. -/
theorem st6_v39 (V : Valuation τ sig (Elt F)) : st6 V (Proc.devRef .tc main_v39) = R_v39 V := by
  unfold st6
  rw [s6_v39, st5_v34]
  rfl
/-- After 7 segments the logits are unchanged. -/
theorem st7_lg (V : Valuation τ sig (Elt F)) : st7 V (Proc.devRef .tc main_arg0) = V (Proc.devRef .tc main_arg0) :=
  (s7_keep (st6 V) main_arg0 (by decide)).trans (st6_lg V)
/-- After 7 segments the centers are unchanged. -/
theorem st7_ce (V : Valuation τ sig (Elt F)) : st7 V (Proc.devRef .tc main_arg1) = V (Proc.devRef .tc main_arg1) :=
  (s7_keep (st6 V) main_arg1 (by decide)).trans (st6_ce V)
/-- After 7 segments the mask is unchanged. -/
theorem st7_mf (V : Valuation τ sig (Elt F)) : st7 V (Proc.devRef .tc main_arg2) = V (Proc.devRef .tc main_arg2) :=
  (s7_keep (st6 V) main_arg2 (by decide)).trans (st6_mf V)
/-- After 7 segments the draws are unchanged. -/
theorem st7_gm (V : Valuation τ sig (Elt F)) : st7 V (Proc.devRef .tc main_arg3) = V (Proc.devRef .tc main_arg3) :=
  (s7_keep (st6 V) main_arg3 (by decide)).trans (st6_gm V)
/-- After 7 segments the mixing weight is unchanged. -/
theorem st7_ep (V : Valuation τ sig (Elt F)) : st7 V (Proc.devRef .tc main_arg4) = V (Proc.devRef .tc main_arg4) :=
  (s7_keep (st6 V) main_arg4 (by decide)).trans (st6_ep V)
/-- After 7 segments the previous objects are unchanged. -/
theorem st7_pv (V : Valuation τ sig (Elt F)) : st7 V (Proc.devRef .tc main_arg5) = V (Proc.devRef .tc main_arg5) :=
  (s7_keep (st6 V) main_arg5 (by decide)).trans (st6_pv V)
/-- After 7 segments the buffer of `v18` holds `R_v18`: objects each row may choose. -/
theorem st7_v18 (V : Valuation τ sig (Elt F)) : st7 V (Proc.devRef .tc main_v18) = R_v18 V := by
  exact (s7_keep (st6 V) main_v18 (by decide)).trans (st6_v18 V)
/-- After 7 segments the buffer of `v43` holds `R_v43`: weights as shares of their row’s sum. -/
theorem st7_v43 (V : Valuation τ sig (Elt F)) : st7 V (Proc.devRef .tc main_v43) = R_v43 V := by
  unfold st7
  rw [s7_v43, st6_v39]
  rfl
/-- After 8 segments the logits are unchanged. -/
theorem st8_lg (V : Valuation τ sig (Elt F)) : st8 V (Proc.devRef .tc main_arg0) = V (Proc.devRef .tc main_arg0) :=
  (s8_keep (st7 V) main_arg0 (by decide)).trans (st7_lg V)
/-- After 8 segments the centers are unchanged. -/
theorem st8_ce (V : Valuation τ sig (Elt F)) : st8 V (Proc.devRef .tc main_arg1) = V (Proc.devRef .tc main_arg1) :=
  (s8_keep (st7 V) main_arg1 (by decide)).trans (st7_ce V)
/-- After 8 segments the mask is unchanged. -/
theorem st8_mf (V : Valuation τ sig (Elt F)) : st8 V (Proc.devRef .tc main_arg2) = V (Proc.devRef .tc main_arg2) :=
  (s8_keep (st7 V) main_arg2 (by decide)).trans (st7_mf V)
/-- After 8 segments the draws are unchanged. -/
theorem st8_gm (V : Valuation τ sig (Elt F)) : st8 V (Proc.devRef .tc main_arg3) = V (Proc.devRef .tc main_arg3) :=
  (s8_keep (st7 V) main_arg3 (by decide)).trans (st7_gm V)
/-- After 8 segments the mixing weight is unchanged. -/
theorem st8_ep (V : Valuation τ sig (Elt F)) : st8 V (Proc.devRef .tc main_arg4) = V (Proc.devRef .tc main_arg4) :=
  (s8_keep (st7 V) main_arg4 (by decide)).trans (st7_ep V)
/-- After 8 segments the previous objects are unchanged. -/
theorem st8_pv (V : Valuation τ sig (Elt F)) : st8 V (Proc.devRef .tc main_arg5) = V (Proc.devRef .tc main_arg5) :=
  (s8_keep (st7 V) main_arg5 (by decide)).trans (st7_pv V)
/-- After 8 segments the buffer of `v18` holds `R_v18`: objects each row may choose. -/
theorem st8_v18 (V : Valuation τ sig (Elt F)) : st8 V (Proc.devRef .tc main_v18) = R_v18 V := by
  exact (s8_keep (st7 V) main_v18 (by decide)).trans (st7_v18 V)
/-- After 8 segments the buffer of `v43` holds `R_v43`: weights as shares of their row’s sum. -/
theorem st8_v43 (V : Valuation τ sig (Elt F)) : st8 V (Proc.devRef .tc main_v43) = R_v43 V := by
  exact (s8_keep (st7 V) main_v43 (by decide)).trans (st7_v43 V)
/-- After 8 segments the buffer of `v44` holds `R_v44`: small constant everywhere. -/
theorem st8_v44 (V : Valuation τ sig (Elt F)) : st8 V (Proc.devRef .tc main_v44) = R_v44 V := by
  unfold st8
  rw [s8_v44]
  rfl
/-- After 9 segments the logits are unchanged. -/
theorem st9_lg (V : Valuation τ sig (Elt F)) : st9 V (Proc.devRef .tc main_arg0) = V (Proc.devRef .tc main_arg0) :=
  (s9_keep (st8 V) main_arg0 (by decide)).trans (st8_lg V)
/-- After 9 segments the centers are unchanged. -/
theorem st9_ce (V : Valuation τ sig (Elt F)) : st9 V (Proc.devRef .tc main_arg1) = V (Proc.devRef .tc main_arg1) :=
  (s9_keep (st8 V) main_arg1 (by decide)).trans (st8_ce V)
/-- After 9 segments the mask is unchanged. -/
theorem st9_mf (V : Valuation τ sig (Elt F)) : st9 V (Proc.devRef .tc main_arg2) = V (Proc.devRef .tc main_arg2) :=
  (s9_keep (st8 V) main_arg2 (by decide)).trans (st8_mf V)
/-- After 9 segments the draws are unchanged. -/
theorem st9_gm (V : Valuation τ sig (Elt F)) : st9 V (Proc.devRef .tc main_arg3) = V (Proc.devRef .tc main_arg3) :=
  (s9_keep (st8 V) main_arg3 (by decide)).trans (st8_gm V)
/-- After 9 segments the mixing weight is unchanged. -/
theorem st9_ep (V : Valuation τ sig (Elt F)) : st9 V (Proc.devRef .tc main_arg4) = V (Proc.devRef .tc main_arg4) :=
  (s9_keep (st8 V) main_arg4 (by decide)).trans (st8_ep V)
/-- After 9 segments the previous objects are unchanged. -/
theorem st9_pv (V : Valuation τ sig (Elt F)) : st9 V (Proc.devRef .tc main_arg5) = V (Proc.devRef .tc main_arg5) :=
  (s9_keep (st8 V) main_arg5 (by decide)).trans (st8_pv V)
/-- After 9 segments the buffer of `v18` holds `R_v18`: objects each row may choose. -/
theorem st9_v18 (V : Valuation τ sig (Elt F)) : st9 V (Proc.devRef .tc main_v18) = R_v18 V := by
  exact (s9_keep (st8 V) main_v18 (by decide)).trans (st8_v18 V)
/-- After 9 segments the buffer of `v48` holds `R_v48`: weighted logits, minus infinity where masked. -/
theorem st9_v48 (V : Valuation τ sig (Elt F)) : st9 V (Proc.devRef .tc main_v48) = R_v48 V := by
  unfold st9
  rw [s9_v48, st8_lg, st8_v18, st8_v43, st8_v44]
  rfl
/-- After 10 segments the logits are unchanged. -/
theorem st10_lg (V : Valuation τ sig (Elt F)) : st10 V (Proc.devRef .tc main_arg0) = V (Proc.devRef .tc main_arg0) :=
  (s10_keep (st9 V) main_arg0 (by decide)).trans (st9_lg V)
/-- After 10 segments the centers are unchanged. -/
theorem st10_ce (V : Valuation τ sig (Elt F)) : st10 V (Proc.devRef .tc main_arg1) = V (Proc.devRef .tc main_arg1) :=
  (s10_keep (st9 V) main_arg1 (by decide)).trans (st9_ce V)
/-- After 10 segments the mask is unchanged. -/
theorem st10_mf (V : Valuation τ sig (Elt F)) : st10 V (Proc.devRef .tc main_arg2) = V (Proc.devRef .tc main_arg2) :=
  (s10_keep (st9 V) main_arg2 (by decide)).trans (st9_mf V)
/-- After 10 segments the draws are unchanged. -/
theorem st10_gm (V : Valuation τ sig (Elt F)) : st10 V (Proc.devRef .tc main_arg3) = V (Proc.devRef .tc main_arg3) :=
  (s10_keep (st9 V) main_arg3 (by decide)).trans (st9_gm V)
/-- After 10 segments the mixing weight is unchanged. -/
theorem st10_ep (V : Valuation τ sig (Elt F)) : st10 V (Proc.devRef .tc main_arg4) = V (Proc.devRef .tc main_arg4) :=
  (s10_keep (st9 V) main_arg4 (by decide)).trans (st9_ep V)
/-- After 10 segments the previous objects are unchanged. -/
theorem st10_pv (V : Valuation τ sig (Elt F)) : st10 V (Proc.devRef .tc main_arg5) = V (Proc.devRef .tc main_arg5) :=
  (s10_keep (st9 V) main_arg5 (by decide)).trans (st9_pv V)
/-- After 10 segments the buffer of `v18` holds `R_v18`: objects each row may choose. -/
theorem st10_v18 (V : Valuation τ sig (Elt F)) : st10 V (Proc.devRef .tc main_v18) = R_v18 V := by
  exact (s10_keep (st9 V) main_v18 (by decide)).trans (st9_v18 V)
/-- After 10 segments the buffer of `v55` holds `R_v55`: exponentials of the logits below their row’s maximum. -/
theorem st10_v55 (V : Valuation τ sig (Elt F)) : st10 V (Proc.devRef .tc main_v55) = R_v55 V := by
  unfold st10
  rw [s10_v55, st9_v48]
  rfl
/-- After 11 segments the logits are unchanged. -/
theorem st11_lg (V : Valuation τ sig (Elt F)) : st11 V (Proc.devRef .tc main_arg0) = V (Proc.devRef .tc main_arg0) :=
  (s11_keep (st10 V) main_arg0 (by decide)).trans (st10_lg V)
/-- After 11 segments the centers are unchanged. -/
theorem st11_ce (V : Valuation τ sig (Elt F)) : st11 V (Proc.devRef .tc main_arg1) = V (Proc.devRef .tc main_arg1) :=
  (s11_keep (st10 V) main_arg1 (by decide)).trans (st10_ce V)
/-- After 11 segments the mask is unchanged. -/
theorem st11_mf (V : Valuation τ sig (Elt F)) : st11 V (Proc.devRef .tc main_arg2) = V (Proc.devRef .tc main_arg2) :=
  (s11_keep (st10 V) main_arg2 (by decide)).trans (st10_mf V)
/-- After 11 segments the draws are unchanged. -/
theorem st11_gm (V : Valuation τ sig (Elt F)) : st11 V (Proc.devRef .tc main_arg3) = V (Proc.devRef .tc main_arg3) :=
  (s11_keep (st10 V) main_arg3 (by decide)).trans (st10_gm V)
/-- After 11 segments the mixing weight is unchanged. -/
theorem st11_ep (V : Valuation τ sig (Elt F)) : st11 V (Proc.devRef .tc main_arg4) = V (Proc.devRef .tc main_arg4) :=
  (s11_keep (st10 V) main_arg4 (by decide)).trans (st10_ep V)
/-- After 11 segments the previous objects are unchanged. -/
theorem st11_pv (V : Valuation τ sig (Elt F)) : st11 V (Proc.devRef .tc main_arg5) = V (Proc.devRef .tc main_arg5) :=
  (s11_keep (st10 V) main_arg5 (by decide)).trans (st10_pv V)
/-- After 11 segments the buffer of `v18` holds `R_v18`: objects each row may choose. -/
theorem st11_v18 (V : Valuation τ sig (Elt F)) : st11 V (Proc.devRef .tc main_v18) = R_v18 V := by
  exact (s11_keep (st10 V) main_v18 (by decide)).trans (st10_v18 V)
/-- After 11 segments the buffer of `v59` holds `R_v59`: softmax. -/
theorem st11_v59 (V : Valuation τ sig (Elt F)) : st11 V (Proc.devRef .tc main_v59) = R_v59 V := by
  unfold st11
  rw [s11_v59, st10_v55]
  rfl
/-- After 12 segments the logits are unchanged. -/
theorem st12_lg (V : Valuation τ sig (Elt F)) : st12 V (Proc.devRef .tc main_arg0) = V (Proc.devRef .tc main_arg0) :=
  (s12_keep (st11 V) main_arg0 (by decide)).trans (st11_lg V)
/-- After 12 segments the centers are unchanged. -/
theorem st12_ce (V : Valuation τ sig (Elt F)) : st12 V (Proc.devRef .tc main_arg1) = V (Proc.devRef .tc main_arg1) :=
  (s12_keep (st11 V) main_arg1 (by decide)).trans (st11_ce V)
/-- After 12 segments the mask is unchanged. -/
theorem st12_mf (V : Valuation τ sig (Elt F)) : st12 V (Proc.devRef .tc main_arg2) = V (Proc.devRef .tc main_arg2) :=
  (s12_keep (st11 V) main_arg2 (by decide)).trans (st11_mf V)
/-- After 12 segments the draws are unchanged. -/
theorem st12_gm (V : Valuation τ sig (Elt F)) : st12 V (Proc.devRef .tc main_arg3) = V (Proc.devRef .tc main_arg3) :=
  (s12_keep (st11 V) main_arg3 (by decide)).trans (st11_gm V)
/-- After 12 segments the mixing weight is unchanged. -/
theorem st12_ep (V : Valuation τ sig (Elt F)) : st12 V (Proc.devRef .tc main_arg4) = V (Proc.devRef .tc main_arg4) :=
  (s12_keep (st11 V) main_arg4 (by decide)).trans (st11_ep V)
/-- After 12 segments the previous objects are unchanged. -/
theorem st12_pv (V : Valuation τ sig (Elt F)) : st12 V (Proc.devRef .tc main_arg5) = V (Proc.devRef .tc main_arg5) :=
  (s12_keep (st11 V) main_arg5 (by decide)).trans (st11_pv V)
/-- After 12 segments the buffer of `v59` holds `R_v59`: softmax. -/
theorem st12_v59 (V : Valuation τ sig (Elt F)) : st12 V (Proc.devRef .tc main_v59) = R_v59 V := by
  exact (s12_keep (st11 V) main_v59 (by decide)).trans (st11_v59 V)
/-- After 12 segments the buffer of `v68` holds `R_v68`: uniform distribution over the allowed objects. -/
theorem st12_v68 (V : Valuation τ sig (Elt F)) : st12 V (Proc.devRef .tc main_v68) = R_v68 V := by
  unfold st12
  rw [s12_v68, st11_v18]
  rfl
/-- After 13 segments the logits are unchanged. -/
theorem st13_lg (V : Valuation τ sig (Elt F)) : st13 V (Proc.devRef .tc main_arg0) = V (Proc.devRef .tc main_arg0) :=
  (s13_keep (st12 V) main_arg0 (by decide)).trans (st12_lg V)
/-- After 13 segments the centers are unchanged. -/
theorem st13_ce (V : Valuation τ sig (Elt F)) : st13 V (Proc.devRef .tc main_arg1) = V (Proc.devRef .tc main_arg1) :=
  (s13_keep (st12 V) main_arg1 (by decide)).trans (st12_ce V)
/-- After 13 segments the mask is unchanged. -/
theorem st13_mf (V : Valuation τ sig (Elt F)) : st13 V (Proc.devRef .tc main_arg2) = V (Proc.devRef .tc main_arg2) :=
  (s13_keep (st12 V) main_arg2 (by decide)).trans (st12_mf V)
/-- After 13 segments the draws are unchanged. -/
theorem st13_gm (V : Valuation τ sig (Elt F)) : st13 V (Proc.devRef .tc main_arg3) = V (Proc.devRef .tc main_arg3) :=
  (s13_keep (st12 V) main_arg3 (by decide)).trans (st12_gm V)
/-- After 13 segments the mixing weight is unchanged. -/
theorem st13_ep (V : Valuation τ sig (Elt F)) : st13 V (Proc.devRef .tc main_arg4) = V (Proc.devRef .tc main_arg4) :=
  (s13_keep (st12 V) main_arg4 (by decide)).trans (st12_ep V)
/-- After 13 segments the previous objects are unchanged. -/
theorem st13_pv (V : Valuation τ sig (Elt F)) : st13 V (Proc.devRef .tc main_arg5) = V (Proc.devRef .tc main_arg5) :=
  (s13_keep (st12 V) main_arg5 (by decide)).trans (st12_pv V)
/-- After 13 segments the buffer of `v77` holds `R_v77`: logarithms of the mixed probabilities. -/
theorem st13_v77 (V : Valuation τ sig (Elt F)) : st13 V (Proc.devRef .tc main_v77) = R_v77 V := by
  unfold st13
  rw [s13_v77, st12_ep, st12_v59, st12_v68]
  rfl
/-- After 14 segments the logits are unchanged. -/
theorem st14_lg (V : Valuation τ sig (Elt F)) : st14 V (Proc.devRef .tc main_arg0) = V (Proc.devRef .tc main_arg0) :=
  (s14_keep (st13 V) main_arg0 (by decide)).trans (st13_lg V)
/-- After 14 segments the centers are unchanged. -/
theorem st14_ce (V : Valuation τ sig (Elt F)) : st14 V (Proc.devRef .tc main_arg1) = V (Proc.devRef .tc main_arg1) :=
  (s14_keep (st13 V) main_arg1 (by decide)).trans (st13_ce V)
/-- After 14 segments the mask is unchanged. -/
theorem st14_mf (V : Valuation τ sig (Elt F)) : st14 V (Proc.devRef .tc main_arg2) = V (Proc.devRef .tc main_arg2) :=
  (s14_keep (st13 V) main_arg2 (by decide)).trans (st13_mf V)
/-- After 14 segments the draws are unchanged. -/
theorem st14_gm (V : Valuation τ sig (Elt F)) : st14 V (Proc.devRef .tc main_arg3) = V (Proc.devRef .tc main_arg3) :=
  (s14_keep (st13 V) main_arg3 (by decide)).trans (st13_gm V)
/-- After 14 segments the mixing weight is unchanged. -/
theorem st14_ep (V : Valuation τ sig (Elt F)) : st14 V (Proc.devRef .tc main_arg4) = V (Proc.devRef .tc main_arg4) :=
  (s14_keep (st13 V) main_arg4 (by decide)).trans (st13_ep V)
/-- After 14 segments the previous objects are unchanged. -/
theorem st14_pv (V : Valuation τ sig (Elt F)) : st14 V (Proc.devRef .tc main_arg5) = V (Proc.devRef .tc main_arg5) :=
  (s14_keep (st13 V) main_arg5 (by decide)).trans (st13_pv V)
/-- After 14 segments the buffer of `v77` holds `R_v77`: logarithms of the mixed probabilities. -/
theorem st14_v77 (V : Valuation τ sig (Elt F)) : st14 V (Proc.devRef .tc main_v77) = R_v77 V := by
  exact (s14_keep (st13 V) main_v77 (by decide)).trans (st13_v77 V)
/-- After 14 segments the buffer of `v79` holds `R_v79`: column of the largest score. -/
theorem st14_v79 (V : Valuation τ sig (Elt F)) : st14 V (Proc.devRef .tc main_v79) = R_v79 V := by
  unfold st14
  rw [s14_v79, st13_gm, st13_v77]
  rfl
/-- After 15 segments the logits are unchanged. -/
theorem st15_lg (V : Valuation τ sig (Elt F)) : st15 V (Proc.devRef .tc main_arg0) = V (Proc.devRef .tc main_arg0) :=
  (s15_keep (st14 V) main_arg0 (by decide)).trans (st14_lg V)
/-- After 15 segments the centers are unchanged. -/
theorem st15_ce (V : Valuation τ sig (Elt F)) : st15 V (Proc.devRef .tc main_arg1) = V (Proc.devRef .tc main_arg1) :=
  (s15_keep (st14 V) main_arg1 (by decide)).trans (st14_ce V)
/-- After 15 segments the mask is unchanged. -/
theorem st15_mf (V : Valuation τ sig (Elt F)) : st15 V (Proc.devRef .tc main_arg2) = V (Proc.devRef .tc main_arg2) :=
  (s15_keep (st14 V) main_arg2 (by decide)).trans (st14_mf V)
/-- After 15 segments the draws are unchanged. -/
theorem st15_gm (V : Valuation τ sig (Elt F)) : st15 V (Proc.devRef .tc main_arg3) = V (Proc.devRef .tc main_arg3) :=
  (s15_keep (st14 V) main_arg3 (by decide)).trans (st14_gm V)
/-- After 15 segments the mixing weight is unchanged. -/
theorem st15_ep (V : Valuation τ sig (Elt F)) : st15 V (Proc.devRef .tc main_arg4) = V (Proc.devRef .tc main_arg4) :=
  (s15_keep (st14 V) main_arg4 (by decide)).trans (st14_ep V)
/-- After 15 segments the previous objects are unchanged. -/
theorem st15_pv (V : Valuation τ sig (Elt F)) : st15 V (Proc.devRef .tc main_arg5) = V (Proc.devRef .tc main_arg5) :=
  (s15_keep (st14 V) main_arg5 (by decide)).trans (st14_pv V)
/-- After 15 segments the buffer of `v79` holds `R_v79`: column of the largest score. -/
theorem st15_v79 (V : Valuation τ sig (Elt F)) : st15 V (Proc.devRef .tc main_v79) = R_v79 V := by
  exact (s15_keep (st14 V) main_v79 (by decide)).trans (st14_v79 V)
/-- After 15 segments the buffer of `v82` holds `R_v82`: log-probability at the chosen column. -/
theorem st15_v82 (V : Valuation τ sig (Elt F)) : st15 V (Proc.devRef .tc main_v82) = R_v82 V := by
  unfold st15
  rw [s15_v82, st14_v77, st14_v79]
  rfl

/-- The contents after all operations are those after the last segment. -/
theorem after_ops (V : Valuation τ sig (Elt F)) : after ops V = st15 V := by
  simp only [ops, half0, half1, after_append]
  rfl

/-- Every weakly fair execution of the reference ends with the two results at the composed functions of the arguments,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = R_v79 (launchContents m c)
      ∧ r.2.mem ((c.tc : Thread nD τ).loc main_v82) = R_v82 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v79).trans ((congrFun (after_ops (launchContents m c)) (Proc.devRef .tc main_v79)).trans (st15_v79 (launchContents m c))),
      (h c main_v82).trans ((congrFun (after_ops (launchContents m c)) (Proc.devRef .tc main_v82)).trans (st15_v82 (launchContents m c))),
      (h c main_arg0).trans ((congrFun (after_ops (launchContents m c)) (Proc.devRef .tc main_arg0)).trans (st15_lg (launchContents m c))),
      (h c main_arg1).trans ((congrFun (after_ops (launchContents m c)) (Proc.devRef .tc main_arg1)).trans (st15_ce (launchContents m c))),
      (h c main_arg2).trans ((congrFun (after_ops (launchContents m c)) (Proc.devRef .tc main_arg2)).trans (st15_mf (launchContents m c))),
      (h c main_arg3).trans ((congrFun (after_ops (launchContents m c)) (Proc.devRef .tc main_arg3)).trans (st15_gm (launchContents m c))),
      (h c main_arg4).trans ((congrFun (after_ops (launchContents m c)) (Proc.devRef .tc main_arg4)).trans (st15_ep (launchContents m c))),
      (h c main_arg5).trans ((congrFun (after_ops (launchContents m c)) (Proc.devRef .tc main_arg5)).trans (st15_pv (launchContents m c)))⟩)
    (run_seq no_scopedRefs no_scopedSems defs main (fun _ => ops) main_eq (fun _ => ops_sub) m ρ fun _ => ops_fresh)

end Cert.ReferenceIdeal.Hand

end
-- ==== Proof.Answer.lean ====
/-
  The answer: under the precondition every row has a winning column, and the reference returns the winners and their
  log-probabilities.
-/
module

public import proofs.«01_k».proof.Proof.PreRead
public import proofs.«01_k».proof.Proof.RefPick
public import proofs.«01_k».proof.Proof.RefRun

@[expose] public section

set_option maxRecDepth 16384

noncomputable section

namespace Cert.Spec

open Idealize.ShloMosaic

/-- A row whose draws stay below the cap, and whose largest score reaches what a switched-off column can, has a winner. -/
theorem winner (R : Row) (g : ℕ → EReal) (hg : ∀ n < 100000, g n ≤ cap) (hr : ∃ n < 100000, Ideal.log tiny + cap ≤ R.lp n + g n) : ∃ c, Win R g c := by
  classical
  have hs : ∀ n < 100000, R.sc g n = R.lp n + g n := fun n hn => by unfold Row.sc; rw [min_eq_left (hg n hn)]
  obtain ⟨r, hr1, hr2⟩ := hr
  obtain ⟨a, ha, hmax⟩ := Finset.exists_max_image (Finset.range 100000) (R.sc g) ⟨r, Finset.mem_range.2 hr1⟩
  obtain ⟨c, hc, hmin⟩ := Finset.exists_min_image ((Finset.range 100000).filter fun k => R.sc g k = R.sc g a) id ⟨a, Finset.mem_filter.2 ⟨ha, rfl⟩⟩
  obtain ⟨hc1, hc2⟩ := Finset.mem_filter.1 hc
  have hle : ∀ n < 100000, R.sc g n ≤ R.sc g c := fun n hn => hc2 ▸ hmax n (Finset.mem_range.2 hn)
  have htail : Ideal.log tiny + cap ≤ R.sc g c := (hr2.trans_eq (hs r hr1).symm).trans (hle r hr1)
  refine ⟨c, Finset.mem_range.1 hc1, hle, fun n hn => ?_, htail, ?_⟩
  · have hn' := hn.trans (Finset.mem_range.1 hc1)
    refine lt_of_le_of_ne (hle n hn') fun e => ?_
    exact absurd (hmin n (Finset.mem_filter.2 ⟨Finset.mem_range.2 hn', e.trans hc2⟩)) (not_le.mpr hn)
  · intro e
    rw [e, tiny_eq, cap_eq, log_real _ tau_pos, ← EReal.coe_add, le_bot_iff] at htail
    exact EReal.coe_ne_bot _ htail

end Cert.Spec

namespace Cert.ReferenceIdeal.Hand

open Cert.ReferenceIdeal Cert.ReferenceIdeal.Gen Cert.Spec Idealize.ShloMosaic Idealize.ShloMosaic.TcCoe Idealize.SL.Sem

attribute [local instance] Cert.Pre_playable.Hand.facts

variable (lg : FVec Ideal S64x100000 .f32) (ce : FVec Ideal S100000x3 .f32) (mf : FVec Ideal S100000 .f32) (gm : FVec Ideal S64x100000 .f32) (ep : FVec Ideal S_ .f32) (pv : IVec S64 32)

/-- The draws of row `b`. -/
def drawAt (b : Fin 64) : ℕ → EReal := pad fun n => gm (ix2 b n)

/-- Under the precondition every row has a winner. -/
theorem winners (h : Cert.Pre_playable.fn (F := Ideal) lg ce mf gm ep pv = fun _ => 1#1) :
    (∀ b, (pv (ix1 b)).toNat < 100000) ∧ (∀ b, (rowAt lg ce mf ep pv b).Fine) ∧ (∀ b n, gm (ix2 b n) ≤ cap)
      ∧ ∀ b, ∃ c, Win (rowAt lg ce mf ep pv b) (drawAt gm b) c := by
  obtain ⟨hpv, hfine, hcap, hreach⟩ := Cert.Pre_playable.Hand.read lg ce mf gm ep pv h
  refine ⟨hpv, hfine, hcap, fun b => winner _ _ ?_ ?_⟩
  · intro n hn
    unfold drawAt
    rw [pad_lt _ _ hn]
    exact hcap b _
  · obtain ⟨n, hn⟩ := hreach b
    refine ⟨n.val, n.isLt, ?_⟩
    rw [← logp_eq lg ce mf ep pv hpv b (hfine b) n]
    unfold drawAt
    rw [pad_fin]
    exact hn

variable (hpv : ∀ b, (pv (ix1 b)).toNat < 100000) (hfine : ∀ b, (rowAt lg ce mf ep pv b).Fine) (hcap : ∀ b n, gm (ix2 b n) ≤ cap)

include hpv hfine hcap

/-- The reference chooses the winner. -/
theorem pick_row (b : Fin 64) (c : ℕ) (hw : Win (rowAt lg ce mf ep pv b) (drawAt gm b) c) :
    pickOf (F := Ideal) gm (logps lg ce mf ep pv) (ix1 b) = BitVec.ofNat 32 c := by
  have hs : ∀ n : Fin 100000, (rowAt lg ce mf ep pv b).sc (drawAt gm b) n.val = logps lg ce mf ep pv (ix2 b n) + gm (ix2 b n) := fun n => by
    rw [logp_eq lg ce mf ep pv hpv b (hfine b) n]
    unfold Row.sc drawAt
    rw [pad_fin, min_eq_left (hcap b n)]
  refine pick_at gm (logps lg ce mf ep pv) b ⟨c, hw.lt⟩ (fun k => ?_) (fun k hk => ?_) ?_
  · rw [← hs, ← hs]; exact hw.le k.val k.isLt
  · rw [← hs, ← hs]; exact hw.first k.val hk
  · rw [← hs]; exact hw.ne

/-- The reference returns the winner's log-probability. -/
theorem take_row (b : Fin 64) (c : ℕ) (hw : Win (rowAt lg ce mf ep pv b) (drawAt gm b) c) :
    takeOf (F := Ideal) (logps lg ce mf ep pv) (pickOf (F := Ideal) gm (logps lg ce mf ep pv)) (ix1 b) = (rowAt lg ce mf ep pv b).lp c := by
  have hp := pick_row lg ce mf gm ep pv hpv hfine hcap b c hw
  have hn : (pickOf (F := Ideal) gm (logps lg ce mf ep pv) (ix1 b)).toNat = c := by
    rw [hp, BitVec.toNat_ofNat]
    exact Nat.mod_eq_of_lt (hw.lt.trans (by norm_num))
  generalize pickOf (F := Ideal) gm (logps lg ce mf ep pv) = p at hn ⊢
  rw [take_at _ p b (by rw [hn]; exact hw.lt), logp_eq lg ce mf ep pv hpv b (hfine b)]
  exact congrArg _ hn

omit hpv hfine hcap

/-- The reference's first result, from its inputs. -/
theorem v79_eq (V : Valuation τ sig (Elt Ideal)) :
    R_v79 V = pickOf (F := Ideal) (V (Proc.devRef .tc main_arg3)) (logps (V (Proc.devRef .tc main_arg0)) (V (Proc.devRef .tc main_arg1)) (V (Proc.devRef .tc main_arg2)) (V (Proc.devRef .tc main_arg4)) (V (Proc.devRef .tc main_arg5))) := rfl
/-- The reference's second result, from its inputs. -/
theorem v82_eq (V : Valuation τ sig (Elt Ideal)) :
    R_v82 V = takeOf (F := Ideal) (logps (V (Proc.devRef .tc main_arg0)) (V (Proc.devRef .tc main_arg1)) (V (Proc.devRef .tc main_arg2)) (V (Proc.devRef .tc main_arg4)) (V (Proc.devRef .tc main_arg5)))
      (pickOf (F := Ideal) (V (Proc.devRef .tc main_arg3)) (logps (V (Proc.devRef .tc main_arg0)) (V (Proc.devRef .tc main_arg1)) (V (Proc.devRef .tc main_arg2)) (V (Proc.devRef .tc main_arg4)) (V (Proc.devRef .tc main_arg5)))) := rfl

end Cert.ReferenceIdeal.Hand

end
-- ==== Proof.lean ====
/- The proof of the certificate's claims. -/
module

public import proofs.«01_k».proof.Defs
public import proofs.«01_k».proof.Proof.KernelFrame
public import proofs.«01_k».proof.Proof.Value
public import proofs.«01_k».proof.Proof.Answer
public import proofs.«01_k».proof.Proof.KernelIdealFrame
public import proofs.«01_k».proof.Proof.Gen.ReferenceIdeal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, leaves its arguments and ends quiescent. -/
theorem frame_kernel : Cert.quiescent_Kernel (hKernel := Cert.Kernel.Gen.facts) :=
  fun m g _ => Cert.Kernel.Hand.run_args m g

/-- So does its idealization. -/
theorem frame_kernelIdeal : Cert.quiescent_KernelIdeal (hKernelIdeal := Cert.KernelIdeal.Gen.facts) :=
  fun m g _ => Cert.KernelIdeal.Hand.run_args m g

/-- So does the reference. -/
theorem frame_referenceIdeal : Cert.quiescent_ReferenceIdeal (hReferenceIdeal := Cert.ReferenceIdeal.Gen.facts) := by
  intro m g _
  hlo_run
  · exact fun _ => ⟨trivial, trivial, trivial, trivial, trivial, trivial⟩
  · exact Idealize.ShloMosaic.sem_eq_zero_of_no_sems (sig := Cert.ReferenceIdeal.sig) (by decide) _

section Value

open Cert.Spec Cert.KernelIdeal.Hand

attribute [local instance] Cert.Pre_playable.Hand.facts

/-- From inputs the precondition admits, the kernel's idealization and the reference return the same columns and the same log-probabilities. -/
theorem algebraic : Cert.algebraic_KernelIdeal_ReferenceIdeal_pre_playable (hKernelIdeal := Cert.KernelIdeal.Gen.facts) (hReferenceIdeal := Cert.ReferenceIdeal.Gen.facts)
    (hPre_playable := Cert.Pre_playable.Hand.facts) := by
  intro m g m' g' hpre hin
  have hall := fun c => Cert.ReferenceIdeal.Hand.winners _ _ _ _ _ _ (hpre c)
  choose col hcol using fun c => (hall c).2.2.2
  refine ⟨fun c => (fun i => BitVec.ofNat 32 (col c (i 0)) : IVec Cert.ReferenceIdeal.S64 32), fun c => (fun i => (rowD m c (i 0)).lp (col c (i 0)) : FVec Ideal Cert.ReferenceIdeal.S64 .f32),
    run_results m g col (fun c b => (hall c).1 b) (fun c b => hcol c b), ?_⟩
  refine (θ_run _ _ _).mono (fun r h c => ?_) (Cert.ReferenceIdeal.Hand.run m' g')
  obtain ⟨h79, h82, hargs⟩ := h c
  obtain ⟨e0, e1, e2, e3, e4, e5⟩ := hin c
  obtain ⟨hpv, hfine, hcap, -⟩ := hall c
  refine ⟨h79.trans ?_, h82.trans ?_, hargs⟩
  · rw [Cert.ReferenceIdeal.Hand.v79_eq]
    funext i
    obtain ⟨b, rfl⟩ : ∃ b : Fin 64, i = ix1 b := ⟨i 0, by funext k; fin_cases k; rfl⟩
    have h := Cert.ReferenceIdeal.Hand.pick_row _ _ _ _ _ _ hpv hfine hcap b (col c b) (hcol c b)
    rw [← e0, ← e1, ← e2, ← e3, ← e4, ← e5] at h
    exact h
  · rw [Cert.ReferenceIdeal.Hand.v82_eq]
    funext i
    obtain ⟨b, rfl⟩ : ∃ b : Fin 64, i = ix1 b := ⟨i 0, by funext k; fin_cases k; rfl⟩
    have h := Cert.ReferenceIdeal.Hand.take_row _ _ _ _ _ _ hpv hfine hcap b (col c b) (hcol c b)
    have hr : Cert.ReferenceIdeal.Hand.rowAt _ _ _ _ _ b = rowD m c b := rfl
    rw [hr, ← e0, ← e1, ← e2, ← e3, ← e4, ← e5] at h
    exact h

end Value

theorem claim : Cert.Claim :=
  ⟨Cert.Kernel.Gen.facts, Cert.KernelIdeal.Gen.facts, Cert.ReferenceIdeal.Gen.facts, Cert.Pre_playable.Hand.facts,
    frame_kernel, frame_kernelIdeal, fun m g _ => Cert.KernelIdeal.Hand.run_args m g, frame_referenceIdeal, fun m g _ => frame_referenceIdeal m g trivial, trivial, algebraic⟩

end Cert.Proof

end
